-- ==== Defs.lean ====
def Pre_Kernel [hPre_dest_in_rows : Cert.Pre_dest_in_rows.Facts] (m : (ℓ : Loc Cert.Kernel.nD Cert.Kernel.τ Cert.Kernel.sig) → Buf (Elt Bits) ℓ) : Prop :=
  ∀ c : Dev Cert.Kernel.nD,
    (Cert.Pre_dest_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_dest_in_rows : Cert.Pre_dest_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_dest_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_dest_in_rows : Cert.Pre_dest_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_dest_in_rows : Cert.Pre_dest_in_rows.Facts] (m : (ℓ : Loc Cert.Reference.nD Cert.Reference.τ Cert.Reference.sig) → Buf (Elt Bits) ℓ) : Prop :=
  ∀ c : Dev Cert.Reference.nD,
    (Cert.Pre_dest_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_finite_scores : Cert.Pre_finite_scores.Facts] (m : (ℓ : Loc Cert.Kernel2.nD Cert.Kernel2.τ Cert.Kernel2.sig) → Buf (Elt Bits) ℓ) : Prop :=
  ∀ c : Dev Cert.Kernel2.nD,
    (Cert.Pre_finite_scores.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10))) = (fun _ => 1#1)

def Pre_Kernel2Ideal [hPre_finite_scores : Cert.Pre_finite_scores.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal [hPre_finite_scores : Cert.Pre_finite_scores.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_dest_in_rows : Cert.Pre_dest_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_dest_in_rows : Cert.Pre_dest_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_finite_scores : Cert.Pre_finite_scores.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] [hPre_finite_scores : Cert.Pre_finite_scores.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  IdealRules.named_const.Statement Cert.Kernel2Ideal.κ "mask" .f32 0xF149F2CA#32 ⊥

def algebraic_Kernel2Ideal_Reference2Ideal [hKernel2Ideal : Cert.Kernel2Ideal.Facts] [hReference2Ideal : Cert.Reference2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v115) = v1 c
          ∧ r.2.mem ((c.tc : Thread Cert.Reference2Ideal.nD Cert.Reference2Ideal.τ).loc Cert.Reference2Ideal.main_v126) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v125) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_dest_in_rows : Cert.Pre_dest_in_rows.Facts) (hPre_finite_scores : Cert.Pre_finite_scores.Facts),
    quiescent_Kernel (hKernel := hKernel) (hPre_dest_in_rows := hPre_dest_in_rows)
    ∧ quiescent_KernelIdeal (hKernelIdeal := hKernelIdeal) (hPre_dest_in_rows := hPre_dest_in_rows)
    ∧ quiescent_ReferenceIdeal (hReferenceIdeal := hReferenceIdeal) (hPre_dest_in_rows := hPre_dest_in_rows)
    ∧ quiescent_Reference (hReference := hReference) (hPre_dest_in_rows := hPre_dest_in_rows)
    ∧ quiescent_Kernel2 (hKernel2 := hKernel2) (hPre_finite_scores := hPre_finite_scores)
    ∧ quiescent_Kernel2Ideal (hKernel2Ideal := hKernel2Ideal) (hPre_finite_scores := hPre_finite_scores)
    ∧ quiescent_Reference2Ideal (hReference2Ideal := hReference2Ideal) (hPre_finite_scores := hPre_finite_scores)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_dest_in_rows := hPre_dest_in_rows)
    ∧ bitexact_Kernel_Reference (hKernel := hKernel) (hReference := hReference) (hPre_dest_in_rows := hPre_dest_in_rows)
    ∧ preserves_Kernel2_Kernel2Ideal
    ∧ algebraic_Kernel2Ideal_Reference2Ideal (hKernel2Ideal := hKernel2Ideal) (hReference2Ideal := hReference2Ideal) (hPre_finite_scores := hPre_finite_scores)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_dest_in_rows.lean ====
abbrev S48640x1024 : Shape := ⟨2, ![48640, 1024]⟩
abbrev S32768 : Shape := ⟨1, ![32768]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : FVec F S48640x1024 .f32) (main_arg1 : IVec S32768 32) : IVec S32768 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 48640#32
  let main_v2 : IVec S32768 32 := broadcastInDim S32768 ![] bcast_S_S32768 main_c_0
  let main_v3 : IVec S32768 1 := cmpi .slt main_arg1 main_v2
  let main_v4 : IVec S32768 1 := andi main_v1 main_v3
  main_v4
-- ==== Pre_finite_scores.lean ====
abbrev S8x4096x1024 : Shape := ⟨3, ![8, 4096, 1024]⟩
abbrev S8x1024x256 : Shape := ⟨3, ![8, 1024, 256]⟩
abbrev S8x256x1024 : Shape := ⟨3, ![8, 256, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  reducesTo_S8x4096x1024_S_d0_1_2 : S8x4096x1024.ReducesTo [0, 1, 2] S_
  h_S_ : 0 < S_.numel
  bitsLt_bf16_f32 : FTy.bits .bf16 < FTy.bits .f32
  reducesTo_S8x1024x256_S_d0_1_2 : S8x1024x256.ReducesTo [0, 1, 2] S_
  reducesTo_S1024_S_d0 : S1024.ReducesTo [0] S_
  reducesTo_S1024x1024_S_d0_1 : S1024x1024.ReducesTo [0, 1] S_

variable [Facts]

def fn {F : FTy → Type} [FloatOps F] (main_arg0 : FVec F S8x4096x1024 .f32) (main_arg1 : FVec F S8x1024x256 .bf16) (main_arg2 : FVec F S8x256x1024 .bf16) (main_arg3 : FVec F S1024 .f32) (main_arg4 : FVec F S1024x1024 .f32) (main_arg5 : FVec F S1024x1024 .f32) (main_arg6 : FVec F S1024 .f32) (main_arg7 : FVec F S1024x4 .f32) (main_arg8 : FVec F S4 .f32) (main_arg9 : FVec F S1024x32 .f32) (main_arg10 : FVec F S32 .f32) : IVec S_ 1 :=
  let main_v0 : FVec F S8x4096x1024 .f32 := Host.absf main_arg0
  let main_cst : FVec F S_ .f32 := constant S_ .f32 0xFF800000#32
  let main_v1 : FVec F S_ .f32 := (fun x v => Host.reduce FloatOps.maximumf x v reducesTo_S8x4096x1024_S_d0_1_2 h_S_) main_v0 main_cst
  let main_cst_0 : FVec F S_ .f32 := constant S_ .f32 0x7F800000#32
  let main_v2 : IVec S_ 1 := cmpf .olt main_v1 main_cst_0
  let main_v3 : FVec F S8x1024x256 .f32 := (extf .f32 · bitsLt_bf16_f32) main_arg1
  let main_v4 : FVec F S8x1024x256 .f32 := Host.absf main_v3
  let main_cst_1 : FVec F S_ .f32 := constant S_ .f32 0xFF800000#32
  let main_v5 : FVec F S_ .f32 := (fun x v => Host.reduce FloatOps.maximumf x v reducesTo_S8x1024x256_S_d0_1_2 h_S_) main_v4 main_cst_1
  let main_cst_2 : FVec F S_ .f32 := constant S_ .f32 0x7F800000#32
  let main_v6 : IVec S_ 1 := cmpf .olt main_v5 main_cst_2
  let main_v7 : IVec S_ 1 := andi main_v2 main_v6
  let main_v8 : FVec F S1024 .f32 := Host.absf main_arg3
  let main_cst_3 : FVec F S_ .f32 := constant S_ .f32 0xFF800000#32
  let main_v9 : FVec F S_ .f32 := (fun x v => Host.reduce FloatOps.maximumf x v reducesTo_S1024_S_d0 h_S_) main_v8 main_cst_3
  let main_cst_4 : FVec F S_ .f32 := constant S_ .f32 0x7F800000#32
  let main_v10 : IVec S_ 1 := cmpf .olt main_v9 main_cst_4
  let main_v11 : IVec S_ 1 := andi main_v7 main_v10
  let main_v12 : FVec F S1024x1024 .f32 := Host.absf main_arg4
  let main_cst_5 : FVec F S_ .f32 := constant S_ .f32 0xFF800000#32
  let main_v13 : FVec F S_ .f32 := (fun x v => Host.reduce FloatOps.maximumf x v reducesTo_S1024x1024_S_d0_1 h_S_) main_v12 main_cst_5
  let main_cst_6 : FVec F S_ .f32 := constant S_ .f32 0x7F800000#32
  let main_v14 : IVec S_ 1 := cmpf .olt main_v13 main_cst_6
  let main_v15 : IVec S_ 1 := andi main_v11 main_v14
  main_v15
-- ==== Kernel.lean ====
abbrev S48640x1024 : Shape := ⟨2, ![48640, 1024]⟩
abbrev S32768 : Shape := ⟨1, ![32768]⟩
abbrev S32768x1024 : Shape := ⟨2, ![32768, 1024]⟩
abbrev S1024 : Shape := ⟨1, ![1024]⟩
abbrev S16x1024 : Shape := ⟨2, ![16, 1024]⟩
abbrev S8 : Shape := ⟨1, ![8]⟩
abbrev S_ : Shape := ⟨0, ![]⟩
abbrev S16x128 : Shape := ⟨2, ![16, 128]⟩
abbrev S16 : Shape := ⟨1, ![16]⟩
abbrev S48640x128 : Shape := ⟨2, ![48640, 128]⟩
abbrev S1 : Shape := ⟨1, ![1]⟩

abbrev nBuf : Table → Nat
  | .hbm => 3
  | .local .scVector .vmem => 5
  | _ => 0

abbrev bufTy : (tb : Table) → Fin (nBuf tb) → BufTy
  | .hbm, ⟨0, _⟩ => ⟨S48640x1024, .f32⟩
  | .hbm, ⟨1, _⟩ => ⟨S32768, .i32⟩
  | .hbm, ⟨2, _⟩ => ⟨S32768x1024, .f32⟩
  | .local .scVector .vmem, ⟨0, _⟩ => ⟨S1024, .i32⟩
  | .local .scVector .vmem, ⟨1, _⟩ => ⟨S16x1024, .f32⟩
  | .local .scVector .vmem, ⟨2, _⟩ => ⟨S16x1024, .f32⟩
  | .local .scVector .vmem, ⟨3, _⟩ => ⟨S16x1024, .f32⟩
  | .local .scVector .vmem, ⟨4, _⟩ => ⟨S16x1024, .f32⟩
  | _, _ => ⟨S48640x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 37 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | _ => false

abbrev sig : RefSig :=
  ofTables nBuf rfl bufTy 4 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k0_t1_loop : Scf.Loop 32 :=
  let c0_i32_128 : BitVec 32 := 0#32
  let c16_i32_129 : BitVec 32 := 16#32
  let v123 : BitVec 32 := Scalar.addi c0_i32_128 c16_i32_129
  let c1_i32_130 : BitVec 32 := 1#32
  ⟨c0_i32_128, v123, c1_i32_130⟩
def k0_cond1 (k0_t1 : Fin k0_t1_loop.trips) : BitVec 1 :=
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c0_i32_136 : BitVec 32 := 0#32
  let v129 : BitVec 32 := Scalar.addi v128 c0_i32_136
  let c1_i32_137 : BitVec 32 := 1#32
  let v130 : BitVec 1 := Scalar.cmpi .sge v129 c1_i32_137
  let v131 : BitVec 32 := Scalar.extui v130
  let c0_i32_138 : BitVec 32 := 0#32
  let v132 : BitVec 1 := Scalar.cmpi .ne v131 c0_i32_138
  v132

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c0_i32_136 : BitVec 32 := 0#32
  let v129 : BitVec 32 := Scalar.addi v128 c0_i32_136
  let c1_i32_363 : BitVec 32 := 1#32
  let v369 : BitVec 32 := Scalar.subi v129 c1_i32_363
  let c16_i32_364 : BitVec 32 := 16#32
  let v370 : BitVec 32 := Scalar.muli v369 c16_i32_364
  let v371 : BitVec 32 := Scalar.addi v2 v370
  let c0_i32_365 : BitVec 32 := 0#32
  ![v371.toNat, 0]
def k0_cond2 (k0_t1 : Fin k0_t1_loop.trips) : BitVec 1 :=
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c0_i32_136 : BitVec 32 := 0#32
  let v129 : BitVec 32 := Scalar.addi v128 c0_i32_136
  let c3_i32_139 : BitVec 32 := 3#32
  let v133 : BitVec 32 := Scalar.addi v129 c3_i32_139
  let c64_i32 : BitVec 32 := 64#32
  let v134 : BitVec 1 := Scalar.cmpi .slt v133 c64_i32
  let v135 : BitVec 32 := Scalar.extui v134
  let c0_i32_140 : BitVec 32 := 0#32
  let v136 : BitVec 1 := Scalar.cmpi .ne v135 c0_i32_140
  v136

def k0_off3 (k0_t1 : Fin k0_t1_loop.trips) : Fin 1 → Nat :=
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c0_i32_136 : BitVec 32 := 0#32
  let v129 : BitVec 32 := Scalar.addi v128 c0_i32_136
  let c3_i32_363 : BitVec 32 := 3#32
  let v369 : BitVec 32 := Scalar.addi v129 c3_i32_363
  let c16_i32_364 : BitVec 32 := 16#32
  let v370 : BitVec 32 := Scalar.muli v369 c16_i32_364
  ![v370.toNat]
def k0_off4 (k0_t1 : Fin k0_t1_loop.trips) (c0_i32_136 : BitVec 32) : Fin 1 → Nat :=
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let v129 : BitVec 32 := Scalar.addi v128 c0_i32_136
  let c16_i32_141 : BitVec 32 := 16#32
  let v137 : BitVec 32 := Scalar.muli v129 c16_i32_141
  ![v137.toNat]
def k0_off5 (i : grid0.Coords) (k0_t1 : Fin k0_t1_loop.trips) (c0_i32_136 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let v129 : BitVec 32 := Scalar.addi v128 c0_i32_136
  let c16_i32_189 : BitVec 32 := 16#32
  let v185 : BitVec 32 := Scalar.muli v129 c16_i32_189
  let v186 : BitVec 32 := Scalar.addi v2 v185
  let c0_i32_190 : BitVec 32 := 0#32
  ![v186.toNat, 0]
def k0_cond3 (k0_t1 : Fin k0_t1_loop.trips) : BitVec 1 :=
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c1_i32_192 : BitVec 32 := 1#32
  let v189 : BitVec 32 := Scalar.addi v128 c1_i32_192
  let c1_i32_193 : BitVec 32 := 1#32
  let v190 : BitVec 1 := Scalar.cmpi .sge v189 c1_i32_193
  let v191 : BitVec 32 := Scalar.extui v190
  let c0_i32_194 : BitVec 32 := 0#32
  let v192 : BitVec 1 := Scalar.cmpi .ne v191 c0_i32_194
  v192

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c1_i32_192 : BitVec 32 := 1#32
  let v189 : BitVec 32 := Scalar.addi v128 c1_i32_192
  let c1_i32_363 : BitVec 32 := 1#32
  let v369 : BitVec 32 := Scalar.subi v189 c1_i32_363
  let c16_i32_364 : BitVec 32 := 16#32
  let v370 : BitVec 32 := Scalar.muli v369 c16_i32_364
  let v371 : BitVec 32 := Scalar.addi v2 v370
  let c0_i32_365 : BitVec 32 := 0#32
  ![v371.toNat, 0]
def k0_cond4 (k0_t1 : Fin k0_t1_loop.trips) : BitVec 1 :=
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c1_i32_192 : BitVec 32 := 1#32
  let v189 : BitVec 32 := Scalar.addi v128 c1_i32_192
  let c3_i32_195 : BitVec 32 := 3#32
  let v193 : BitVec 32 := Scalar.addi v189 c3_i32_195
  let c64_i32_196 : BitVec 32 := 64#32
  let v194 : BitVec 1 := Scalar.cmpi .slt v193 c64_i32_196
  let v195 : BitVec 32 := Scalar.extui v194
  let c0_i32_197 : BitVec 32 := 0#32
  let v196 : BitVec 1 := Scalar.cmpi .ne v195 c0_i32_197
  v196

def k0_off7 (k0_t1 : Fin k0_t1_loop.trips) : Fin 1 → Nat :=
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c1_i32_192 : BitVec 32 := 1#32
  let v189 : BitVec 32 := Scalar.addi v128 c1_i32_192
  let c3_i32_363 : BitVec 32 := 3#32
  let v369 : BitVec 32 := Scalar.addi v189 c3_i32_363
  let c16_i32_364 : BitVec 32 := 16#32
  let v370 : BitVec 32 := Scalar.muli v369 c16_i32_364
  ![v370.toNat]
def k0_cond5 (k0_t1 : Fin k0_t1_loop.trips) : BitVec 1 :=
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c2_i32_249 : BitVec 32 := 2#32
  let v249 : BitVec 32 := Scalar.addi v128 c2_i32_249
  let c1_i32_250 : BitVec 32 := 1#32
  let v250 : BitVec 1 := Scalar.cmpi .sge v249 c1_i32_250
  let v251 : BitVec 32 := Scalar.extui v250
  let c0_i32_251 : BitVec 32 := 0#32
  let v252 : BitVec 1 := Scalar.cmpi .ne v251 c0_i32_251
  v252

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c2_i32_249 : BitVec 32 := 2#32
  let v249 : BitVec 32 := Scalar.addi v128 c2_i32_249
  let c1_i32_363 : BitVec 32 := 1#32
  let v369 : BitVec 32 := Scalar.subi v249 c1_i32_363
  let c16_i32_364 : BitVec 32 := 16#32
  let v370 : BitVec 32 := Scalar.muli v369 c16_i32_364
  let v371 : BitVec 32 := Scalar.addi v2 v370
  let c0_i32_365 : BitVec 32 := 0#32
  ![v371.toNat, 0]
def k0_cond6 (k0_t1 : Fin k0_t1_loop.trips) : BitVec 1 :=
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c2_i32_249 : BitVec 32 := 2#32
  let v249 : BitVec 32 := Scalar.addi v128 c2_i32_249
  let c3_i32_252 : BitVec 32 := 3#32
  let v253 : BitVec 32 := Scalar.addi v249 c3_i32_252
  let c64_i32_253 : BitVec 32 := 64#32
  let v254 : BitVec 1 := Scalar.cmpi .slt v253 c64_i32_253
  let v255 : BitVec 32 := Scalar.extui v254
  let c0_i32_254 : BitVec 32 := 0#32
  let v256 : BitVec 1 := Scalar.cmpi .ne v255 c0_i32_254
  v256

def k0_off9 (k0_t1 : Fin k0_t1_loop.trips) : Fin 1 → Nat :=
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c2_i32_249 : BitVec 32 := 2#32
  let v249 : BitVec 32 := Scalar.addi v128 c2_i32_249
  let c3_i32_363 : BitVec 32 := 3#32
  let v369 : BitVec 32 := Scalar.addi v249 c3_i32_363
  let c16_i32_364 : BitVec 32 := 16#32
  let v370 : BitVec 32 := Scalar.muli v369 c16_i32_364
  ![v370.toNat]
def k0_cond7 (k0_t1 : Fin k0_t1_loop.trips) : BitVec 1 :=
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c3_i32_306 : BitVec 32 := 3#32
  let v309 : BitVec 32 := Scalar.addi v128 c3_i32_306
  let c1_i32_307 : BitVec 32 := 1#32
  let v310 : BitVec 1 := Scalar.cmpi .sge v309 c1_i32_307
  let v311 : BitVec 32 := Scalar.extui v310
  let c0_i32_308 : BitVec 32 := 0#32
  let v312 : BitVec 1 := Scalar.cmpi .ne v311 c0_i32_308
  v312

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c3_i32_306 : BitVec 32 := 3#32
  let v309 : BitVec 32 := Scalar.addi v128 c3_i32_306
  let c1_i32_363 : BitVec 32 := 1#32
  let v369 : BitVec 32 := Scalar.subi v309 c1_i32_363
  let c16_i32_364 : BitVec 32 := 16#32
  let v370 : BitVec 32 := Scalar.muli v369 c16_i32_364
  let v371 : BitVec 32 := Scalar.addi v2 v370
  let c0_i32_365 : BitVec 32 := 0#32
  ![v371.toNat, 0]
def k0_cond8 (k0_t1 : Fin k0_t1_loop.trips) : BitVec 1 :=
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c3_i32_306 : BitVec 32 := 3#32
  let v309 : BitVec 32 := Scalar.addi v128 c3_i32_306
  let c3_i32_309 : BitVec 32 := 3#32
  let v313 : BitVec 32 := Scalar.addi v309 c3_i32_309
  let c64_i32_310 : BitVec 32 := 64#32
  let v314 : BitVec 1 := Scalar.cmpi .slt v313 c64_i32_310
  let v315 : BitVec 32 := Scalar.extui v314
  let c0_i32_311 : BitVec 32 := 0#32
  let v316 : BitVec 1 := Scalar.cmpi .ne v315 c0_i32_311
  v316

def k0_off11 (k0_t1 : Fin k0_t1_loop.trips) : Fin 1 → Nat :=
  let c0_i32_135 : BitVec 32 := 0#32
  let c0_i32_128 : BitVec 32 := 0#32
  let c1_i32_130 : BitVec 32 := 1#32
  let arg18 : BitVec 32 := Scf.iv c0_i32_128 c1_i32_130 k0_t1
  let c4_i32_134 : BitVec 32 := 4#32
  let v127 : BitVec 32 := Scalar.muli arg18 c4_i32_134
  let v128 : BitVec 32 := Scalar.addi c0_i32_135 v127
  let c3_i32_306 : BitVec 32 := 3#32
  let v309 : BitVec 32 := Scalar.addi v128 c3_i32_306
  let c3_i32_363 : BitVec 32 := 3#32
  let v369 : BitVec 32 := Scalar.addi v309 c3_i32_363
  let c16_i32_364 : BitVec 32 := 16#32
  let v370 : BitVec 32 := Scalar.muli v369 c16_i32_364
  ![v370.toNat]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1008_i32 : BitVec 32 := 1008#32
  let v124 : BitVec 32 := Scalar.addi v2 c1008_i32
  let c0_i32_132 : BitVec 32 := 0#32
  ![v124.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S48640x1024 : Shape := ⟨2, ![48640, 1024]⟩
abbrev S32768 : Shape := ⟨1, ![32768]⟩
abbrev S_ : Shape := ⟨0, ![]⟩
abbrev S32768x1 : Shape := ⟨2, ![32768, 1]⟩
abbrev S32768x1024 : Shape := ⟨2, ![32768, 1024]⟩

abbrev nBuf : Space → Nat
  | .hbm => 11
  | .vmem => 0
  | .smem => 0
  | _ => 0

abbrev bufTy : (tb : Table) → Fin (tcTables nBuf tb) → BufTy
  | .hbm, ⟨0, _⟩ => ⟨S48640x1024, .f32⟩
  | .hbm, ⟨1, _⟩ => ⟨S32768, .i32⟩
  | .hbm, ⟨2, _⟩ => ⟨S_, .i32⟩
  | .hbm, ⟨3, _⟩ => ⟨S32768, .i32⟩
  | .hbm, ⟨4, _⟩ => ⟨S32768, .i1⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S32768x1, .i32⟩
  | .hbm, ⟨10, _⟩ => ⟨S32768x1024, .f32⟩
  | _, _ => ⟨S48640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x1024x256 : Shape := ⟨3, ![8, 1024, 256]⟩
abbrev S8x256x1024 : Shape := ⟨3, ![8, 256, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x1024 : Shape := ⟨2, ![4, 1024]⟩
abbrev S_ : Shape := ⟨0, ![]⟩
abbrev S32x1024 : Shape := ⟨2, ![32, 1024]⟩
abbrev S88x1024 : Shape := ⟨2, ![88, 1024]⟩
abbrev S128x1024 : Shape := ⟨2, ![128, 1024]⟩
abbrev S88 : Shape := ⟨1, ![88]⟩
abbrev S128 : Shape := ⟨1, ![128]⟩
abbrev S128x1 : Shape := ⟨2, ![128, 1]⟩
abbrev S1x1024 : Shape := ⟨2, ![1, 1024]⟩
abbrev S8x32768 : Shape := ⟨2, ![8, 32768]⟩
abbrev S1x2048x1024 : Shape := ⟨3, ![1, 2048, 1024]⟩
abbrev S1x1024x256 : Shape := ⟨3, ![1, 1024, 256]⟩
abbrev S1x256x1024 : Shape := ⟨3, ![1, 256, 1024]⟩
abbrev S8x2048 : Shape := ⟨2, ![8, 2048]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S128x256 : Shape := ⟨2, ![128, 256]⟩
abbrev S8x256 : Shape := ⟨2, ![8, 256]⟩
abbrev S1x256 : Shape := ⟨2, ![1, 256]⟩

abbrev nBuf : Space → Nat
  | .hbm => 32
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x1024x256, .bf16⟩
  | .hbm, ⟨2, _⟩ => ⟨S8x256x1024, .bf16⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S4x1024, .f32⟩
  | .hbm, ⟨12, _⟩ => ⟨S_, .f32⟩
  | .hbm, ⟨13, _⟩ => ⟨S4x1024, .f32⟩
  | .hbm, ⟨14, _⟩ => ⟨S32x1024, .f32⟩
  | .hbm, ⟨15, _⟩ => ⟨S_, .f32⟩
  | .hbm, ⟨16, _⟩ => ⟨S88x1024, .f32⟩
  | .hbm, ⟨17, _⟩ => ⟨S128x1024, .f32⟩
  | .hbm, ⟨18, _⟩ => ⟨S128x1024, .bf16⟩
  | .hbm, ⟨19, _⟩ => ⟨S_, .f32⟩
  | .hbm, ⟨20, _⟩ => ⟨S4, .f32⟩
  | .hbm, ⟨21, _⟩ => ⟨S_, .f32⟩
  | .hbm, ⟨22, _⟩ => ⟨S88, .f32⟩
  | .hbm, ⟨23, _⟩ => ⟨S128, .f32⟩
  | .hbm, ⟨24, _⟩ => ⟨S128x1, .f32⟩
  | .hbm, ⟨25, _⟩ => ⟨S1x1024, .f32⟩
  | .hbm, ⟨26, _⟩ => ⟨S1024x1024, .bf16⟩
  | .hbm, ⟨27, _⟩ => ⟨S1024x1024, .bf16⟩
  | .hbm, ⟨28, _⟩ => ⟨S1x1024, .f32⟩
  | .hbm, ⟨29, _⟩ => ⟨S8x4096x1024, .f32⟩
  | .hbm, ⟨30, _⟩ => ⟨S8x32768, .f32⟩
  | .hbm, ⟨31, _⟩ => ⟨S128x1, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S128x1024, .bf16⟩
  | .local _ .vmem, ⟨11, _⟩ => ⟨S128x1, .f32⟩
  | .local _ .vmem, ⟨12, _⟩ => ⟨S1x2048x1024, .f32⟩
  | .local _ .vmem, ⟨13, _⟩ => ⟨S1x2048x1024, .f32⟩
  | .local _ .vmem, ⟨14, _⟩ => ⟨S8x2048, .f32⟩
  | .local _ .vmem, ⟨15, _⟩ => ⟨S8x2048, .f32⟩
  | .local _ .vmem, ⟨16, _⟩ => ⟨S128x1, .f32⟩
  | .local _ .vmem, ⟨17, _⟩ => ⟨S128x1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Kernel2Ideal.lean ====
variable {F : FTy → Type} [FloatOps F] [Named F]
def κ : String → Option EReal := fun
  | "mask" => some ⊥
  | _ => none
-- ==== Reference2Ideal.lean ====
abbrev S8x4096x1024 : Shape := ⟨3, ![8, 4096, 1024]⟩
abbrev S8x1024x256 : Shape := ⟨3, ![8, 1024, 256]⟩
abbrev S8x256x1024 : Shape := ⟨3, ![8, 256, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S32768x1024 : Shape := ⟨2, ![32768, 1024]⟩
abbrev S32768x4 : Shape := ⟨2, ![32768, 4]⟩
abbrev S1x4 : Shape := ⟨2, ![1, 4]⟩
abbrev S32768x1 : Shape := ⟨2, ![32768, 1]⟩
abbrev S32768x32 : Shape := ⟨2, ![32768, 32]⟩
abbrev S1x32 : Shape := ⟨2, ![1, 32]⟩
abbrev S32768x4x8 : Shape := ⟨3, ![32768, 4, 8]⟩
abbrev S32768x1x1 : Shape := ⟨3, ![32768, 1, 1]⟩
abbrev S1 : Shape := ⟨1, ![1]⟩
abbrev S1x1x1 : Shape := ⟨3, ![1, 1, 1]⟩
abbrev S32768x1x8 : Shape := ⟨3, ![32768, 1, 8]⟩
abbrev S32768x8 : Shape := ⟨2, ![32768, 8]⟩
abbrev S32768x2 : Shape := ⟨2, ![32768, 2]⟩
abbrev S32768 : Shape := ⟨1, ![32768]⟩
abbrev S1x32768 : Shape := ⟨2, ![1, 32768]⟩
abbrev S32768x32768 : Shape := ⟨2, ![32768, 32768]⟩
abbrev S8 : Shape := ⟨1, ![8]⟩
abbrev S8x1 : Shape := ⟨2, ![8, 1]⟩
abbrev S8x32768 : Shape := ⟨2, ![8, 32768]⟩
abbrev S128 : Shape := ⟨1, ![128]⟩
abbrev S128x1 : Shape := ⟨2, ![128, 1]⟩
abbrev S128x32768 : Shape := ⟨2, ![128, 32768]⟩

abbrev nBuf : Space → Nat
  | .hbm => 196
  | .vmem => 0
  | .smem => 0
  | _ => 0

abbrev hbmTy0_0 (i : Nat) : BufTy := match i % 128 with
  | 0 => ⟨S8x4096x1024, .f32⟩
  | 1 => ⟨S8x1024x256, .bf16⟩
  | 2 => ⟨S8x256x1024, .bf16⟩
  | 3 => ⟨S1024, .f32⟩
  | 4 => ⟨S1024x1024, .f32⟩
  | 5 => ⟨S1024x1024, .f32⟩
  | 6 => ⟨S1024, .f32⟩
  | 7 => ⟨S1024x4, .f32⟩
  | 8 => ⟨S4, .f32⟩
  | 9 => ⟨S1024x32, .f32⟩
  | 10 => ⟨S32, .f32⟩
  | 11 => ⟨S8x4096x1024, .f32⟩
  | 12 => ⟨S_, .f32⟩
  | 13 => ⟨S8x4096, .f32⟩
  | 14 => ⟨S8x4096x1, .f32⟩
  | 15 => ⟨S_, .f32⟩
  | 16 => ⟨S8x4096x1, .f32⟩
  | 17 => ⟨S8x4096x1, .f32⟩
  | 18 => ⟨S_, .f32⟩
  | 19 => ⟨S8x4096x1, .f32⟩
  | 20 => ⟨S8x4096x1, .f32⟩
  | 21 => ⟨S8x4096x1, .f32⟩
  | 22 => ⟨S8x4096x1024, .f32⟩
  | 23 => ⟨S8x4096x1024, .f32⟩
  | 24 => ⟨S1x1x1024, .f32⟩
  | 25 => ⟨S8x4096x1024, .f32⟩
  | 26 => ⟨S8x4096x1024, .f32⟩
  | 27 => ⟨S8x4096x1024, .f32⟩
  | 28 => ⟨S8x4096x4x256, .f32⟩
  | 29 => ⟨S8x1024x256, .f32⟩
  | 30 => ⟨S8x256x1024, .f32⟩
  | 31 => ⟨S8x256x4x256, .f32⟩
  | 32 => ⟨S8x256x1024, .f32⟩
  | 33 => ⟨S8x256x4x256, .f32⟩
  | 34 => ⟨S8x4x4096x256, .f32⟩
  | 35 => ⟨S_, .f32⟩
  | 36 => ⟨S8x4x4096x256, .f32⟩
  | 37 => ⟨S8x4x4096x256, .f32⟩
  | 38 => ⟨S_, .f32⟩
  | 39 => ⟨S8x4x4096, .f32⟩
  | 40 => ⟨S_, .f32⟩
  | 41 => ⟨S8x4x4096, .f32⟩
  | 42 => ⟨S8x4x4096, .f32⟩
  | 43 => ⟨S8x4x4096x1, .f32⟩
  | 44 => ⟨S8x4x4096x256, .f32⟩
  | 45 => ⟨S8x4x4096x256, .f32⟩
  | 46 => ⟨S8x4x4096x256, .f32⟩
  | 47 => ⟨S_, .f32⟩
  | 48 => ⟨S8x4x4096, .f32⟩
  | 49 => ⟨S8x4x4096x1, .f32⟩
  | 50 => ⟨S8x4x4096x256, .f32⟩
  | 51 => ⟨S8x4x4096x256, .f32⟩
  | 52 => ⟨S8x4x256x4096, .f32⟩
  | 53 => ⟨S8x4096x4x256, .f32⟩
  | 54 => ⟨S8x4096x1024, .f32⟩
  | 55 => ⟨S8x4096x1024, .f32⟩
  | 56 => ⟨S8x4096x1024, .f32⟩
  | 57 => ⟨S8x4096x1024, .f32⟩
  | 58 => ⟨S_, .f32⟩
  | 59 => ⟨S8x4096, .f32⟩
  | 60 => ⟨S8x4096x1, .f32⟩
  | 61 => ⟨S_, .f32⟩
  | 62 => ⟨S8x4096x1, .f32⟩
  | 63 => ⟨S8x4096x1, .f32⟩
  | 64 => ⟨S_, .f32⟩
  | 65 => ⟨S8x4096x1, .f32⟩
  | 66 => ⟨S8x4096x1, .f32⟩
  | 67 => ⟨S8x4096x1, .f32⟩
  | 68 => ⟨S8x4096x1024, .f32⟩
  | 69 => ⟨S8x4096x1024, .f32⟩
  | 70 => ⟨S1x1x1024, .f32⟩
  | 71 => ⟨S8x4096x1024, .f32⟩
  | 72 => ⟨S8x4096x1024, .f32⟩
  | 73 => ⟨S32768x1024, .f32⟩
  | 74 => ⟨S32768x4, .f32⟩
  | 75 => ⟨S1x4, .f32⟩
  | 76 => ⟨S32768x4, .f32⟩
  | 77 => ⟨S32768x4, .f32⟩
  | 78 => ⟨S32768x1, .f32⟩
  | 79 => ⟨S32768x1, .i32⟩
  | 80 => ⟨S32768x32, .f32⟩
  | 81 => ⟨S1x32, .f32⟩
  | 82 => ⟨S32768x32, .f32⟩
  | 83 => ⟨S32768x32, .f32⟩
  | 84 => ⟨S32768x4x8, .f32⟩
  | 85 => ⟨S32768x1x1, .i32⟩
  | 86 => ⟨S_, .i32⟩
  | 87 => ⟨S32768x1x1, .i32⟩
  | 88 => ⟨S32768x1x1, .i1⟩
  | 89 => ⟨S_, .i32⟩
  | 90 => ⟨S32768x1x1, .i32⟩
  | 91 => ⟨S32768x1x1, .i32⟩
  | 92 => ⟨S32768x1x1, .i32⟩
  | 93 => ⟨S1, .i32⟩
  | 94 => ⟨S_, .i32⟩
  | 95 => ⟨S32768x1x1, .i32⟩
  | 96 => ⟨S32768x1x1, .i1⟩
  | 97 => ⟨S1x1x1, .i32⟩
  | 98 => ⟨S32768x1x1, .i32⟩
  | 99 => ⟨S32768x1x1, .i1⟩
  | 100 => ⟨S32768x1x1, .i1⟩
  | 101 => ⟨S_, .i1⟩
  | 102 => ⟨S32768x1, .i1⟩
  | 103 => ⟨S32768x1x8, .f32⟩
  | 104 => ⟨S32768x1x8, .i1⟩
  | 105 => ⟨S_, .f32⟩
  | 106 => ⟨S32768x1x8, .f32⟩
  | 107 => ⟨S32768x1x8, .f32⟩
  | 108 => ⟨S32768x8, .f32⟩
  | 109 => ⟨S32768x2, .f32⟩
  | 110 => ⟨S32768x2, .i32⟩
  | 111 => ⟨S32768x1, .i32⟩
  | 112 => ⟨S32768, .i32⟩
  | 113 => ⟨S32768x1, .i32⟩
  | 114 => ⟨S32768, .i32⟩
  | 115 => ⟨S32768, .i32⟩
  | 116 => ⟨S32768, .f32⟩
  | 117 => ⟨S32768x1, .i32⟩
  | 118 => ⟨S32768, .i32⟩
  | 119 => ⟨S32768x1, .i32⟩
  | 120 => ⟨S32768, .i32⟩
  | 121 => ⟨S32768, .i32⟩
  | 122 => ⟨S32768, .f32⟩
  | 123 => ⟨S32768, .i32⟩
  | 124 => ⟨S32768, .f32⟩
  | 125 => ⟨S_, .f32⟩
  | 126 => ⟨S32768, .f32⟩
  | 127 => ⟨S32768, .f32⟩
  | _ => ⟨S8x4096x1024, .f32⟩

abbrev hbmTy0_1 (i : Nat) : BufTy := match i % 128 with
  | 0 => ⟨S_, .f32⟩
  | 1 => ⟨S32768, .f32⟩
  | 2 => ⟨S32768, .f32⟩
  | 3 => ⟨S32768, .f32⟩
  | 4 => ⟨S_, .f32⟩
  | 5 => ⟨S32768, .f32⟩
  | 6 => ⟨S32768, .f32⟩
  | 7 => ⟨S32768, .f32⟩
  | 8 => ⟨S32768, .f32⟩
  | 9 => ⟨S_, .f32⟩
  | 10 => ⟨S32768, .f32⟩
  | 11 => ⟨S32768, .f32⟩
  | 12 => ⟨S32768, .f32⟩
  | 13 => ⟨S32768, .i32⟩
  | 14 => ⟨S1x32768, .f32⟩
  | 15 => ⟨S32768x1, .f32⟩
  | 16 => ⟨S32768x32768, .f32⟩
  | 17 => ⟨S32768x32768, .f32⟩
  | 18 => ⟨S32768x32768, .i1⟩
  | 19 => ⟨S1x32768, .i32⟩
  | 20 => ⟨S32768x1, .i32⟩
  | 21 => ⟨S32768x32768, .i32⟩
  | 22 => ⟨S32768x32768, .i32⟩
  | 23 => ⟨S32768x32768, .i1⟩
  | 24 => ⟨S32768x32768, .i1⟩
  | 25 => ⟨S_, .f32⟩
  | 26 => ⟨S_, .f32⟩
  | 27 => ⟨S32768x32768, .f32⟩
  | 28 => ⟨S32768x32768, .f32⟩
  | 29 => ⟨S32768x32768, .f32⟩
  | 30 => ⟨S32768x32768, .f32⟩
  | 31 => ⟨S_, .f32⟩
  | 32 => ⟨S32768, .f32⟩
  | 33 => ⟨S8, .i32⟩
  | 34 => ⟨S8x1, .i32⟩
  | 35 => ⟨S_, .i32⟩
  | 36 => ⟨S8x1, .i32⟩
  | 37 => ⟨S8x1, .i1⟩
  | 38 => ⟨S1x32768, .f32⟩
  | 39 => ⟨S_, .i32⟩
  | 40 => ⟨S8x1, .i32⟩
  | 41 => ⟨S8x1, .i1⟩
  | 42 => ⟨S1x32768, .f32⟩
  | 43 => ⟨S_, .f32⟩
  | 44 => ⟨S_, .f32⟩
  | 45 => ⟨S8x32768, .i1⟩
  | 46 => ⟨S8x32768, .f32⟩
  | 47 => ⟨S8x32768, .f32⟩
  | 48 => ⟨S8x32768, .f32⟩
  | 49 => ⟨S8x32768, .i1⟩
  | 50 => ⟨S8x32768, .f32⟩
  | 51 => ⟨S8x32768, .f32⟩
  | 52 => ⟨S1x32768, .f32⟩
  | 53 => ⟨S128, .i32⟩
  | 54 => ⟨S128, .f32⟩
  | 55 => ⟨S128x1, .f32⟩
  | 56 => ⟨S128x32768, .f32⟩
  | 57 => ⟨S128x32768, .f32⟩
  | 58 => ⟨S128x32768, .i1⟩
  | 59 => ⟨S_, .f32⟩
  | 60 => ⟨S_, .f32⟩
  | 61 => ⟨S128x32768, .f32⟩
  | 62 => ⟨S128x32768, .f32⟩
  | 63 => ⟨S128x32768, .f32⟩
  | 64 => ⟨S128x32768, .f32⟩
  | 65 => ⟨S_, .f32⟩
  | 66 => ⟨S128, .f32⟩
  | 67 => ⟨S128x1, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_values : Ref sig .tc := ⟨.hbm, 78, rfl⟩
abbrev main_indices : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call0_c : Ref sig .tc := ⟨.hbm, 86, rfl⟩
abbrev main_call0_v0 : Ref sig .tc := ⟨.hbm, 87, rfl⟩
abbrev main_call0_v1 : Ref sig .tc := ⟨.hbm, 88, rfl⟩
abbrev main_call0_c_0 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_c_1 : Ref sig .tc := ⟨.hbm, 93, rfl⟩
abbrev main_call0_c_2 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_v8 : Ref sig .tc := ⟨.hbm, 98, rfl⟩
abbrev main_call0_v9 : Ref sig .tc := ⟨.hbm, 99, rfl⟩
abbrev main_call0_v10 : Ref sig .tc := ⟨.hbm, 100, rfl⟩
abbrev main_call0_c_3 : Ref sig .tc := ⟨.hbm, 101, rfl⟩
abbrev main_call0_v11 : Ref sig .tc := ⟨.hbm, 102, rfl⟩
abbrev main_call0_v12 : Ref sig .tc := ⟨.hbm, 103, rfl⟩
abbrev main_call0_v13 : Ref sig .tc := ⟨.hbm, 104, rfl⟩
abbrev main_call0_cst : Ref sig .tc := ⟨.hbm, 105, rfl⟩
abbrev main_call0_v14 : Ref sig .tc := ⟨.hbm, 106, rfl⟩
abbrev main_v63 : Ref sig .tc := ⟨.hbm, 107, rfl⟩
abbrev main_v64 : Ref sig .tc := ⟨.hbm, 108, rfl⟩
abbrev main_values_9 : Ref sig .tc := ⟨.hbm, 109, rfl⟩
abbrev main_indices_10 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_11 : Ref sig .tc := ⟨.hbm, 125, rfl⟩
abbrev main_v79 : Ref sig .tc := ⟨.hbm, 126, rfl⟩
abbrev main_v80 : Ref sig .tc := ⟨.hbm, 127, rfl⟩
abbrev main_cst_12 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_13 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_14 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_15 : Ref sig .tc := ⟨.hbm, 153, rfl⟩
abbrev main_cst_16 : Ref sig .tc := ⟨.hbm, 154, rfl⟩
abbrev main_call1_v0 : Ref sig .tc := ⟨.hbm, 155, rfl⟩
abbrev main_call1_v1 : Ref sig .tc := ⟨.hbm, 156, rfl⟩
abbrev main_v103 : Ref sig .tc := ⟨.hbm, 157, rfl⟩
abbrev main_v104 : Ref sig .tc := ⟨.hbm, 158, rfl⟩
abbrev main_cst_17 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_c : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_c_18 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_cst_19 : Ref sig .tc := ⟨.hbm, 171, rfl⟩
abbrev main_call2_v0 : Ref sig .tc := ⟨.hbm, 172, rfl⟩
abbrev main_call2_v1 : Ref sig .tc := ⟨.hbm, 173, rfl⟩
abbrev main_call2_v2 : Ref sig .tc := ⟨.hbm, 174, rfl⟩
abbrev main_call2_v3 : Ref sig .tc := ⟨.hbm, 175, rfl⟩
abbrev main_v114 : Ref sig .tc := ⟨.hbm, 176, rfl⟩
abbrev main_call3_v0 : Ref sig .tc := ⟨.hbm, 177, rfl⟩
abbrev main_call3_v1 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_cst_20 : Ref sig .tc := ⟨.hbm, 187, rfl⟩
abbrev main_cst_21 : Ref sig .tc := ⟨.hbm, 188, rfl⟩
abbrev main_call4_v0 : Ref sig .tc := ⟨.hbm, 189, rfl⟩
abbrev main_call4_v1 : Ref sig .tc := ⟨.hbm, 190, rfl⟩
abbrev main_v123 : Ref sig .tc := ⟨.hbm, 191, rfl⟩
abbrev main_v124 : Ref sig .tc := ⟨.hbm, 192, rfl⟩
abbrev main_cst_22 : Ref sig .tc := ⟨.hbm, 193, rfl⟩
abbrev main_v125 : Ref sig .tc := ⟨.hbm, 194, rfl⟩
abbrev main_v126 : Ref sig .tc := ⟨.hbm, 195, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x2560 : Shape := ⟨2, ![1024, 2560]⟩
abbrev S3x512 : Shape := ⟨2, ![3, 512]⟩
abbrev S512 : Shape := ⟨1, ![512]⟩
abbrev S8x128x128 : Shape := ⟨3, ![8, 128, 128]⟩
abbrev S8x128 : Shape := ⟨2, ![8, 128]⟩
abbrev S1024x1024 : Shape := ⟨2, ![1024, 1024]⟩
abbrev S128x8 : Shape := ⟨2, ![128, 8]⟩
abbrev S128x8x64 : Shape := ⟨3, ![128, 8, 64]⟩
abbrev S128x512 : Shape := ⟨2, ![128, 512]⟩
abbrev S1x1024 : Shape := ⟨2, ![1, 1024]⟩
abbrev S1x512 : Shape := ⟨2, ![1, 512]⟩
abbrev S1x1024x1024 : Shape := ⟨3, ![1, 1024, 1024]⟩
abbrev S1032x512 : Shape := ⟨2, ![1032, 512]⟩
abbrev S8x512 : Shape := ⟨2, ![8, 512]⟩
abbrev S256x128 : Shape := ⟨2, ![256, 128]⟩
abbrev S128x128 : Shape := ⟨2, ![128, 128]⟩
abbrev S1x128x128 : Shape := ⟨3, ![1, 128, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 20
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2560, .f32⟩
  | .hbm, ⟨3, _⟩ => ⟨S3x512, .f32⟩
  | .hbm, ⟨4, _⟩ => ⟨S512, .f32⟩
  | .hbm, ⟨5, _⟩ => ⟨S8x128x128, .f32⟩
  | .hbm, ⟨6, _⟩ => ⟨S8x128, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S128x8, .f32⟩
  | .hbm, ⟨11, _⟩ => ⟨S128x8x64, .f32⟩
  | .hbm, ⟨12, _⟩ => ⟨S128x512, .f32⟩
  | .hbm, ⟨13, _⟩ => ⟨S1x1024, .f32⟩
  | .hbm, ⟨14, _⟩ => ⟨S1024x2560, .bf16⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1024x1024, .bf16⟩
  | .hbm, ⟨19, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2560, .bf16⟩
  | .local _ .vmem, ⟨4, _⟩ => ⟨S3x512, .f32⟩
  | .local _ .vmem, ⟨5, _⟩ => ⟨S1x512, .f32⟩
  | .local _ .vmem, ⟨6, _⟩ => ⟨S8x128x128, .f32⟩
  | .local _ .vmem, ⟨7, _⟩ => ⟨S128x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1032x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S8x4096x1024 : Shape := ⟨3, ![8, 4096, 1024]⟩
abbrev S1024 : Shape := ⟨1, ![1024]⟩
abbrev S1024x2560 : Shape := ⟨2, ![1024, 2560]⟩
abbrev S3x512 : Shape := ⟨2, ![3, 512]⟩
abbrev S512 : Shape := ⟨1, ![512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2560 : Shape := ⟨3, ![8, 4096, 2560]⟩
abbrev S8x4096x512 : Shape := ⟨3, ![8, 4096, 512]⟩
abbrev S8x4098x512 : Shape := ⟨3, ![8, 4098, 512]⟩
abbrev S1x512 : Shape := ⟨2, ![1, 512]⟩
abbrev S1x1x512 : Shape := ⟨3, ![1, 1, 512]⟩
abbrev S8x4096x8x64 : Shape := ⟨4, ![8, 4096, 8, 64]⟩
abbrev S8x64 : Shape := ⟨2, ![8, 64]⟩
abbrev S8x4096x8 : Shape := ⟨3, ![8, 4096, 8]⟩
abbrev S8x4096x8x1 : Shape := ⟨4, ![8, 4096, 8, 1]⟩
abbrev S1x1x8x64 : Shape := ⟨4, ![1, 1, 8, 64]⟩
abbrev S8x32x128x8x64 : Shape := ⟨5, ![8, 32, 128, 8, 64]⟩
abbrev S128x128 : Shape := ⟨2, ![128, 128]⟩
abbrev S1x128x128 : Shape := ⟨3, ![1, 128, 128]⟩
abbrev S8x8x32x64x128 : Shape := ⟨5, ![8, 8, 32, 64, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 171
  | .vmem => 0
  | .smem => 0
  | _ => 0

abbrev hbmTy0_0 (i : Nat) : BufTy := match i % 128 with
  | 0 => ⟨S8x4096x1024, .f32⟩
  | 1 => ⟨S1024, .f32⟩
  | 2 => ⟨S1024x2560, .f32⟩
  | 3 => ⟨S3x512, .f32⟩
  | 4 => ⟨S512, .f32⟩
  | 5 => ⟨S8x128x128, .f32⟩
  | 6 => ⟨S8x128, .f32⟩
  | 7 => ⟨S512, .f32⟩
  | 8 => ⟨S512, .f32⟩
  | 9 => ⟨S1024x1024, .f32⟩
  | 10 => ⟨S8x4096x1024, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x1024, .f32⟩
  | 22 => ⟨S8x4096x1024, .f32⟩
  | 23 => ⟨S1x1x1024, .f32⟩
  | 24 => ⟨S8x4096x1024, .f32⟩
  | 25 => ⟨S8x4096x1024, .f32⟩
  | 26 => ⟨S8x4096x2560, .f32⟩
  | 27 => ⟨S8x4096x512, .f32⟩
  | 28 => ⟨S8x4096x512, .f32⟩
  | 29 => ⟨S8x4096x512, .f32⟩
  | 30 => ⟨S8x4096x512, .f32⟩
  | 31 => ⟨S8x4096x512, .f32⟩
  | 32 => ⟨S8x4096x512, .f32⟩
  | 33 => ⟨S_, .i32⟩
  | 34 => ⟨S_, .f32⟩
  | 35 => ⟨S8x4098x512, .f32⟩
  | 36 => ⟨S1x512, .f32⟩
  | 37 => ⟨S512, .f32⟩
  | 38 => ⟨S8x4096x512, .f32⟩
  | 39 => ⟨S1x1x512, .f32⟩
  | 40 => ⟨S8x4096x512, .f32⟩
  | 41 => ⟨S8x4096x512, .f32⟩
  | 42 => ⟨S1x512, .f32⟩
  | 43 => ⟨S512, .f32⟩
  | 44 => ⟨S8x4096x512, .f32⟩
  | 45 => ⟨S1x1x512, .f32⟩
  | 46 => ⟨S8x4096x512, .f32⟩
  | 47 => ⟨S8x4096x512, .f32⟩
  | 48 => ⟨S8x4096x512, .f32⟩
  | 49 => ⟨S1x512, .f32⟩
  | 50 => ⟨S512, .f32⟩
  | 51 => ⟨S8x4096x512, .f32⟩
  | 52 => ⟨S1x1x512, .f32⟩
  | 53 => ⟨S8x4096x512, .f32⟩
  | 54 => ⟨S8x4096x512, .f32⟩
  | 55 => ⟨S8x4096x512, .f32⟩
  | 56 => ⟨S8x4096x512, .f32⟩
  | 57 => ⟨S8x4096x512, .f32⟩
  | 58 => ⟨S8x4096x512, .f32⟩
  | 59 => ⟨S_, .f32⟩
  | 60 => ⟨S8x4096x512, .f32⟩
  | 61 => ⟨S8x4096x512, .f32⟩
  | 62 => ⟨S8x4096x512, .f32⟩
  | 63 => ⟨S_, .f32⟩
  | 64 => ⟨S8x4096x512, .f32⟩
  | 65 => ⟨S8x4096x512, .f32⟩
  | 66 => ⟨S8x4096x512, .f32⟩
  | 67 => ⟨S_, .f32⟩
  | 68 => ⟨S8x4096x512, .f32⟩
  | 69 => ⟨S8x4096x512, .f32⟩
  | 70 => ⟨S_, .f32⟩
  | 71 => ⟨S8x4096x512, .f32⟩
  | 72 => ⟨S8x4096x512, .f32⟩
  | 73 => ⟨S8x4096x512, .f32⟩
  | 74 => ⟨S8x4096x512, .f32⟩
  | 75 => ⟨S8x4096x512, .f32⟩
  | 76 => ⟨S_, .f32⟩
  | 77 => ⟨S8x4096x512, .f32⟩
  | 78 => ⟨S8x4096x512, .f32⟩
  | 79 => ⟨S8x4096x512, .f32⟩
  | 80 => ⟨S_, .f32⟩
  | 81 => ⟨S8x4096x512, .f32⟩
  | 82 => ⟨S8x4096x512, .f32⟩
  | 83 => ⟨S8x4096x512, .f32⟩
  | 84 => ⟨S_, .f32⟩
  | 85 => ⟨S8x4096x512, .f32⟩
  | 86 => ⟨S8x4096x512, .f32⟩
  | 87 => ⟨S_, .f32⟩
  | 88 => ⟨S8x4096x512, .f32⟩
  | 89 => ⟨S8x4096x512, .f32⟩
  | 90 => ⟨S8x4096x512, .f32⟩
  | 91 => ⟨S8x4096x8x64, .f32⟩
  | 92 => ⟨S8x64, .f32⟩
  | 93 => ⟨S8x4096x8x64, .f32⟩
  | 94 => ⟨S_, .f32⟩
  | 95 => ⟨S8x4096x8, .f32⟩
  | 96 => ⟨S8x4096x8x1, .f32⟩
  | 97 => ⟨S_, .f32⟩
  | 98 => ⟨S8x4096x8x1, .f32⟩
  | 99 => ⟨S8x4096x8x1, .f32⟩
  | 100 => ⟨S_, .f32⟩
  | 101 => ⟨S8x4096x8x1, .f32⟩
  | 102 => ⟨S8x4096x8x1, .f32⟩
  | 103 => ⟨S8x4096x8x1, .f32⟩
  | 104 => ⟨S8x4096x8x64, .f32⟩
  | 105 => ⟨S8x4096x8x64, .f32⟩
  | 106 => ⟨S1x1x8x64, .f32⟩
  | 107 => ⟨S8x4096x8x64, .f32⟩
  | 108 => ⟨S8x4096x8x64, .f32⟩
  | 109 => ⟨S8x32x128x8x64, .f32⟩
  | 110 => ⟨S_, .i1⟩
  | 111 => ⟨S128x128, .i1⟩
  | 112 => ⟨S128x128, .i32⟩
  | 113 => ⟨S_, .i32⟩
  | 114 => ⟨S128x128, .i32⟩
  | 115 => ⟨S128x128, .i32⟩
  | 116 => ⟨S128x128, .i32⟩
  | 117 => ⟨S128x128, .i1⟩
  | 118 => ⟨S_, .i1⟩
  | 119 => ⟨S128x128, .i1⟩
  | 120 => ⟨S128x128, .i1⟩
  | 121 => ⟨S1x128x128, .i1⟩
  | 122 => ⟨S_, .f32⟩
  | 123 => ⟨S_, .f32⟩
  | 124 => ⟨S8x128x128, .i1⟩
  | 125 => ⟨S8x128x128, .f32⟩
  | 126 => ⟨S8x128x128, .f32⟩
  | 127 => ⟨S8x8x32x64x128, .f32⟩
  | _ => ⟨S8x4096x1024, .f32⟩

abbrev hbmTy0_1 (i : Nat) : BufTy := match i % 128 with
  | 0 => ⟨S8x32x128x8x64, .f32⟩
  | 1 => ⟨S128x8, .f32⟩
  | 2 => ⟨S128x8x1, .f32⟩
  | 3 => ⟨S1x1x128x8x1, .f32⟩
  | 4 => ⟨S8x32x128x8x64, .f32⟩
  | 5 => ⟨S8x32x128x8x64, .f32⟩
  | 6 => ⟨S8x4096x512, .f32⟩
  | 7 => ⟨S8x4096x512, .f32⟩
  | 8 => ⟨S8x4096x512, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x512, .f32⟩
  | 20 => ⟨S8x4096x512, .f32⟩
  | 21 => ⟨S1x1x512, .f32⟩
  | 22 => ⟨S8x4096x512, .f32⟩
  | 23 => ⟨S8x4096x512, .f32⟩
  | 24 => ⟨S8x4096x512, .f32⟩
  | 25 => ⟨S_, .f32⟩
  | 26 => ⟨S8x4096, .f32⟩
  | 27 => ⟨S8x4096x1, .f32⟩
  | 28 => ⟨S_, .f32⟩
  | 29 => ⟨S8x4096x1, .f32⟩
  | 30 => ⟨S8x4096x1, .f32⟩
  | 31 => ⟨S_, .f32⟩
  | 32 => ⟨S8x4096x1, .f32⟩
  | 33 => ⟨S8x4096x1, .f32⟩
  | 34 => ⟨S8x4096x1, .f32⟩
  | 35 => ⟨S8x4096x512, .f32⟩
  | 36 => ⟨S8x4096x512, .f32⟩
  | 37 => ⟨S1x1x512, .f32⟩
  | 38 => ⟨S8x4096x512, .f32⟩
  | 39 => ⟨S8x4096x512, .f32⟩
  | 40 => ⟨S8x4096x1024, .f32⟩
  | 41 => ⟨S8x4096x1024, .f32⟩
  | 42 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_2 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_4 : Ref sig .tc := ⟨.hbm, 67, rfl⟩
abbrev main_v50 : Ref sig .tc := ⟨.hbm, 68, rfl⟩
abbrev main_v51 : Ref sig .tc := ⟨.hbm, 69, rfl⟩
abbrev main_cst_5 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_10 : Ref sig .tc := ⟨.hbm, 94, rfl⟩
abbrev main_v71 : Ref sig .tc := ⟨.hbm, 95, rfl⟩
abbrev main_v72 : Ref sig .tc := ⟨.hbm, 96, rfl⟩
abbrev main_cst_11 : Ref sig .tc := ⟨.hbm, 97, rfl⟩
abbrev main_v73 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_13 : Ref sig .tc := ⟨.hbm, 110, rfl⟩
abbrev main_v84 : Ref sig .tc := ⟨.hbm, 111, rfl⟩
abbrev main_call1_v0 : Ref sig .tc := ⟨.hbm, 112, rfl⟩
abbrev main_call1_c : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_c_0 : Ref sig .tc := ⟨.hbm, 118, rfl⟩
abbrev main_call1_v5 : Ref sig .tc := ⟨.hbm, 119, rfl⟩
abbrev main_v85 : Ref sig .tc := ⟨.hbm, 120, rfl⟩
abbrev main_v86 : Ref sig .tc := ⟨.hbm, 121, rfl⟩
abbrev main_cst_14 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_15 : Ref sig .tc := ⟨.hbm, 137, rfl⟩
abbrev main_v98 : Ref sig .tc := ⟨.hbm, 138, rfl⟩
abbrev main_v99 : Ref sig .tc := ⟨.hbm, 139, rfl⟩
abbrev main_cst_16 : Ref sig .tc := ⟨.hbm, 140, rfl⟩
abbrev main_v100 : Ref sig .tc := ⟨.hbm, 141, rfl⟩
abbrev main_v101 : Ref sig .tc := ⟨.hbm, 142, rfl⟩
abbrev main_cst_17 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_18 : Ref sig .tc := ⟨.hbm, 153, rfl⟩
abbrev main_v111 : Ref sig .tc := ⟨.hbm, 154, rfl⟩
abbrev main_v112 : Ref sig .tc := ⟨.hbm, 155, rfl⟩
abbrev main_cst_19 : Ref sig .tc := ⟨.hbm, 156, rfl⟩
abbrev main_v113 : Ref sig .tc := ⟨.hbm, 157, rfl⟩
abbrev main_v114 : Ref sig .tc := ⟨.hbm, 158, rfl⟩
abbrev main_cst_20 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩

abbrev nD : Nat := 1
abbrev τ : Topo := Topo.v7x

variable {F : FTy → Type} [FloatOps F]
-- ==== Kernel4.lean ====
abbrev S8x256x1024 : Shape := ⟨3, ![8, 256, 1024]⟩
abbrev S1024 : Shape := ⟨1, ![1024]⟩
abbrev S1024x1024 : Shape := ⟨2, ![1024, 1024]⟩
abbrev S1x1024 : Shape := ⟨2, ![1, 1024]⟩
abbrev S8x1024x256 : Shape := ⟨3, ![8, 1024, 256]⟩
abbrev S1x256x1024 : Shape := ⟨3, ![1, 256, 1024]⟩
abbrev S1x1024x256 : Shape := ⟨3, ![1, 1024, 256]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 9
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S8x1024x256, .bf16⟩
  | .hbm, ⟨8, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x1024x256 : Shape := ⟨3, ![8, 1024, 256]⟩

abbrev nBuf : Space → Nat
  | .hbm => 25
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x1024x256, .f32⟩
  | .hbm, ⟨22, _⟩ => ⟨S8x1024x256, .bf16⟩
  | .hbm, ⟨23, _⟩ => ⟨S8x256x1024, .f32⟩
  | .hbm, ⟨24, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Lanes.lean ====
/-
  The permutation gather's vocabulary: the program as the launch theorem sees it, the arrays, the ring's four row
  buffers and their semaphores as families over `Fin 4`, a row buffer's eight 128-lane windows, and the two rules of one
  window's gather — started from a free lane, waited for on a loading one. A LANE is (row buffer, window): its window of
  the row buffer, its own semaphore, and a share of the table and of the index list.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Unsort

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-! ## The arrays, the buffers, the semaphores -/

abbrev yLoc (d : Dev nD) : Loc nD τ sig := (SparseCore.T d).loc main_arg0
abbrev dLoc (d : Dev nD) : Loc nD τ sig := (SparseCore.T d).loc main_arg1
abbrev oLoc (d : Dev nD) : Loc nD τ sig := (SparseCore.T d).loc main_v0

/-- The table, the index array and the result as a subcore addresses them, and its slice of the index array. -/
abbrev yV : Memref sig .scVector .hbm S48640x1024 .f32 := Memref.whole main_arg0_scv
abbrev dV : Memref sig .scVector .hbm S32768 .i32 := Memref.whole main_arg1_scv
abbrev oV : Memref sig .scVector .hbm S32768x1024 .f32 := Memref.whole main_v0_scv
abbrev iV : Memref sig .scVector .vmem S1024 .i32 := Memref.whole cc0_scratch0

/-- The ring's row buffers. -/
abbrev rV (b : Fin 4) : Memref sig .scVector .vmem S16x1024 .f32 :=
  match b with | 0 => Memref.whole cc0_scratch1 | 1 => Memref.whole cc0_scratch2 | 2 => Memref.whole cc0_scratch3 | 3 => Memref.whole cc0_scratch4
/-- The gathers' semaphores, eight for a row buffer. -/
abbrev gS (b : Fin 4) : DmaSems sig S8 := match b with | 0 => cc0_scratch5 | 1 => cc0_scratch6 | 2 => cc0_scratch7 | 3 => cc0_scratch8
/-- The stores' semaphores, one for a row buffer. -/
abbrev wS (b : Fin 4) : DmaSems sig S_ := match b with | 0 => cc0_scratch9 | 1 => cc0_scratch10 | 2 => cc0_scratch11 | 3 => cc0_scratch12

theorem whole_rV (b : Fin 4) : (rV b).IsWhole := match b with
  | 0 => Memref.isWhole_whole _ | 1 => Memref.isWhole_whole _ | 2 => Memref.isWhole_whole _ | 3 => Memref.isWhole_whole _

theorem colY_inb : ∀ k : Fin 8, ∀ a, (![0, 128 * k.val] : Fin 2 → ℕ) a + S48640x128.size a ≤ S48640x1024.size a := by decide
theorem colR_inb : ∀ k : Fin 8, ∀ a, (![0, 128 * k.val] : Fin 2 → ℕ) a + S16x128.size a ≤ S16x1024.size a := by decide
theorem sem_inb : ∀ k : Fin 8, ∀ a, (![k.val] : Fin 1 → ℕ) a + S1.size a ≤ S8.size a := by decide

/-- Window `k`: columns `128 k ..< 128 (k + 1)` of the table, of a row buffer. -/
abbrev yCol (k : Fin 8) : Memref sig .scVector .hbm S48640x128 .f32 :=
  yV.slice (Rect.unit (s := S48640x1024) ![0, 128 * k.val] S48640x128.size (colY_inb k)) (fun _ => rfl)
abbrev rRect (k : Fin 8) : Rect S16x1024 := Rect.unit (s := S16x1024) ![0, 128 * k.val] S16x128.size (colR_inb k)
abbrev rCol (b : Fin 4) (k : Fin 8) : Memref sig .scVector .vmem S16x128 .f32 := (rV b).slice (rRect k) (fun _ => rfl)
abbrev lst (off : Fin 1 → ℕ) (h : ∀ a, off a + S16.size a ≤ S1024.size a) : Memref sig .scVector .vmem S16 .i32 :=
  iV.slice (Rect.unit (s := S1024) off S16.size h) (fun _ => rfl)
abbrev gSem (b : Fin 4) (k : Fin 8) : DmaSem sig :=
  (((gS b).slice (Rect.unit (s := S8) ![k.val] S1.size (sem_inb k))).squeeze S_ squeezes_S1_S_).sem

/-! ## Small laws -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What a flight delivers may be joined by what is set aside until it lands. -/
theorem flight_frame (c : Thread nD τ) (sm : SemLoc sig) (N : ℕ) (A X : sProp 𝕄) :
    iprop(Transfers.Flight countersEmb c sm (default : HIx 1) N A ∗ X) ⊢ Transfers.Flight countersEmb c sm (default : HIx 1) N iprop(A ∗ X) := by
  unfold Transfers.Flight
  iintro ⟨⟨⟨%R, HR, %h1, %h2⟩, Hc⟩, HX⟩
  isplitl [HR HX]
  · iexists iprop(R ∗ X)
    isplitl [HR HX]
    · isplitl [HR] <;> iassumption
    isplitr
    · ipureintro; intro k
      have h : iprop((R ∗ X) ∗ ((iprop(semVal (c, sm) 0 ∗ A ∗ X)) -∗ k ⟨⟩)) ⊢ iprop(R ∗ ((iprop(semVal (c, sm) 0 ∗ A)) -∗ k ⟨⟩)) := by
        iintro ⟨⟨HR, HX⟩, HK⟩
        isplitl [HR]; · iexact HR
        iintro ⟨Hs, HA⟩
        iapply HK
        isplitl [Hs]; · iexact Hs
        isplitl [HA] <;> iassumption
      exact h.trans (h1 k)
    · ipureintro; intro k
      have h : iprop((R ∗ X) ∗ ((R ∗ X) -∗ k ⟨⟩)) ⊢ iprop(R ∗ (R -∗ k ⟨⟩)) := by
        iintro ⟨⟨HR, HX⟩, HK⟩
        isplitl [HR]; · iexact HR
        iintro HR
        iapply HK
        isplitl [HR] <;> iassumption
      exact h.trans (h2 k)
  iexact Hc

/-- What a view holds is determined by what it reads. -/
theorem pts_rep [∀ e, Nonempty (Elt F e)] (c : Thread nD τ) {sp : Space} {s : Shape} {e : EltTy} (v : Memref sig c.2.kind sp s e)
    (g : Buf (Elt F) (v.view.loc c)) (q : PosShare TreeShare) (X : s.Idx → Elt F e) (h : v.view.read (Elt F) g = X) :
    (v.view.loc c ↦[v.view.set]{q} g : sProp 𝕄) = v.view.loc c ↦[v.view.set]{q} v.view.rep X := by
  subst h; exact pointsTo_rep c v g q

/-! ## The values -/

section Value

/-- Row `r`, column `x` of the table. -/
def yIx (r x : ℕ) : S48640x1024.Idx :=
  fun a => ⟨(![r, x] : Fin 2 → ℕ) a % S48640x1024.size a, Nat.mod_lt _ ((by decide : ∀ a, 0 < S48640x1024.size a) a)⟩
/-- Entry `j` of the index list. -/
def iIx (j : ℕ) : S1024.Idx := fun a => ⟨j % S1024.size a, Nat.mod_lt _ ((by decide : ∀ a, 0 < S1024.size a) a)⟩

/-- What chunk `c`'s row buffer holds once loaded: at row `r`, the table's row named by entry `16 c + r` of the list. -/
def chunk (fy : S48640x1024.Idx → Elt F .f32) (li : S1024.Idx → Elt F .i32) (c : ℕ) : S16x1024.Idx → Elt F .f32 :=
  fun y => fy (yIx (li (iIx (16 * c + (y 0).val))).toNat (y 1).val)

/-- The gather of window `k` over entries `16 c ..< 16 (c + 1)` of the list moves chunk `c`'s window `k`. -/
theorem gather_chunk (fy : S48640x1024.Idx → Elt F .f32) (li : S1024.Idx → Elt F .i32) (c : ℕ) (hc : c < 64) (k : Fin 8)
    (off : Fin 1 → ℕ) (h : ∀ a, off a + S16.size a ≤ S1024.size a) (ho : off = ![16 * c])
    (hn : S16.numel = S16x128.size gathers_S48640x128_S16x128.axis')
    (hin : ∀ x, ((lst off h).view.read (Elt F) li x).toNat < S48640x128.size gathers_S48640x128_S16x128.axis) :
    SparseCore.gatherPayload gathers_S48640x128_S16x128 ((yCol k).view.read (Elt F) fy) (SparseCore.rows ((lst off h).view.read (Elt F) li) hn hin)
      = fun x => chunk fy li c ((rRect k).emb x) := by
  subst ho
  funext x
  have hx0 : (x 0).val < 16 := (x 0).isLt
  have hx1 : (x 1).val < 128 := (x 1).isLt
  have hk := k.isLt
  have hw : ∀ z : S16.Idx, (lst ![16 * c] h).view.read (Elt F) li z = li (iIx (16 * c + (z 0).val)) := by
    intro z
    refine (View.read_apply _ _).trans ((cast_eq _ _).trans (congrArg li (funext fun a => Fin.ext ?_)))
    have hz : (z 0).val < 16 := (z 0).isLt
    match a with
    | 0 =>
      show 16 * c + 1 * (z 0).val = (16 * c + (z 0).val) % 1024
      omega
  unfold SparseCore.gatherPayload chunk
  refine (View.read_apply _ _).trans ((cast_eq _ _).trans (congrArg fy (funext fun a => Fin.ext ?_)))
  have hrow : (SparseCore.rows ((lst ![16 * c] h).view.read (Elt F) li) hn hin (x 0)).val = (li (iIx (16 * c + (x 0).val))).toNat := by
    refine (congrArg BitVec.toNat (hw _)).trans ?_
    congr 4
    rw [← Shape.rowMajor_val_one, Equiv.apply_symm_apply]; rfl
  match a with
  | 0 =>
    have e : ((gathers_S48640x128_S16x128.idx (SparseCore.rows ((lst ![16 * c] h).view.read (Elt F) li) hn hin) x) 0).val
        = (li (iIx (16 * c + (x 0).val))).toNat := by
      rw [← hrow]; exact congrArg Fin.val (Shape.Gathers.idx_axis gathers_S48640x128_S16x128 _ x)
    have hlt : (li (iIx (16 * c + (x 0).val))).toNat < 48640 := hrow ▸ (SparseCore.rows ((lst ![16 * c] h).view.read (Elt F) li) hn hin (x 0)).isLt
    show 0 + 1 * ((gathers_S48640x128_S16x128.idx (SparseCore.rows ((lst ![16 * c] h).view.read (Elt F) li) hn hin) x) 0).val
      = (li (iIx (16 * c + (0 + 1 * (x 0).val)))).toNat % 48640
    rw [e, show 0 + 1 * (x 0).val = (x 0).val by omega]; omega
  | 1 =>
    have e : ((gathers_S48640x128_S16x128.idx (SparseCore.rows ((lst ![16 * c] h).view.read (Elt F) li) hn hin) x) 1).val = (x 1).val := by
      rw [Shape.Gathers.idx_of_ne gathers_S48640x128_S16x128 _ x 1 (by decide)]; rfl
    show 128 * k.val + 1 * ((gathers_S48640x128_S16x128.idx (SparseCore.rows ((lst ![16 * c] h).view.read (Elt F) li) hn hin) x) 1).val
      = (128 * k.val + 1 * (x 1).val) % 1024
    rw [e]; omega

end Value

/-! ## One window's gather -/

section Lane

variable [FloatOps F] [∀ e, Nonempty (Elt F e)]
variable (d : Dev nD) (L : grid0.Coords)

abbrev cV (L : grid0.Coords) : Fin τ.nSC := (L 0).castLE hcore0
abbrev jV (L : grid0.Coords) : Fin τ.nSub := (L 1).castLE hsub0
/-- The vector subcore that runs the task at `L`. -/
abbrev thr (d : Dev nD) (L : grid0.Coords) : Thread nD τ := V d (cV L) (jV L)
abbrev TaskProg (F : FTy → Type) (L : grid0.Coords) : Type 1 := Prog (TpuEff nD τ sig (Elt F) Λ₀ (.scVector (cV L) (jV L))) PUnit

/-- The start and the wait of window `k`'s gather into row buffer `b`. -/
abbrev enq (b : Fin 4) (off : Fin 1 → ℕ) (h : ∀ a, off a + S16.size a ≤ S1024.size a) (k : Fin 8) : TaskProg F L :=
  SparseCore.enqueueIndirectGather rfl (yCol k) (rCol b k) gathers_S48640x128_S16x128 (lst off h) rfl (gSem b k)
    (View.wordExact_bits rfl) rfl (Or.inl rfl)
abbrev deq (b : Fin 4) (k : Fin 8) : TaskProg F L :=
  SparseCore.waitIndirectGather (gSem b k) (yCol k) (rCol b k) (View.wordExact_bits rfl) (View.wordExact_bits rfl)

variable (q : PosShare TreeShare) (fy : Buf (Elt F) (yLoc d)) (li : Buf (Elt F) ((thr d L).loc cc0_scratch0))

abbrev gCell (b : Fin 4) (k : Fin 8) : GSem nD τ sig := (thr d L, .dma (gSem b k))

/-- Window `k` of row buffer `b`, holding `X`. -/
abbrev colPts (b : Fin 4) (k : Fin 8) (X : S16x128.Idx → Elt F .f32) : sProp 𝕄 :=
  (rCol b k).view.loc (thr d L) ↦[(rCol b k).view.set]{fullShare} (rCol b k).view.rep X

/-- A lane's shares of the table (`q` what the task holds of it, `qi` of the list). -/
abbrev tok (qt qi : PosShare TreeShare) : sProp 𝕄 :=
  iprop(((yV).view.loc (thr d L) ↦{qt} fy) ∗ ((iV).view.loc (thr d L) ↦{qi} li))

abbrev laneFree (qt qi : PosShare TreeShare) (b : Fin 4) (k : Fin 8) : sProp 𝕄 :=
  iprop((∃ X, colPts d L b k X) ∗ tok d L fy li qt qi ∗ semVal (gCell d L b k) 0)
abbrev laneBack (qt qi : PosShare TreeShare) (b : Fin 4) (c : ℕ) (k : Fin 8) : sProp 𝕄 :=
  iprop(colPts d L b k (fun x => chunk fy li c ((rRect k).emb x)) ∗ tok d L fy li qt qi)
abbrev laneBusy (qt qi : PosShare TreeShare) (b : Fin 4) (c : ℕ) (k : Fin 8) : sProp 𝕄 :=
  Transfers.Flight countersEmb (thr d L) (.dma (gSem b k)) (default : HIx 1) (rCol b k).view.dmaCredit (laneBack d L fy li qt qi b c k)

theorem credit_eq : ∀ (b : Fin 4) (k : Fin 8), ∑ j, ((rCol b k).slice (S16x128.rowRect gathers_S48640x128_S16x128.axis' j)
    (S16x128.stride_rowRect gathers_S48640x128_S16x128.axis' j)).view.dmaCredit = (rCol b k).view.dmaCredit := by
  intro b k
  fin_cases b <;> fin_cases k <;> decide

theorem wp_enq {α : Type} {Q : α → sProp 𝕄} {kk : PUnit → Prog (TpuEff nD τ sig (Elt F) Λ₀ (.scVector (cV L) (jV L))) α}
    (hli : ∀ j, (li j).toNat < 48640) (qt qi : PosShare TreeShare) (b : Fin 4) (c : ℕ) (hc : c < 64) (k : Fin 8)
    (off : Fin 1 → ℕ) (h : ∀ a, off a + S16.size a ≤ S1024.size a) (ho : off = ![16 * c]) :
    laneFree d L fy li qt qi b k
      ⊢ iprop((laneBusy d L fy li qt qi b c k -∗ wp frame (wpE (defs₀ (F := F)) 𝒱₀ (thr d L) none) Set.univ (kk ⟨⟩) Q)
        -∗ wp frame (wpE (defs₀ (F := F)) 𝒱₀ (thr d L) none) Set.univ (enq L b off h k >>= kk) Q) := by
  have hin : ∀ x, ((lst off h).view.read (Elt F) li x).toNat < S48640x128.size gathers_S48640x128_S16x128.axis := fun x =>
    lt_of_eq_of_lt (congrArg BitVec.toNat ((View.read_apply _ _).trans (cast_eq _ _))) (hli _)
  iintro ⟨⟨%X, Hr⟩, ⟨Hy, Hi⟩, Hs⟩ Hk
  ihave Hy' := (pointsTo_split_subset (q := qt) (f := fy) (S := Finset.univ) (Finset.subset_univ (yCol k).view.set)).1 $$ Hy
  icases Hy' with ⟨Hy, Hyr⟩
  ihave Hi' := (pointsTo_split_subset (q := qi) (f := li) (S := Finset.univ) (Finset.subset_univ (lst off h).view.set)).1 $$ Hi
  icases Hi' with ⟨Hi, Hir⟩
  iapply (SparseCore.wp_indirectGatherLocal countersEmb 𝒱₀ (thr d L) none (hg := gathers_S48640x128_S16x128) (default : HIx 1)
      (rCol b k).view.dmaCredit (credit_eq b k) (by decide) hin) $$ [Hy Hr Hi Hs]
  · isplitl [Hy]; · iexact Hy
    isplitl [Hr]; · iexact Hr
    isplitl [Hi]; · iexact Hi
    iexact Hs
  iintro Hfl
  iapply Hk
  ihave Hfl := (flight_frame (thr d L) (.dma (gSem b k)) (rCol b k).view.dmaCredit _
      iprop(((yV).view.loc (thr d L) ↦[Finset.univ \ (yCol k).view.set]{qt} fy)
        ∗ ((iV).view.loc (thr d L) ↦[Finset.univ \ (lst off h).view.set]{qi} li))) $$ [Hfl Hyr Hir]
  · isplitl [Hfl]; · iexact Hfl
    isplitl [Hyr]; · iexact Hyr
    iexact Hir
  iapply (Transfers.Flight_mono (D' := laneBack d L fy li qt qi b c k) ?_) $$ Hfl
  iintro ⟨⟨Hr, Hy, Hi⟩, Hyr, Hir⟩
  isplitl [Hr]
  · iapply (Entails.of_eq (pts_rep (thr d L) (rCol b k) _ fullShare _ ?_)) $$ Hr
    rw [View.read_write_univ]
    exact gather_chunk fy li c hc k off h ho rfl hin
  isplitl [Hy Hyr]
  · iapply (pointsTo_split_subset (q := qt) (f := fy) (S := Finset.univ) (Finset.subset_univ (yCol k).view.set)).2
    isplitl [Hy] <;> iassumption
  · iapply (pointsTo_split_subset (q := qi) (f := li) (S := Finset.univ) (Finset.subset_univ (lst off h).view.set)).2
    isplitl [Hi] <;> iassumption

/-- What the task owes, over what it has waited for: nothing beyond `W` but waits of its own streams. -/
abbrev owe (O : CellTallies nD τ sig (HIx 1)) (W : Waits sig (HIx 1)) : sProp 𝕄 :=
  iprop(∃ W', ⌜∀ p ∈ W', p ∈ W ∨ p.2 = none⌝ ∗ owes (thr d L) O W')

/-- A wait for a transfer in flight, whatever it delivers. -/
theorem wp_wait {α : Type} {Q : α → sProp 𝕄} {kk : PUnit → Prog (TpuEff nD τ sig (Elt F) Λ₀ (.scVector (cV L) (jV L))) α}
    (O : CellTallies nD τ sig (HIx 1)) (W : Waits sig (HIx 1)) {sp sp' : Space} {s s' : Shape} {e e' : EltTy} {κ' : Kind} (sem : DmaSem sig)
    (srcw : Memref sig .scVector sp' s' e') (dstw : Memref sig κ' sp s e) (hsrc : srcw.view.WordExact) (hdst : dstw.view.WordExact)
    (N : ℕ) (hN : dstw.view.dmaCredit = N) (A : sProp 𝕄) :
    iprop(Transfers.Flight countersEmb (thr d L) (.dma sem) (default : HIx 1) N A ∗ owe d L O W ∗ Transfers.MayWaits (thr d L) (default : HIx 1) O)
      ⊢ iprop((iprop(A ∗ semVal (thr d L, .dma sem) 0 ∗ owe d L O W) -∗ wp frame (wpE (defs₀ (F := F)) 𝒱₀ (thr d L) none) Set.univ (kk ⟨⟩) Q)
        -∗ wp frame (wpE (defs₀ (F := F)) 𝒱₀ (thr d L) none) Set.univ (.op (.waitDma2 sem srcw dstw hsrc hdst) kk) Q) := by
  iintro ⟨Hfl, ⟨%W', %hW', HO⟩, #Hmw⟩ Hk
  iapply (Transfers.wp_waitLocalO countersEmb 𝒱₀ (thr d L) none (default : HIx 1) hN) $$ [Hfl HO]
  · isplitl [Hfl]; · iexact Hfl
    isplitl [HO]; · iexact HO
    iapply (Transfers.MayWaits.elim (SemLoc.dma sem)) $$ Hmw
  iintro ⟨HA, Hs, HO⟩
  iapply Hk
  isplitl [HA]; · iexact HA
  isplitl [Hs]; · iexact Hs
  iexists _; isplitr
  swap; · iexact HO
  ipureintro; intro p hp
  rcases Finset.mem_insert.mp hp with hp | hp
  · exact .inr (hp ▸ rfl)
  · exact hW' p hp

end Lane

end Cert.Proof.Unsort

end
-- ==== Proof.Ring.lean ====
/-
  One step of the ring, run at a symbolic chunk number: the store of the chunk before waited for, the load three chunks
  ahead started into the row buffer that store has left, this chunk's load waited for, its store started. `prevS` and
  `nextS` say what a row buffer is doing before a step.
-/
module

public import proofs.«01_k».proof.Proof.Lanes

@[expose] public section

noncomputable section

namespace Cert.Proof.Unsort

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] [∀ e, Nonempty (Elt F e)]
variable (d : Dev nD) (L : grid0.Coords)

/-! ## The pieces of the program -/

abbrev oInb (off : Fin 2 → ℕ) : Prop := ∀ a, off a + S16x1024.size a ≤ S32768x1024.size a
abbrev lInb (off : Fin 1 → ℕ) : Prop := ∀ a, off a + S16.size a ≤ S1024.size a
/-- Sixteen rows of the result. -/
abbrev oSl (off : Fin 2 → ℕ) (h : oInb off) : Memref sig .scVector .hbm S16x1024 .f32 :=
  oV.slice (Rect.unit (s := S32768x1024) off S16x1024.size h) (fun _ => rfl)

/-- A chunk's load: its eight windows' gathers started. -/
def load (b : Fin 4) (off : Fin 1 → ℕ) (h : lInb off) : TaskProg F L := do
  enq L b off h 0
  enq L b off h 1
  enq L b off h 2
  enq L b off h 3
  enq L b off h 4
  enq L b off h 5
  enq L b off h 6
  enq L b off h 7
/-- The eight gathers waited for. -/
def loaded (b : Fin 4) : TaskProg F L := do
  deq L b 0
  deq L b 1
  deq L b 2
  deq L b 3
  deq L b 4
  deq L b 5
  deq L b 6
  deq L b 7
def store (b : Fin 4) (off : Fin 2 → ℕ) (h : oInb off) : TaskProg F L :=
  Prog.lift (.enqueueDma (rV b) (.here (oSl off h)) (.dma (wS b).sem) (whole_rV b).wordExact (View.wordExact_bits rfl) ⟨Or.inl rfl, trivial⟩)
def stored (b : Fin 4) (off : Fin 2 → ℕ) (h : oInb off) : TaskProg F L :=
  Prog.lift (.waitDma2 (wS b).sem (rV b) (oSl off h) (whole_rV b).wordExact (View.wordExact_bits rfl))

/-- One step of the ring: `b` this chunk's row buffer, `r` the one refilled. -/
def step (b r : Fin 4) (c1 c2 : BitVec 1) (ow : Fin 2 → ℕ) (hw : c1 = 1#1 → oInb ow) (ol : Fin 1 → ℕ) (hl : c2 = 1#1 → lInb ol)
    (os : Fin 2 → ℕ) (hs : oInb os) : TaskProg F L :=
  (if h : c1 = 1#1 then stored L r ow (hw h) else pure ⟨⟩) >>= fun _ =>
  (if h : c2 = 1#1 then load L r ol (hl h) else pure ⟨⟩) >>= fun _ =>
  loaded L b >>= fun _ =>
  store L b os hs

/-! ## A row buffer is its eight windows -/

theorem rdiv : 8 ∣ S16x1024.size 1 := ⟨128, rfl⟩
theorem rRect_eq (k : Fin 8) : rRect k = Rect.part (s := S16x1024) (a₀ := 1) rdiv k := by
  unfold rRect Rect.part Rect.block
  congr 1 <;> funext a
  · match a with
    | 0 => simp [Shape.partIx, Shape.partSize]
    | 1 => simp [Shape.partIx, Shape.partSize]; omega
  · match a with
    | 0 => simp [Shape.partSize]
    | 1 => simp [Shape.partSize]

abbrev rowPts (b : Fin 4) (X : S16x1024.Idx → Elt F .f32) : sProp 𝕄 :=
  (rV b).view.loc (thr d L) ↦[(rV b).view.set]{fullShare} (rV b).view.rep X

theorem rowPts_cols (b : Fin 4) (X : S16x1024.Idx → Elt F .f32) :
    rowPts d L b X = bigSep Finset.univ fun k : Fin 8 => colPts d L b k (fun x => X ((rRect k).emb x)) := by
  have hset : ∀ k, (rCol b k).view.set = (rRect k).set.map (rV b).view.emb := fun k => View.set_slice (v := (rV b).view) (rRect k)
  have hd : ∀ k ∈ (Finset.univ : Finset (Fin 8)), ∀ k' ∈ (Finset.univ : Finset (Fin 8)), k ≠ k' →
      Disjoint ((rCol b k).view.set) ((rCol b k').view.set) := by
    intro k _ k' _ h
    rw [hset, hset, Finset.disjoint_map, rRect_eq, rRect_eq]
    exact Rect.part_disjoint rdiv h
  have hcov : (Finset.univ : Finset (Fin 8)).biUnion (fun k => (rCol b k).view.set) = (rV b).view.set := by
    simp only [hset, rRect_eq]
    ext y
    simp only [Finset.mem_biUnion, Finset.mem_univ, true_and, Finset.mem_map, View.set]
    constructor
    · rintro ⟨_, x, _, rfl⟩; exact ⟨x, rfl⟩
    · rintro ⟨x, rfl⟩
      obtain ⟨k, -, hk⟩ := Finset.mem_biUnion.mp (Rect.biUnion_part (s := S16x1024) (a₀ := 1) rdiv ▸ Finset.mem_univ x)
      exact ⟨k, x, hk, rfl⟩
  show ((rV b).view.loc (thr d L) ↦[(rV b).view.set]{fullShare} (rV b).view.rep X : sProp 𝕄) = _
  rw [← hcov, pointsTo_biUnion (ℓ := (rV b).view.loc (thr d L)) Finset.univ (fun k => (rCol b k).view.set) hd]
  refine bigSep_congr fun k _ => ?_
  refine pts_rep (thr d L) (rCol b k) _ fullShare _ ?_
  funext x
  show (rV b).view.read (Elt F) ((rV b).view.rep X) ((rRect k).emb x) = _
  rw [View.read_rep]

/-! ## What a row buffer is doing -/

section Step

variable (fy : Buf (Elt F) (yLoc d)) (li : Buf (Elt F) ((thr d L).loc cc0_scratch0)) (qt qi : Fin 4 → Fin 8 → PosShare TreeShare)
variable (w : ℕ) (fo G : Buf (Elt F) (oLoc d)) (O : CellTallies nD τ sig (HIx 1)) (W : Waits sig (HIx 1))

theorem oOff_inb (n : ℕ) : oInb ![16 * (n % 2048), 0] := by
  intro a
  have := Nat.mod_lt n (show 0 < 2048 by decide)
  match a with
  | 0 => show 16 * (n % 2048) + 16 ≤ 32768; omega
  | 1 => exact le_refl _
/-- Chunk `n` of the result, of all 2048. -/
abbrev oC (n : ℕ) : Memref sig .scVector .hbm S16x1024 .f32 := oSl ![16 * (n % 2048), 0] (oOff_inb n)
abbrev outPts (f : Buf (Elt F) (oLoc d)) (n : ℕ) : sProp 𝕄 := (oC n).view.loc (thr d L) ↦[(oC n).view.set]{fullShare} f

abbrev toks (b : Fin 4) : sProp 𝕄 := bigSep Finset.univ fun k : Fin 8 => tok d L fy li (qt b k) (qi b k)
abbrev cells (b : Fin 4) : sProp 𝕄 := bigSep Finset.univ fun k : Fin 8 => semVal (gCell d L b k) 0
abbrev bufFree (b : Fin 4) : sProp 𝕄 := iprop((∃ X, rowPts d L b X) ∗ toks d L fy li qt qi b ∗ cells d L b)
abbrev bufBusy (b : Fin 4) (c : ℕ) : sProp 𝕄 := bigSep Finset.univ fun k : Fin 8 => laneBusy d L fy li (qt b k) (qi b k) b c k
abbrev bufFull (b : Fin 4) (c : ℕ) : sProp 𝕄 := iprop(rowPts d L b (chunk fy li c) ∗ toks d L fy li qt qi b ∗ cells d L b)
abbrev wCell (b : Fin 4) : sProp 𝕄 := semVal (thr d L, .dma (wS b).sem) 0
abbrev storing (b : Fin 4) (c : ℕ) : sProp 𝕄 :=
  iprop(Transfers.Flight countersEmb (thr d L) (.dma (wS b).sem) (default : HIx 1) (oC 0).view.dmaCredit
      iprop(outPts d L G (w + c) ∗ rowPts d L b (chunk fy li c)) ∗ toks d L fy li qt qi b ∗ cells d L b)

theorem lanes_free (b : Fin 4) : bufFree d L fy li qt qi b ⊢ bigSep Finset.univ fun k : Fin 8 => laneFree d L fy li (qt b k) (qi b k) b k := by
  iintro ⟨⟨%X, Hr⟩, Ht, Hc⟩
  rw [bigSep_sep', bigSep_sep']
  isplitl [Hr]
  · ihave Hr := (Entails.of_eq (rowPts_cols d L b X)) $$ Hr
    have h : (bigSep Finset.univ fun k : Fin 8 => colPts d L b k (fun x => X ((rRect k).emb x)))
        ⊢ bigSep Finset.univ fun k : Fin 8 => (iprop(∃ X, colPts d L b k X) : sProp 𝕄) :=
      bigSep_mono fun k _ => exists_intro (Φ := fun X => colPts d L b k X) _
    iapply h; iexact Hr
  isplitl [Ht] <;> iassumption

theorem wp_load {α : Type} {Q : α → sProp 𝕄} {kk : PUnit → Prog (TpuEff nD τ sig (Elt F) Λ₀ (.scVector (cV L) (jV L))) α}
    (hli : ∀ j, (li j).toNat < 48640) (b : Fin 4) (c : ℕ) (hc : c < 64) (off : Fin 1 → ℕ) (h : lInb off) (ho : off = ![16 * c]) :
    bufFree d L fy li qt qi b
      ⊢ iprop((bufBusy d L fy li qt qi b c -∗ wp frame (wpE (defs₀ (F := F)) 𝒱₀ (thr d L) none) Set.univ (kk ⟨⟩) Q)
        -∗ wp frame (wpE (defs₀ (F := F)) 𝒱₀ (thr d L) none) Set.univ (load L b off h >>= kk) Q) := by
  refine (lanes_free d L fy li qt qi b).trans ?_
  unfold bufBusy load
  rw [bigSep_fin8, bigSep_fin8]
  simp only [Prog.bind_assoc]
  iintro ⟨H0, H1, H2, H3, H4, H5, H6, H7⟩ Hk
  iapply (wp_enq d L fy li hli _ _ b c hc 0 off h ho) $$ H0; iintro H0
  iapply (wp_enq d L fy li hli _ _ b c hc 1 off h ho) $$ H1; iintro H1
  iapply (wp_enq d L fy li hli _ _ b c hc 2 off h ho) $$ H2; iintro H2
  iapply (wp_enq d L fy li hli _ _ b c hc 3 off h ho) $$ H3; iintro H3
  iapply (wp_enq d L fy li hli _ _ b c hc 4 off h ho) $$ H4; iintro H4
  iapply (wp_enq d L fy li hli _ _ b c hc 5 off h ho) $$ H5; iintro H5
  iapply (wp_enq d L fy li hli _ _ b c hc 6 off h ho) $$ H6; iintro H6
  iapply (wp_enq d L fy li hli _ _ b c hc 7 off h ho) $$ H7; iintro H7
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- One window's wait. -/
theorem wp_deq {α : Type} {Q : α → sProp 𝕄} {kk : PUnit → Prog (TpuEff nD τ sig (Elt F) Λ₀ (.scVector (cV L) (jV L))) α} (b : Fin 4) (c : ℕ) (k : Fin 8) :
    iprop(laneBusy d L fy li (qt b k) (qi b k) b c k ∗ owe d L O W ∗ Transfers.MayWaits (thr d L) (default : HIx 1) O)
      ⊢ iprop((iprop(laneBack d L fy li (qt b k) (qi b k) b c k ∗ semVal (gCell d L b k) 0 ∗ owe d L O W)
          -∗ wp frame (wpE (defs₀ (F := F)) 𝒱₀ (thr d L) none) Set.univ (kk ⟨⟩) Q)
        -∗ wp frame (wpE (defs₀ (F := F)) 𝒱₀ (thr d L) none) Set.univ (deq L b k >>= kk) Q) :=
  wp_wait d L O W (gSem b k) (yCol k) (rCol b k) (View.wordExact_bits rfl) (View.wordExact_bits rfl) _ rfl _

theorem wp_loaded {α : Type} {Q : α → sProp 𝕄} {kk : PUnit → Prog (TpuEff nD τ sig (Elt F) Λ₀ (.scVector (cV L) (jV L))) α} (b : Fin 4) (c : ℕ) :
    iprop(bufBusy d L fy li qt qi b c ∗ owe d L O W ∗ Transfers.MayWaits (thr d L) (default : HIx 1) O)
      ⊢ iprop((iprop(bufFull d L fy li qt qi b c ∗ owe d L O W) -∗ wp frame (wpE (defs₀ (F := F)) 𝒱₀ (thr d L) none) Set.univ (kk ⟨⟩) Q)
        -∗ wp frame (wpE (defs₀ (F := F)) 𝒱₀ (thr d L) none) Set.univ (loaded L b >>= kk) Q) := by
  unfold bufBusy bufFull toks cells loaded
  rw [rowPts_cols]
  simp only [bigSep_fin8, Prog.bind_assoc]
  iintro ⟨⟨H0, H1, H2, H3, H4, H5, H6, H7⟩, HO, #Hmw⟩ Hk
  iapply (wp_deq d L fy li qt qi O W b c 0) $$ [H0 HO]; · isplitl [H0]; · iexact H0
                                                          isplitl [HO] <;> iassumption
  iintro ⟨⟨R0, T0⟩, S0, HO⟩
  iapply (wp_deq d L fy li qt qi O W b c 1) $$ [H1 HO]; · isplitl [H1]; · iexact H1
                                                          isplitl [HO] <;> iassumption
  iintro ⟨⟨R1, T1⟩, S1, HO⟩
  iapply (wp_deq d L fy li qt qi O W b c 2) $$ [H2 HO]; · isplitl [H2]; · iexact H2
                                                          isplitl [HO] <;> iassumption
  iintro ⟨⟨R2, T2⟩, S2, HO⟩
  iapply (wp_deq d L fy li qt qi O W b c 3) $$ [H3 HO]; · isplitl [H3]; · iexact H3
                                                          isplitl [HO] <;> iassumption
  iintro ⟨⟨R3, T3⟩, S3, HO⟩
  iapply (wp_deq d L fy li qt qi O W b c 4) $$ [H4 HO]; · isplitl [H4]; · iexact H4
                                                          isplitl [HO] <;> iassumption
  iintro ⟨⟨R4, T4⟩, S4, HO⟩
  iapply (wp_deq d L fy li qt qi O W b c 5) $$ [H5 HO]; · isplitl [H5]; · iexact H5
                                                          isplitl [HO] <;> iassumption
  iintro ⟨⟨R5, T5⟩, S5, HO⟩
  iapply (wp_deq d L fy li qt qi O W b c 6) $$ [H6 HO]; · isplitl [H6]; · iexact H6
                                                          isplitl [HO] <;> iassumption
  iintro ⟨⟨R6, T6⟩, S6, HO⟩
  iapply (wp_deq d L fy li qt qi O W b c 7) $$ [H7 HO]; · isplitl [H7]; · iexact H7
                                                          isplitl [HO] <;> iassumption
  iintro ⟨⟨R7, T7⟩, S7, HO⟩
  iapply Hk
  isplitr [HO]
  swap; · iexact HO
  isplitl [R0 R1 R2 R3 R4 R5 R6 R7]
  · iframe
  isplitl [T0 T1 T2 T3 T4 T5 T6 T7]
  · iframe
  iframe

/-- The store of a loaded chunk starts: its rows of the result will hold `G`'s, the row buffer comes back with them. -/
theorem wp_store {α : Type} {Q : α → sProp 𝕄} {kk : PUnit → Prog (TpuEff nD τ sig (Elt F) Λ₀ (.scVector (cV L) (jV L))) α} (b : Fin 4) (c : ℕ)
    (off : Fin 2 → ℕ) (h : oInb off) (ho : off = ![16 * ((w + c) % 2048), 0])
    (hG : (oC (w + c)).view.read (Elt F) G = chunk fy li c) :
    iprop(bufFull d L fy li qt qi b c ∗ wCell d L b ∗ outPts d L fo (w + c))
      ⊢ iprop((storing d L fy li qt qi w G b c -∗ wp frame (wpE (defs₀ (F := F)) 𝒱₀ (thr d L) none) Set.univ (kk ⟨⟩) Q)
        -∗ wp frame (wpE (defs₀ (F := F)) 𝒱₀ (thr d L) none) Set.univ (store L b off h >>= kk) Q) := by
  subst ho
  iintro ⟨⟨Hr, Ht, Hc⟩, Hw, Ho⟩ Hk
  iapply (Transfers.wp_dmaLocal countersEmb 𝒱₀ (thr d L) none (dst := oC (w + c)) (src := rV b) (via := ReadAs.same) (sm := .dma (wS b).sem)
    (default : HIx 1) (oC 0).view.dmaCredit rfl (View.dmaCredit_pos _ (by decide)) (Finset.Subset.refl _)) $$ [Hr Hw Ho]
  · iframe
  iintro Hfl
  iapply Hk
  isplitl [Hfl]
  · iapply (Transfers.Flight_mono (D' := iprop(outPts d L G (w + c) ∗ rowPts d L b (chunk fy li c))) ?_) $$ Hfl
    iintro ⟨Ho, Hr⟩
    isplitl [Ho]
    · iapply (Entails.of_eq ((pts_rep (thr d L) (oC (w + c)) _ fullShare (chunk fy li c) ?_).trans
        (pts_rep (thr d L) (oC (w + c)) G fullShare (chunk fy li c) hG).symm)) $$ Ho
      rw [View.read_write_univ, View.read_rep]
    · iexact Hr
  iframe

/-- A store waited for: its rows of the result at `G`'s, the row buffer free again. -/
theorem wp_stored {α : Type} {Q : α → sProp 𝕄} {kk : PUnit → Prog (TpuEff nD τ sig (Elt F) Λ₀ (.scVector (cV L) (jV L))) α} (b : Fin 4) (c : ℕ)
    (off : Fin 2 → ℕ) (h : oInb off) :
    iprop(storing d L fy li qt qi w G b c ∗ owe d L O W ∗ Transfers.MayWaits (thr d L) (default : HIx 1) O)
      ⊢ iprop((iprop(bufFree d L fy li qt qi b ∗ wCell d L b ∗ outPts d L G (w + c) ∗ owe d L O W)
          -∗ wp frame (wpE (defs₀ (F := F)) 𝒱₀ (thr d L) none) Set.univ (kk ⟨⟩) Q)
        -∗ wp frame (wpE (defs₀ (F := F)) 𝒱₀ (thr d L) none) Set.univ (stored L b off h >>= kk) Q) := by
  iintro ⟨⟨Hfl, Ht, Hc⟩, HO, #Hmw⟩ Hk
  iapply (wp_wait d L O W (wS b).sem (rV b) (oSl off h) (whole_rV b).wordExact (View.wordExact_bits rfl) (oC 0).view.dmaCredit rfl _) $$ [Hfl HO]
  · isplitl [Hfl]; · iexact Hfl
    isplitl [HO] <;> iassumption
  iintro ⟨⟨Ho, Hr⟩, Hw, HO⟩
  iapply Hk
  isplitl [Hr Ht Hc]
  · isplitl [Hr]; · iexists _; iexact Hr
    iframe
  iframe

/-! ## One step -/

/-- The row buffer to refill before step `c`: free before the first, else storing the chunk before. -/
def prevS (b : Fin 4) (c : ℕ) : sProp 𝕄 :=
  if 1 ≤ c then storing d L fy li qt qi w G b (c - 1) else iprop(bufFree d L fy li qt qi b ∗ wCell d L b)
/-- A row buffer waiting for chunk `c`: loading it, or free past the last. -/
def nextS (b : Fin 4) (c : ℕ) : sProp 𝕄 :=
  if c < 64 then iprop(bufBusy d L fy li qt qi b c ∗ wCell d L b) else iprop(bufFree d L fy li qt qi b ∗ wCell d L b)
/-- The chunks of the result stored before step `c`, and those not yet begun. -/
abbrev outs (c : ℕ) : sProp 𝕄 :=
  iprop((bigSep (Finset.range (c - 1)) fun n => outPts d L G (w + n)) ∗ bigSep (Finset.Ico c 64) fun n => outPts d L fo (w + n))

theorem wp_step {α : Type} {Q : α → sProp 𝕄} {kk : PUnit → Prog (TpuEff nD τ sig (Elt F) Λ₀ (.scVector (cV L) (jV L))) α}
    (hli : ∀ j, (li j).toNat < 48640) (hG : ∀ c < 64, (oC (w + c)).view.read (Elt F) G = chunk fy li c)
    (b r : Fin 4) (c : ℕ) (hc : c < 64) (c1 c2 : BitVec 1) (hc1 : c1 = 1#1 ↔ 1 ≤ c) (hc2 : c2 = 1#1 ↔ c + 3 < 64)
    (ow : Fin 2 → ℕ) (hw : c1 = 1#1 → oInb ow) (ol : Fin 1 → ℕ) (hl : c2 = 1#1 → lInb ol) (hol : c2 = 1#1 → ol = ![16 * (c + 3)])
    (os : Fin 2 → ℕ) (hs : oInb os) (hos : os = ![16 * ((w + c) % 2048), 0]) :
    iprop(prevS d L fy li qt qi w G r c ∗ nextS d L fy li qt qi b c ∗ outs d L w fo G c ∗ owe d L O W ∗ Transfers.MayWaits (thr d L) (default : HIx 1) O)
      ⊢ iprop((iprop(prevS d L fy li qt qi w G b (c + 1) ∗ nextS d L fy li qt qi r (c + 3) ∗ outs d L w fo G (c + 1) ∗ owe d L O W)
          -∗ wp frame (wpE (defs₀ (F := F)) 𝒱₀ (thr d L) none) Set.univ (kk ⟨⟩) Q)
        -∗ wp frame (wpE (defs₀ (F := F)) 𝒱₀ (thr d L) none) Set.univ (step L b r c1 c2 ow hw ol hl os hs >>= kk) Q) := by
  -- the store before waited for, if there is one
  have h1 : ∀ (k' : PUnit → Prog (TpuEff nD τ sig (Elt F) Λ₀ (.scVector (cV L) (jV L))) α),
      iprop(prevS d L fy li qt qi w G r c ∗ (bigSep (Finset.range (c - 1)) fun n => outPts d L G (w + n)) ∗ owe d L O W ∗ Transfers.MayWaits (thr d L) (default : HIx 1) O)
      ⊢ iprop((iprop(bufFree d L fy li qt qi r ∗ wCell d L r ∗ (bigSep (Finset.range c) fun n => outPts d L G (w + n)) ∗ owe d L O W)
          -∗ wp frame (wpE (defs₀ (F := F)) 𝒱₀ (thr d L) none) Set.univ (k' ⟨⟩) Q)
        -∗ wp frame (wpE (defs₀ (F := F)) 𝒱₀ (thr d L) none) Set.univ ((if h : c1 = 1#1 then stored L r ow (hw h) else pure ⟨⟩ : TaskProg F L) >>= k') Q) := by
    intro k'
    unfold prevS
    by_cases h : 1 ≤ c
    · rw [if_pos h, dif_pos (hc1.mpr h)]
      obtain ⟨n, rfl⟩ : ∃ n, c = n + 1 := ⟨c - 1, by omega⟩
      simp only [Nat.add_sub_cancel]
      rw [Finset.range_add_one, SparseCore.bigSep_insert' Finset.notMem_range_self]
      iintro ⟨Hs, Hd, HO, #Hmw⟩ Hk
      iapply (wp_stored d L fy li qt qi w G O W r n ow _) $$ [Hs HO]
      · isplitl [Hs]; · iexact Hs
        isplitl [HO] <;> iassumption
      iintro ⟨Hf, Hw, Ho, HO⟩
      iapply Hk
      iframe
    · obtain rfl : c = 0 := by omega
      rw [if_neg h, dif_neg (fun e => h (hc1.mp e))]
      iintro ⟨⟨Hf, Hw⟩, Hd, HO, #Hmw⟩ Hk
      simp only [Prog.pure_eq_ret, Prog.bind_ret]
      iapply Hk
      iframe
  -- the load three chunks ahead started, if there is one
  have h2 : ∀ (k' : PUnit → Prog (TpuEff nD τ sig (Elt F) Λ₀ (.scVector (cV L) (jV L))) α),
      iprop(bufFree d L fy li qt qi r ∗ wCell d L r)
      ⊢ iprop((nextS d L fy li qt qi r (c + 3) -∗ wp frame (wpE (defs₀ (F := F)) 𝒱₀ (thr d L) none) Set.univ (k' ⟨⟩) Q)
        -∗ wp frame (wpE (defs₀ (F := F)) 𝒱₀ (thr d L) none) Set.univ ((if h : c2 = 1#1 then load L r ol (hl h) else pure ⟨⟩ : TaskProg F L) >>= k') Q) := by
    intro k'
    unfold nextS
    by_cases h : c + 3 < 64
    · rw [if_pos h, dif_pos (hc2.mpr h)]
      iintro ⟨Hf, Hw⟩ Hk
      iapply (wp_load d L fy li qt qi hli r (c + 3) h ol _ (hol (hc2.mpr h))) $$ Hf
      iintro Hb
      iapply Hk
      iframe
    · rw [if_neg h, dif_neg (fun e => h (hc2.mp e))]
      iintro ⟨Hf, Hw⟩ Hk
      simp only [Prog.pure_eq_ret, Prog.bind_ret]
      iapply Hk
      iframe
  unfold step outs
  simp only [Prog.bind_assoc]
  rw [show Finset.Ico c 64 = insert c (Finset.Ico (c + 1) 64) from (Finset.insert_Ico_add_one_left_eq_Ico hc).symm,
    SparseCore.bigSep_insert' (by simp), Nat.add_sub_cancel]
  iintro ⟨Hp, Hn, ⟨Hd, Hoc, Htodo⟩, HO, #Hmw⟩ Hk
  iapply (h1 _) $$ [Hp Hd HO]
  · iframe
    iexact Hmw
  iintro ⟨Hf, Hw, Hd, HO⟩
  iapply (h2 _) $$ [Hf Hw]
  · iframe
  iintro Hr
  ihave Hn := (Entails.of_eq (show nextS d L fy li qt qi b c = iprop(bufBusy d L fy li qt qi b c ∗ wCell d L b) from if_pos hc)) $$ Hn
  icases Hn with ⟨Hb, Hw⟩
  iapply (wp_loaded d L fy li qt qi O W b c) $$ [Hb HO]
  · isplitl [Hb]; · iexact Hb
    isplitl [HO] <;> iassumption
  iintro ⟨Hb, HO⟩
  iapply (wp_store d L fy li qt qi w fo G b c os hs hos (hG c hc)) $$ [Hb Hw Hoc]
  · iframe
  iintro Hs
  iapply Hk
  isplitl [Hs]
  · unfold prevS
    rw [if_pos (Nat.le_add_left 1 c), Nat.add_sub_cancel]
    iexact Hs
  iframe

end Step

end Cert.Proof.Unsort

end
-- ==== Proof.Body.lean ====
/-
  The kernel as the ring's steps: a trip of the loop is four of them, and the whole task an index fetch, three loads
  started, the trips, and the last store waited for. Each is the printed program up to the nesting of its binds.
-/
module

public import proofs.«01_k».proof.Proof.Ring

@[expose] public section

noncomputable section

namespace Cert.Proof.Unsort

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]
variable (L : grid0.Coords)

theorem conds (t : Fin k0_t1_loop.trips) :
    (k0_cond1 t = 1#1 ↔ t.val ≠ 0) ∧ (k0_cond2 t = 1#1) ∧ (k0_cond3 t = 1#1) ∧ (k0_cond4 t = 1#1 ↔ t.val ≠ 15)
      ∧ (k0_cond5 t = 1#1) ∧ (k0_cond6 t = 1#1 ↔ t.val ≠ 15) ∧ (k0_cond7 t = 1#1) ∧ (k0_cond8 t = 1#1 ↔ t.val ≠ 15) := by
  revert t; decide +kernel

/-- The printed task over the arrays, the scratch and the semaphores. -/
abbrev kern : TaskProg F L :=
  cc0_unsort_sc L yV (Memref.isWhole_whole _) dV (Memref.isWhole_whole _) oV (Memref.isWhole_whole _) iV (Memref.isWhole_whole _)
    (rV 0) (whole_rV 0) (rV 1) (whole_rV 1) (rV 2) (whole_rV 2) (rV 3) (whole_rV 3) (gS 0) (gS 1) (gS 2) (gS 3) (wS 0) (wS 1) (wS 2) (wS 3) cc0_scoped0

abbrev trip (v2 : BitVec 32) (t : Fin k0_t1_loop.trips) (u : PUnit) : TaskProg F L :=
  k0_t1_body L yV (Memref.isWhole_whole _) dV (Memref.isWhole_whole _) oV (Memref.isWhole_whole _) iV (Memref.isWhole_whole _)
    (rV 0) (whole_rV 0) (rV 1) (whole_rV 1) (rV 2) (whole_rV 2) (rV 3) (whole_rV 3) (gS 0) (gS 1) (gS 2) (gS 3) (wS 0) (wS 1) (wS 2) (wS 3) cc0_scoped0
    v2 t u

set_option maxRecDepth 65536 in
theorem trip_eq (v2 : BitVec 32) (t : Fin k0_t1_loop.trips) (u : PUnit) :
    trip (F := F) L v2 t u
      = (step L 0 3 (k0_cond1 t) (k0_cond2 t) (k0_off2 L t) (k0_off2_inb L t) (k0_off3 t) (k0_off3_inb t) (k0_off5 L t 0#32) (k0_off5_inb L t 0) >>= fun _ =>
         step L 1 0 (k0_cond3 t) (k0_cond4 t) (k0_off6 L t) (k0_off6_inb L t) (k0_off7 t) (k0_off7_inb t) (k0_off5 L t 1#32) (k0_off5_inb L t 1) >>= fun _ =>
         step L 2 1 (k0_cond5 t) (k0_cond6 t) (k0_off8 L t) (k0_off8_inb L t) (k0_off9 t) (k0_off9_inb t) (k0_off5 L t 2#32) (k0_off5_inb L t 2) >>= fun _ =>
         step L 3 2 (k0_cond7 t) (k0_cond8 t) (k0_off10 L t) (k0_off10_inb L t) (k0_off11 t) (k0_off11_inb t) (k0_off5 L t 3#32) (k0_off5_inb L t 3)) := by
  obtain ⟨h1, h2, h3, h4, h5, h6, h7, h8⟩ := conds t
  unfold trip k0_t1_body
  simp only [k0_part5_eq_skeleton, k0_part6_eq_skeleton, k0_part7_eq_skeleton, k0_part8_eq_skeleton, k0_part9_eq_skeleton, k0_part10_eq_skeleton,
    k0_part11_eq_skeleton, k0_part12_eq_skeleton]
  unfold k0_part5_skel k0_part6_skel k0_part7_skel k0_part8_skel k0_part9_skel k0_part10_skel k0_part11_skel k0_part12_skel
  simp only [k0_part1_eq_skeleton, k0_part2_eq_skeleton, k0_part3_eq_skeleton, k0_part4_eq_skeleton]
  unfold k0_part1_skel k0_part2_skel k0_part3_skel k0_part4_skel
  unfold step load loaded store stored
  by_cases e0 : t.val = 0
  · have n1 : ¬ k0_cond1 t = 1#1 := fun h => h1.mp h e0
    have p4 : k0_cond4 t = 1#1 := h4.mpr (by omega)
    have p6 : k0_cond6 t = 1#1 := h6.mpr (by omega)
    have p8 : k0_cond8 t = 1#1 := h8.mpr (by omega)
    simp only [dif_neg n1, dif_pos h2, dif_pos h3, dif_pos p4, dif_pos h5, dif_pos p6, dif_pos h7, dif_pos p8, Prog.bind_assoc, Prog.pure_eq_ret, Prog.bind_ret]
    rfl
  have p1 : k0_cond1 t = 1#1 := h1.mpr e0
  by_cases e15 : t.val = 15
  · have n4 : ¬ k0_cond4 t = 1#1 := fun h => h4.mp h e15
    have n6 : ¬ k0_cond6 t = 1#1 := fun h => h6.mp h e15
    have n8 : ¬ k0_cond8 t = 1#1 := fun h => h8.mp h e15
    simp only [dif_pos p1, dif_pos h2, dif_pos h3, dif_neg n4, dif_pos h5, dif_neg n6, dif_pos h7, dif_neg n8, Prog.bind_assoc, Prog.pure_eq_ret, Prog.bind_ret]
    rfl
  · have p4 : k0_cond4 t = 1#1 := h4.mpr e15
    have p6 : k0_cond6 t = 1#1 := h6.mpr e15
    have p8 : k0_cond8 t = 1#1 := h8.mpr e15
    simp only [dif_pos p1, dif_pos h2, dif_pos h3, dif_pos p4, dif_pos h5, dif_pos p6, dif_pos h7, dif_pos p8, Prog.bind_assoc, Prog.pure_eq_ret, Prog.bind_ret]
    rfl

theorem l0_inb : lInb ![0] := by decide
theorem l1_inb : lInb ![16] := by decide
theorem l2_inb : lInb ![32] := by decide

/-- The task's part of the index array. -/
abbrev dSl : Memref sig .scVector .hbm S1024 .i32 := dV.slice (Rect.unit (s := S32768) (k0_off1 L) S1024.size (k0_off1_inb L)) (fun _ => rfl)
def fetch : TaskProg F L :=
  Prog.lift (.enqueueDma (dSl L) (.here iV) (.dma cc0_scoped0.sem) (View.wordExact_bits rfl) (Memref.isWhole_whole _).wordExact ⟨Or.inl rfl, trivial⟩)
def fetched : TaskProg F L :=
  Prog.lift (.waitDma2 cc0_scoped0.sem (dSl L) iV (View.wordExact_bits rfl) (Memref.isWhole_whole _).wordExact)

set_option maxRecDepth 65536 in
theorem kern_eq :
    kern (F := F) L
      = (fetch L >>= fun _ => fetched L >>= fun _ =>
         load L 0 ![0] l0_inb >>= fun _ => load L 1 ![16] l1_inb >>= fun _ => load L 2 ![32] l2_inb >>= fun _ =>
         Scf.Loop.for k0_t1_loop k0_t1_ok ⟨⟩
           (trip (F := F) L (Scalar.muli (Scalar.addi (Scalar.muli (BitVec.ofNat 32 (L 1).val) 2#32) (BitVec.ofNat 32 (L 0).val)) 1024#32)) >>= fun _ =>
         stored L 3 (k0_off12 L) (k0_off12_inb L)) := by
  unfold kern
  simp only [cc0_unsort_sc_eq_skeleton]
  unfold cc0_unsort_sc_skel
  simp only [k0_part13_eq_skeleton, k0_part14_eq_skeleton, k0_part15_eq_skeleton, k0_part16_eq_skeleton, k0_part17_eq_skeleton]
  unfold k0_part13_skel k0_part14_skel k0_part15_skel k0_part16_skel k0_part17_skel
  unfold load stored fetch fetched
  simp only [Prog.bind_assoc, Prog.pure_eq_ret, Prog.bind_ret]
  rfl

/-! ## The offsets, at the task's number -/

/-- The task's number, of all 32. -/
abbrev wid (L : grid0.Coords) : ℕ := 2 * (L 1).val + (L 0).val
/-- The task's first chunk, of all 2048. -/
abbrev base (L : grid0.Coords) : ℕ := 64 * wid L

theorem off1_eq : k0_off1 L = ![1024 * wid L] := by revert L; decide +kernel
theorem off3_eq (t : Fin k0_t1_loop.trips) : k0_off3 t = ![16 * (4 * t.val + 3)] := by revert t; decide +kernel
theorem off7_eq (t : Fin k0_t1_loop.trips) (h : t.val ≠ 15) : k0_off7 t = ![16 * (4 * t.val + 4)] := by revert t; decide +kernel
theorem off9_eq (t : Fin k0_t1_loop.trips) (h : t.val ≠ 15) : k0_off9 t = ![16 * (4 * t.val + 5)] := by revert t; decide +kernel
theorem off11_eq (t : Fin k0_t1_loop.trips) (h : t.val ≠ 15) : k0_off11 t = ![16 * (4 * t.val + 6)] := by revert t; decide +kernel
theorem off5_eq (t : Fin k0_t1_loop.trips) (b : Fin 4) : k0_off5 L t (BitVec.ofNat 32 b.val) = ![16 * ((base L + (4 * t.val + b.val)) % 2048), 0] := by
  revert L t b; decide +kernel

end Cert.Proof.Unsort

end
-- ==== Proof.Task.lean ====
/-
  The whole task: the loop by the ring's invariant, the index list and the table dealt to the thirty-two lanes as shares,
  and the task's sixty-four chunks of the result left at their values.
-/
module

public import proofs.«01_k».proof.Proof.Body
public import Idealize.ShloMosaic.Lib.ShareLeaves

@[expose] public section

noncomputable section

namespace Cert.Proof.Unsort

open Cert.KernelIdeal Cert.KernelIdeal.Gen

open Idealize.ShloMosaic
open Idealize.ShloMosaic.ShareLeaves (leaf pointsTo_leaves)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] [∀ e, Nonempty (Elt F e)]
variable (d : Dev nD) (L : grid0.Coords)

/-! ## The loop -/

section Loop

variable (fy : Buf (Elt F) (yLoc d)) (li : Buf (Elt F) ((thr d L).loc cc0_scratch0)) (qt qi : Fin 4 → Fin 8 → PosShare TreeShare)
variable (fo G : Buf (Elt F) (oLoc d)) (O : CellTallies nD τ sig (HIx 1)) (W : Waits sig (HIx 1))

/-- Before trip `t`: buffer 3 storing chunk `4 t - 1` (free at the first), buffers 0, 1, 2 loading the next three chunks. -/
def ring (t : ℕ) : sProp 𝕄 :=
  iprop((prevS d L fy li qt qi (base L) G 3 (4 * t) ∗ nextS d L fy li qt qi 0 (4 * t) ∗ nextS d L fy li qt qi 1 (4 * t + 1)
    ∗ nextS d L fy li qt qi 2 (4 * t + 2) ∗ outs d L (base L) fo G (4 * t) ∗ owe d L O W)
    ∗ Transfers.MayWaits (thr d L) (default : HIx 1) O)

theorem trips_le (t : Fin k0_t1_loop.trips) : t.val < 16 := lt_of_lt_of_le t.isLt k0_t1_abs.2.1

set_option maxHeartbeats 1600000 in
theorem wp_trip (hli : ∀ j, (li j).toNat < 48640) (hG : ∀ c < 64, (oC (base L + c)).view.read (Elt F) G = chunk fy li c)
    (v2 : BitVec 32) (t : Fin k0_t1_loop.trips) (u : PUnit) :
    ring d L fy li qt qi fo G O W t.val
      ⊢ wp frame (wpE (defs₀ (F := F)) 𝒱₀ (thr d L) none) Set.univ (trip L v2 t u) fun _ => ring d L fy li qt qi fo G O W (t.val + 1) := by
  have ht := trips_le t
  obtain ⟨h1, h2, h3, h4, h5, h6, h7, h8⟩ := conds t
  have o0 : k0_off5 L t 0#32 = ![16 * ((base L + 4 * t.val) % 2048), 0] := off5_eq L t 0
  have o1 : k0_off5 L t 1#32 = ![16 * ((base L + (4 * t.val + 1)) % 2048), 0] := off5_eq L t 1
  have o2 : k0_off5 L t 2#32 = ![16 * ((base L + (4 * t.val + 2)) % 2048), 0] := off5_eq L t 2
  have o3 : k0_off5 L t 3#32 = ![16 * ((base L + (4 * t.val + 3)) % 2048), 0] := off5_eq L t 3
  rw [trip_eq, ← Prog.bind_pure (step L 3 2 _ _ _ _ _ _ _ _)]
  unfold ring
  iintro ⟨⟨Hp, H0, H1, H2, Ho, HO⟩, #Hmw⟩
  iapply (wp_step d L fy li qt qi (base L) fo G O W hli hG 0 3 (4 * t.val) (by omega) _ _ (h1.trans (by omega)) (iff_of_true h2 (by omega))
    _ _ _ _ (fun _ => off3_eq t) _ _ o0) $$ [Hp H0 Ho HO]
  · isplitl [Hp]; · iexact Hp
    isplitl [H0]; · iexact H0
    isplitl [Ho]; · iexact Ho
    isplitl [HO]; · iexact HO
    iexact Hmw
  iintro ⟨Hp, H3, Ho, HO⟩
  iapply (wp_step d L fy li qt qi (base L) fo G O W hli hG 1 0 (4 * t.val + 1) (by omega) _ _ (iff_of_true h3 (by omega)) (h4.trans (by omega))
    _ _ _ _ (fun h => off7_eq t (h4.mp h)) _ _ o1) $$ [Hp H1 Ho HO]
  · isplitl [Hp]; · iexact Hp
    isplitl [H1]; · iexact H1
    isplitl [Ho]; · iexact Ho
    isplitl [HO]; · iexact HO
    iexact Hmw
  iintro ⟨Hp, H0, Ho, HO⟩
  iapply (wp_step d L fy li qt qi (base L) fo G O W hli hG 2 1 (4 * t.val + 2) (by omega) _ _ (iff_of_true h5 (by omega)) (h6.trans (by omega))
    _ _ _ _ (fun h => off9_eq t (h6.mp h)) _ _ o2) $$ [Hp H2 Ho HO]
  · isplitl [Hp]; · iexact Hp
    isplitl [H2]; · iexact H2
    isplitl [Ho]; · iexact Ho
    isplitl [HO]; · iexact HO
    iexact Hmw
  iintro ⟨Hp, H1, Ho, HO⟩
  iapply (wp_step d L fy li qt qi (base L) fo G O W hli hG 3 2 (4 * t.val + 3) (by omega) _ _ (iff_of_true h7 (by omega)) (h8.trans (by omega))
    _ _ _ _ (fun h => off11_eq t (h8.mp h)) _ _ o3) $$ [Hp H3 Ho HO]
  · isplitl [Hp]; · iexact Hp
    isplitl [H3]; · iexact H3
    isplitl [Ho]; · iexact Ho
    isplitl [HO]; · iexact HO
    iexact Hmw
  iintro ⟨Hp, H2, Ho, HO⟩
  rw [Prog.pure_eq_ret, wp_ret]
  imodintro
  isplitl [Hp H0 H1 H2 Ho HO]
  swap; · iexact Hmw
  isplitl [Hp]; · iexact Hp
  isplitl [H0]; · iexact H0
  isplitl [H1]; · iexact H1
  isplitl [H2]; · iexact H2
  isplitl [Ho]; · iexact Ho
  iexact HO

end Loop

end Cert.Proof.Unsort

end
-- ==== Proof.Tile.lean ====
/-
  A task from its launch to its return: the index list and the table dealt to the thirty-two lanes as shares, the ring
  run over them, and the task's sixty-four chunks of the result left at their values.
-/
module

public import proofs.«01_k».proof.Proof.Task

@[expose] public section

noncomputable section

namespace Cert.Proof.Unsort

open Cert.KernelIdeal Cert.KernelIdeal.Gen

open Idealize.ShloMosaic
open Idealize.ShloMosaic.ShareLeaves (leaf pointsTo_leaves)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] [∀ e, Nonempty (Elt F e)]
variable (d : Dev nD) (L : grid0.Coords)

/-! ## The ring, from four free buffers to four free buffers -/

section Run

variable (fy : Buf (Elt F) (yLoc d)) (li : Buf (Elt F) ((thr d L).loc cc0_scratch0)) (qt qi : Fin 4 → Fin 8 → PosShare TreeShare)
variable (fo G : Buf (Elt F) (oLoc d)) (O : CellTallies nD τ sig (HIx 1)) (W : Waits sig (HIx 1))

abbrev bufs : sProp 𝕄 := bigSep Finset.univ fun b : Fin 4 => iprop(bufFree d L fy li qt qi b ∗ wCell d L b)

theorem trips_eq : k0_t1_loop.trips = 16 := by decide +kernel

theorem outs_zero : (bigSep (Finset.range 64) fun n => outPts d L fo (base L + n)) ⊢ outs d L (base L) fo G 0 := by
  unfold outs
  rw [show Finset.range (0 - 1) = ∅ from rfl, bigSep_empty, ← Finset.range_eq_Ico]
  iintro H
  isplitr
  · iempintro
  · iexact H
theorem outs_last : (bigSep (Finset.range 64) fun n => outPts d L G (base L + n))
    = iprop(outPts d L G (base L + 63) ∗ bigSep (Finset.range 63) fun n => outPts d L G (base L + n)) :=
  (congrArg (fun s => bigSep s fun n => outPts d L G (base L + n)) (Finset.range_add_one (n := 63))).trans
    (SparseCore.bigSep_insert' Finset.notMem_range_self)

theorem wp_ring (hli : ∀ j, (li j).toNat < 48640) (hG : ∀ c < 64, (oC (base L + c)).view.read (Elt F) G = chunk fy li c) (v2 : BitVec 32) :
    iprop(bufs d L fy li qt qi ∗ (bigSep (Finset.range 64) fun n => outPts d L fo (base L + n)) ∗ owe d L O W ∗ Transfers.MayWaits (thr d L) (default : HIx 1) O)
      ⊢ wp frame (wpE (defs₀ (F := F)) 𝒱₀ (thr d L) none) Set.univ
          (load L 0 ![0] l0_inb >>= fun _ => load L 1 ![16] l1_inb >>= fun _ => load L 2 ![32] l2_inb >>= fun _ =>
            Scf.Loop.for k0_t1_loop k0_t1_ok ⟨⟩ (trip (F := F) L v2) >>= fun _ => stored L 3 (k0_off12 L) (k0_off12_inb L))
          fun _ => iprop(bufs d L fy li qt qi ∗ (bigSep (Finset.range 64) fun n => outPts d L G (base L + n)) ∗ owe d L O W) := by
  unfold bufs
  rw [bigSep_fin4]
  iintro ⟨⟨⟨B0, W0⟩, ⟨B1, W1⟩, ⟨B2, W2⟩, B3, W3⟩, Ho, HO, #Hmw⟩
  iapply (wp_load d L fy li qt qi hli 0 0 (by decide) _ _ rfl) $$ B0; iintro B0
  iapply (wp_load d L fy li qt qi hli 1 1 (by decide) _ _ rfl) $$ B1; iintro B1
  iapply (wp_load d L fy li qt qi hli 2 2 (by decide) _ _ rfl) $$ B2; iintro B2
  ihave HI := (show iprop((prevS d L fy li qt qi (base L) G 3 0 ∗ nextS d L fy li qt qi 0 0 ∗ nextS d L fy li qt qi 1 1
      ∗ nextS d L fy li qt qi 2 2 ∗ outs d L (base L) fo G 0 ∗ owe d L O W) ∗ Transfers.MayWaits (thr d L) (default : HIx 1) O)
      ⊢ ring d L fy li qt qi fo G O W 0 from .rfl) $$ [B0 W0 B1 W1 B2 W2 B3 W3 Ho HO]
  · isplitl [B0 W0 B1 W1 B2 W2 B3 W3 Ho HO]
    swap; · iexact Hmw
    isplitl [B3 W3]
    · unfold prevS; rw [if_neg (by decide)]
      isplitl [B3] <;> iassumption
    isplitl [B0 W0]
    · unfold nextS; rw [if_pos (by decide)]
      isplitl [B0] <;> iassumption
    isplitl [B1 W1]
    · unfold nextS; rw [if_pos (by decide)]
      isplitl [B1] <;> iassumption
    isplitl [B2 W2]
    · unfold nextS; rw [if_pos (by decide)]
      isplitl [B2] <;> iassumption
    isplitl [Ho]
    · iapply (outs_zero d L fo G); iexact Ho
    iexact HO
  iapply (Scf.wp_for_bind frame (wpE (defs₀ (F := F)) 𝒱₀ (thr d L) none) Set.univ k0_t1_loop.lb k0_t1_loop.ub k0_t1_loop.st k0_t1_ok ⟨⟩ (trip (F := F) L v2)
    (fun t _ => ring d L fy li qt qi fo G O W t) (wp_trip d L fy li qt qi fo G O W hli hG v2)) $$ HI
  iintro %u HI
  ihave HI := (show ring d L fy li qt qi fo G O W k0_t1_loop.trips ⊢ iprop((storing d L fy li qt qi (base L) G 3 63
      ∗ (bufFree d L fy li qt qi 0 ∗ wCell d L 0) ∗ (bufFree d L fy li qt qi 1 ∗ wCell d L 1)
      ∗ (bufFree d L fy li qt qi 2 ∗ wCell d L 2) ∗ (bigSep (Finset.range 63) fun n => outPts d L G (base L + n)) ∗ owe d L O W)
      ∗ Transfers.MayWaits (thr d L) (default : HIx 1) O) from by
    rw [trips_eq]
    unfold ring prevS nextS outs
    rw [if_pos (by decide), if_neg (by decide), if_neg (by decide), if_neg (by decide)]
    iintro ⟨⟨H3, H0, H1, H2, ⟨Ho, -⟩, HO⟩, Hmw⟩
    isplitr [Hmw]
    swap; · iexact Hmw
    isplitl [H3]; · iexact H3
    isplitl [H0]; · iexact H0
    isplitl [H1]; · iexact H1
    isplitl [H2]; · iexact H2
    isplitl [Ho]; · iexact Ho
    iexact HO) $$ HI
  icases HI with ⟨⟨H3, H0, H1, H2, Ho, HO⟩, -⟩
  have hret : stored (F := F) L 3 (k0_off12 L) (k0_off12_inb L) = (stored L 3 (k0_off12 L) (k0_off12_inb L) >>= pure) := (Prog.bind_pure _).symm
  rw [hret]
  iapply (wp_stored d L fy li qt qi (base L) G O W 3 63 _ _) $$ [H3 HO]
  · isplitl [H3]; · iexact H3
    isplitl [HO]; · iexact HO
    iexact Hmw
  iintro ⟨B3, W3, Hlast, HO⟩
  rw [Prog.pure_eq_ret, wp_ret]
  imodintro
  isplitl [H0 H1 H2 B3 W3]
  · isplitl [H0]; · iexact H0
    isplitl [H1]; · iexact H1
    isplitl [H2]; · iexact H2
    isplitl [B3] <;> iassumption
  isplitl [Ho Hlast]
  · iapply (Entails.of_eq (outs_last d L G).symm)
    isplitl [Hlast] <;> iassumption
  iexact HO

end Run

/-! ## What the launch hands a task: its semaphores and its buffers -/

abbrev CellIx : Type := (Fin 4 × Fin 8) ⊕ (Fin 4 ⊕ Unit)
/-- The task's transfers' semaphores: the gathers', the stores', the index fetch's. -/
def cellSem : CellIx → DmaSem sig
  | .inl p => gSem p.1 p.2
  | .inr (.inl b) => (wS b).sem
  | .inr (.inr _) => cc0_scoped0.sem
theorem cellSem_inj : Function.Injective cellSem := by decide +kernel
def cellEmb : CellIx ↪ GSem nD τ sig := ⟨fun i => (thr d L, .dma (cellSem i)), fun _ _ h => cellSem_inj (SemLoc.dma.inj (Prod.ext_iff.mp h).2)⟩
theorem cellSem_scoped : ∀ i, (SemLoc.dma (cellSem i) : SemLoc sig).isScoped .scVector = true := by decide +kernel

abbrev semRest : sProp 𝕄 := bigSep (ownCells (thr d L) \ Finset.univ.map (cellEmb d L)) fun g => semVal g 0

theorem ownSems0_eq : (ownSems0 (thr d L) : sProp 𝕄)
    = iprop(((bigSep Finset.univ fun b : Fin 4 => cells d L b) ∗ (bigSep Finset.univ fun b : Fin 4 => wCell d L b)
        ∗ semVal (thr d L, .dma cc0_scoped0.sem) 0) ∗ semRest d L) := by
  unfold SparseCore.Cfg.ownSems0
  have hsub : Finset.univ.map (cellEmb d L) ⊆ ownCells (thr d L) := by
    intro g hg
    obtain ⟨i, -, rfl⟩ := Finset.mem_map.mp hg
    exact mem_ownCells.mpr ⟨rfl, cellSem_scoped i⟩
  rw [SparseCore.bigSep_sdiff_split' hsub, bigSep_map, bigSep_univ_sum, bigSep_univ_sum, bigSep_univ_prod,
    bigSep_univ_of_subsingleton ()]
  rfl

/-- The task's scratch buffers: the index list, the four row buffers. -/
def bufRef : Unit ⊕ Fin 4 → Ref sig .scVector
  | .inl _ => cc0_scratch0
  | .inr b => (rV b).view.ref
theorem bufRef_inj : Function.Injective bufRef := by decide +kernel
def bufEmb : Unit ⊕ Fin 4 ↪ DevRef τ sig := ⟨fun i => (Proc.scVector (cV L) (jV L)).devRef (bufRef i), fun _ _ h => bufRef_inj (Proc.devRef_injective _ h)⟩
abbrev bufRest : sProp 𝕄 := bigSep (ownRefs (τ := τ) (.scVector (cV L) (jV L)) \ Finset.univ.map (bufEmb L)) fun b => iprop(∃ f, ((d, b) : Loc nD τ sig) ↦{fullShare} f)

theorem set_rV (b : Fin 4) : (rV b).view.set = Finset.univ := match b with
  | 0 => View.set_whole _ | 1 => View.set_whole _ | 2 => View.set_whole _ | 3 => View.set_whole _
theorem rowPts_any (b : Fin 4) : (iprop(∃ f, (rV b).view.loc (thr d L) ↦{fullShare} f) : sProp 𝕄) = iprop(∃ X, rowPts d L b X) := by
  unfold rowPts
  rw [set_rV]
  have h1 : (iprop(∃ f, (rV b).view.loc (thr d L) ↦{fullShare} f) : sProp 𝕄) ⊢ iprop(∃ X, (rV b).view.loc (thr d L) ↦{fullShare} (rV b).view.rep X) := by
    iintro ⟨%f, H⟩
    iexists _
    iapply (Entails.of_eq (((congrArg (fun s => ((rV b).view.loc (thr d L) ↦[s]{fullShare} f : sProp 𝕄)) (set_rV b).symm).trans
      (pts_rep (thr d L) (rV b) f fullShare _ rfl)).trans
      (congrArg (fun s => ((rV b).view.loc (thr d L) ↦[s]{fullShare} (rV b).view.rep _ : sProp 𝕄)) (set_rV b)))) $$ H
  have h2 : (iprop(∃ X, (rV b).view.loc (thr d L) ↦{fullShare} (rV b).view.rep X) : sProp 𝕄) ⊢ iprop(∃ f, (rV b).view.loc (thr d L) ↦{fullShare} f) := by
    iintro ⟨%X, H⟩
    iexists _; iexact H
  exact Entails.antisymm h1 h2

theorem bufs_owner (i : Unit ⊕ Fin 4) : ((Proc.scVector (cV L) (jV L)).devRef (bufRef i)).owner = .proc (Proc.scVector (cV L) (jV L)) := by
  match i with
  | .inl _ => rfl
  | .inr b =>
    match b with
    | 0 => rfl
    | 1 => rfl
    | 2 => rfl
    | 3 => rfl

theorem bufs_sub : Finset.univ.map (bufEmb L) ⊆ ownRefs (τ := τ) (sig := sig) (.scVector (cV L) (jV L)) := by
  intro g hg
  obtain ⟨i, -, rfl⟩ := Finset.mem_map.mp hg
  exact SparseCore.Cfg.mem_ownRefs_of_owner (p := Proc.scVector (cV L) (jV L)) (b := (Proc.scVector (cV L) (jV L)).devRef (bufRef i)) (bufs_owner L i)

theorem bufs_each : (bigSep (Finset.univ.map (bufEmb L)) fun b => (iprop(∃ f, ((d, b) : Loc nD τ sig) ↦{fullShare} f) : sProp 𝕄))
    = iprop((∃ f, (thr d L).loc cc0_scratch0 ↦{fullShare} f) ∗ bigSep Finset.univ fun b : Fin 4 => iprop(∃ X, rowPts d L b X)) := by
  rw [bigSep_map, bigSep_univ_sum, bigSep_univ_of_subsingleton ()]
  refine congrArg (fun X => iprop((∃ f, (thr d L).loc cc0_scratch0 ↦{fullShare} f) ∗ X)) ?_
  exact bigSep_congr fun b _ => rowPts_any d L b

theorem ownBufs_eq : (ownBufs (thr d L) : sProp 𝕄)
    = iprop(((∃ f, (thr d L).loc cc0_scratch0 ↦{fullShare} f) ∗ bigSep Finset.univ fun b : Fin 4 => iprop(∃ X, rowPts d L b X)) ∗ bufRest d L) := by
  rw [← bufs_each]
  exact SparseCore.bigSep_sdiff_split' (bufs_sub L)

/-! ## A task's pieces -/

/-- Share `n` of 32 of an array every task reads. -/
abbrev share (n : ℕ) : PosShare TreeShare := leaf 5 fullShare ⟨n % 32, Nat.mod_lt _ (by decide)⟩
/-- A lane's share of a task's share `q`. -/
abbrev lane (q : PosShare TreeShare) (b : Fin 4) (k : Fin 8) : PosShare TreeShare := leaf 5 q (finProdFinEquiv (m := 4) (n := 8) (b, k))

theorem lanes_eq {ℓ : Loc nD τ sig} (q : PosShare TreeShare) (f : Buf (Elt F) ℓ) :
    (ℓ ↦{q} f : sProp 𝕄) = bigSep Finset.univ fun b : Fin 4 => bigSep Finset.univ fun k : Fin 8 => ℓ ↦{lane q b k} f :=
  (pointsTo_leaves Finset.univ f 5 q).trans
    ((bigSep_univ_equiv (finProdFinEquiv (m := 4) (n := 8)) (fun i : Fin (4 * 8) => (ℓ ↦{leaf 5 q i} f : sProp 𝕄))).trans
      (bigSep_univ_prod fun p : Fin 4 × Fin 8 => (ℓ ↦{lane q p.1 p.2} f : sProp 𝕄)))

/-- Entry `j` of the index array. -/
def dIx (j : ℕ) : S32768.Idx := fun a => ⟨j % S32768.size a, Nat.mod_lt _ ((by decide : ∀ a, 0 < S32768.size a) a)⟩

variable (m : (ℓ : Loc nD τ sig) → Buf (Elt F) ℓ)

/-- The result: row `z 0` is the table's row that entry `z 0` of the index array names. -/
def G : Buf (Elt F) (oLoc d) := fun z : S32768x1024.Idx => m (yLoc d) (yIx (m (dLoc d) (dIx (z 0).val)).toNat (z 1).val)

/-- Chunk `n`'s places in the result. -/
abbrev oSet (n : ℕ) : Finset S32768x1024.Idx := (oC n).view.set
/-- Task `n`'s pieces: its shares of the table and of the index array, its chunks of the result at `f`. -/
abbrev piece (n : ℕ) (f : Buf (Elt F) (oLoc d)) : sProp 𝕄 :=
  iprop((yLoc d ↦{share n} m (yLoc d)) ∗ (dLoc d ↦{share n} m (dLoc d))
    ∗ bigSep (Finset.range 64) fun j => oLoc d ↦[oSet (64 * n + j)]{fullShare} f)

/-- What the proof asks of the launch memory: every word of the index array names a row of the table. -/
def PreOK : Prop := ∀ (d : Dev nD) (j : S32768.Idx), (m (dLoc d) j).toNat < 48640

/-- The index list as fetched. -/
def list : Buf (Elt F) ((thr d L).loc cc0_scratch0) := fun j : S1024.Idx => m (dLoc d) (dIx (1024 * wid L + (j 0).val))

theorem wid_lt : wid L < 32 := by
  have h0 : (L 0).val < 2 := (L 0).isLt
  have h1 : (L 1).val < 16 := (L 1).isLt
  unfold wid; omega

theorem list_fetched (fi : Buf (Elt F) ((thr d L).loc cc0_scratch0)) :
    iV.view.write (Elt F) fi ((dSl L).view.read (Elt F) (m (dLoc d))) Finset.univ = list d L m := by
  refine (View.write_whole_univ _ _ _).trans ?_
  funext j
  have hj : (j 0).val < 1024 := (j 0).isLt
  have hw := wid_lt L
  refine (View.read_apply _ _).trans ((cast_eq _ _).trans (congrArg (m (dLoc d)) (funext fun a => Fin.ext ?_)))
  match a with
  | 0 =>
    show k0_off1 L 0 + 1 * (j 0).val = (1024 * wid L + (j 0).val) % 32768
    rw [off1_eq]
    show 1024 * wid L + 1 * (j 0).val = _
    omega

theorem out_chunk (c : ℕ) (hc : c < 64) : (oC (base L + c)).view.read (Elt F) (G d m) = chunk (m (yLoc d)) (list d L m) c := by
  funext y
  have hw := wid_lt L
  have hy : (y 0).val < 16 := (y 0).isLt
  refine (View.read_apply _ _).trans ((cast_eq _ _).trans ?_)
  unfold chunk list G
  have e0 : (((oC (base L + c)).view.emb y : S32768x1024.Idx) 0).val = 16 * ((base L + c) % 2048) + 1 * (y 0).val := rfl
  have e1 : (((oC (base L + c)).view.emb y : S32768x1024.Idx) 1).val = 0 + 1 * (y 1).val := rfl
  have ei : (iIx (16 * c + (y 0).val) 0).val = (16 * c + (y 0).val) % 1024 := rfl
  simp only [e0, e1, ei]
  have h1 : 16 * ((base L + c) % 2048) + 1 * (y 0).val = 1024 * wid L + (16 * c + (y 0).val) % 1024 := by unfold base; omega
  rw [h1, Nat.zero_add, Nat.one_mul]

end Cert.Proof.Unsort

end
-- ==== Proof.Launch.lean ====
/-
  The launch: the table and the index array dealt to the thirty-two tasks as shares, the result as its 2048 chunks, the
  run of the whole program from there, and the result's value.
-/
module

public import proofs.«01_k».proof.Proof.Tile
public import proofs.«01_k».proof.Proof.Gen.Pre_dest_in_rows

@[expose] public section

noncomputable section

namespace Cert.Proof.Unsort

open Cert.KernelIdeal Cert.KernelIdeal.Gen

open Idealize.ShloMosaic
open Idealize.ShloMosaic.ShareLeaves (leaf pointsTo_leaves)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The launch -/

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

/-- Task number of subcore `i` of SparseCore `c`. -/
abbrev num (c i : ℕ) : ℕ := 2 * i + c

/-- A SparseCore takes its sixteen tasks' pieces and brings them back with the result's chunks at their values. -/
def P : (K (F := F)).Pay (nD := nD) (Val := Elt F) (Name := ℕ) (U := UU) where
  st := fun q d c => match q with | 0 => bigSep Finset.univ fun i : Fin ((K (F := F)).nSub 0) => piece d m (num c.val i.val) (m (oLoc d))
  dn := fun q d c => match q with | 0 => bigSep Finset.univ fun i : Fin ((K (F := F)).nSub 0) => piece d m (num c.val i.val) (G d m)
  go := fun q d c i => match q with | 0 => piece d m (num c.val i.val) (m (oLoc d))
  td := fun q d c i => match q with | 0 => piece d m (num c.val i.val) (G d m)
  x := fun _ _ => iprop(emp)

instance P_storable : (P (F := F) m).IsStorable where
  st q d c := match q with
    | 0 => (inferInstance : BI.Storable (upEmb : UEmb _ 𝕄) (bigSep Finset.univ fun i : Fin ((K (F := F)).nSub 0) => piece d m (num c.val i.val) (m (oLoc d))))
  dn q d c := match q with
    | 0 => (inferInstance : BI.Storable (upEmb : UEmb _ 𝕄) (bigSep Finset.univ fun i : Fin ((K (F := F)).nSub 0) => piece d m (num c.val i.val) (G d m)))
  go q d c i := match q with
    | 0 => (inferInstance : BI.Storable (upEmb : UEmb _ 𝕄) (piece d m (num c.val i.val) (m (oLoc d))))
  td q d c i := match q with
    | 0 => (inferInstance : BI.Storable (upEmb : UEmb _ 𝕄) (piece d m (num c.val i.val) (G d m)))

/-! ## The task -/

section Tile

variable [∀ e, Nonempty (Elt F e)]
variable (d : Dev nD) (L : grid0.Coords)

/-- The four free buffers, gathered: the row buffers, the lanes' shares as the task's, the semaphores. -/
theorem bufs_eq (fy : Buf (Elt F) (yLoc d)) (li : Buf (Elt F) ((thr d L).loc cc0_scratch0)) (q q' : PosShare TreeShare) :
    bufs d L fy li (lane q) (lane q')
      = iprop(((bigSep Finset.univ fun b : Fin 4 => iprop(∃ X, rowPts d L b X))
          ∗ (((yV).view.loc (thr d L) ↦{q} fy) ∗ ((iV).view.loc (thr d L) ↦{q'} li)) ∗ bigSep Finset.univ fun b : Fin 4 => cells d L b)
        ∗ bigSep Finset.univ fun b : Fin 4 => wCell d L b) := by
  have ht : (bigSep Finset.univ fun b : Fin 4 => toks d L fy li (lane q) (lane q') b)
      = iprop(((yV).view.loc (thr d L) ↦{q} fy) ∗ ((iV).view.loc (thr d L) ↦{q'} li)) := by
    rw [lanes_eq q fy, lanes_eq q' li, ← bigSep_sep']
    exact bigSep_congr fun b _ => bigSep_sep' _ _ _
  rw [← ht, ← bigSep_sep', ← bigSep_sep', ← bigSep_sep']

theorem list_lt (hpre : PreOK m) (j) : (list d L m j).toNat < 48640 := hpre d _

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ piece d m (wid L) (m (oLoc d))
        ∗ scopedBufs (thr d L) ∗ scopedSems0 (thr d L) ∗ owes (thr d L) O W)
      ⊢ wp Idealize.ShloMosaic.frame (wpE (defs₀ (F := F)) 𝒱₀ (thr d L) none) Set.univ (kern L)
          fun _ => iprop(piece d m (wid L) (G d m) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_eq, ownBufs_eq, kern_eq]
  iintro ⟨#Hlv, -, ⟨Hy, Hd, Ho⟩, ⟨⟨⟨%fi, Hi⟩, Hrows⟩, Hbr⟩, ⟨⟨Hc, Hw, Hs⟩, Hsr⟩, HO⟩
  ihave #Hmw := (show levAts (K (F := F)).L (K (F := F)).lev ⊢ Transfers.MayWaits (thr d L) (default : HIx 1) O from
    (K (F := F)).mayWaits_none (thr := thr d L) hO) $$ Hlv
  ihave Hd' := (pointsTo_split_subset (q := share (wid L)) (f := m (dLoc d)) (S := Finset.univ) (Finset.subset_univ (dSl L).view.set)).1 $$ Hd
  icases Hd' with ⟨Hd, Hdr⟩
  iapply (Transfers.wp_dmaLocal countersEmb 𝒱₀ (thr d L) none (dst := iV) (src := dSl L) (via := ReadAs.same) (sm := .dma cc0_scoped0.sem)
    (Sd := Finset.univ) (default : HIx 1) (iV).view.dmaCredit rfl (View.dmaCredit_pos _ (by decide)) (Finset.subset_univ _)) $$ [Hd Hi Hs]
  · isplitl [Hd]; · iexact Hd
    isplitl [Hi]; · iexact Hi
    iexact Hs
  iintro Hfl
  iapply (wp_wait d L O W cc0_scoped0.sem (dSl L) iV (View.wordExact_bits rfl) (Memref.isWhole_whole _).wordExact (iV).view.dmaCredit rfl _) $$ [Hfl HO]
  · isplitl [Hfl]; · iexact Hfl
    isplitl [HO]
    · iexists W; isplitr
      · ipureintro; exact fun p hp => .inl hp
      · iexact HO
    iexact Hmw
  iintro ⟨⟨Hi, Hd⟩, Hs, HO⟩
  ihave Hd := (pointsTo_split_subset (q := share (wid L)) (f := m (dLoc d)) (S := Finset.univ) (Finset.subset_univ (dSl L).view.set)).2 $$ [Hd Hdr]
  · isplitl [Hd] <;> iassumption
  ihave Hi := (Entails.of_eq (congrArg (fun f => ((iV).view.loc (thr d L) ↦{fullShare} f : sProp 𝕄)) (list_fetched d L m fi))) $$ Hi
  ihave Hb := (Entails.of_eq (bufs_eq d L (m (yLoc d)) (list d L m) (share (wid L)) fullShare).symm) $$ [Hy Hi Hrows Hc Hw]
  · isplitl [Hy Hi Hrows Hc]
    · isplitl [Hrows]; · iexact Hrows
      isplitl [Hy Hi]
      · isplitl [Hy]; · iexact Hy
        iexact Hi
      iexact Hc
    iexact Hw
  ihave Hwp := (wp_ring d L (m (yLoc d)) (list d L m) (lane (share (wid L))) (lane fullShare) (m (oLoc d)) (G d m) O W (list_lt m d L hpre)
    (out_chunk d L m) (Scalar.muli (Scalar.addi (Scalar.muli (BitVec.ofNat 32 (L 1).val) 2#32) (BitVec.ofNat 32 (L 0).val)) 1024#32)) $$ [Hb Ho HO]
  · isplitl [Hb]; · iexact Hb
    isplitl [Ho]; · iexact Ho
    isplitl [HO]; · iexact HO
    iexact Hmw
  iapply (wp_wand Idealize.ShloMosaic.frame (wpE (defs₀ (F := F)) 𝒱₀ (thr d L) none) Set.univ) $$ Hwp
  iintro %u ⟨Hb, Ho, HO⟩
  ihave Hb := (Entails.of_eq (bufs_eq d L (m (yLoc d)) (list d L m) (share (wid L)) fullShare)) $$ Hb
  icases Hb with ⟨⟨Hrows, ⟨Hy, Hi⟩, Hc⟩, Hw⟩
  isplitl [Hy Hd Ho]
  · isplitl [Hy]; · iexact Hy
    isplitl [Hd]; · iexact Hd
    iexact Ho
  isplitl [Hi Hrows Hbr]
  · isplitl [Hi Hrows]
    · isplitl [Hi]; · iexists _; iexact Hi
      iexact Hrows
    iexact Hbr
  isplitl [Hc Hw Hs Hsr]
  · isplitl [Hc Hw Hs]
    · isplitl [Hc]; · iexact Hc
      isplitl [Hw]; · iexact Hw
      iexact Hs
    iexact Hsr
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => kern (coordsV c s)) ⟨⟩ c s := rfl

omit [FloatOps F] [∀ e, Nonempty (Elt F e)] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono Idealize.ShloMosaic.frame _ _ fun _ => obl_post)

end Tile

/-! ## The whole arrays are the tasks' pieces -/

omit [FloatOps F] in
theorem tasks_eq (Φ : ℕ → sProp 𝕄) :
    (bigSep Finset.univ fun n : Fin 32 => Φ n.val) = bigSep Finset.univ fun c : Fin 2 => bigSep Finset.univ fun i : Fin 16 => Φ (num c.val i.val) := by
  refine (bigSep_univ_equiv ((Equiv.prodComm (Fin 2) (Fin 16)).trans (finProdFinEquiv (m := 16) (n := 2))) (fun n : Fin (16 * 2) => Φ n.val)).trans ?_
  refine (bigSep_univ_prod fun p : Fin 2 × Fin 16 => Φ (finProdFinEquiv (p.2, p.1)).val).trans ?_
  refine bigSep_congr fun c _ => bigSep_congr fun i _ => congrArg Φ ?_
  show c.val + 2 * i.val = 2 * i.val + c.val
  omega

omit [FloatOps F] in
theorem shares_eq {ℓ : Loc nD τ sig} (f : Buf (Elt F) ℓ) : (ℓ ↦{fullShare} f : sProp 𝕄) = bigSep Finset.univ fun n : Fin 32 => ℓ ↦{share n.val} f := by
  refine (pointsTo_leaves Finset.univ f 5 fullShare).trans (bigSep_congr fun i _ => ?_)
  have hi : i.val < 32 := i.isLt
  exact congrArg (fun j => (ℓ ↦{leaf 5 fullShare j} f : sProp 𝕄)) (Fin.ext (Nat.mod_eq_of_lt hi).symm)

theorem odiv : 2048 ∣ S32768x1024.size 0 := ⟨16, rfl⟩
theorem oSet_eq (n : Fin 2048) : oSet n.val = (Rect.part (s := S32768x1024) (a₀ := 0) odiv n).set := by
  have hr : Rect.unit (s := S32768x1024) ![16 * (n.val % 2048), 0] S16x1024.size (oOff_inb n.val) = Rect.part (s := S32768x1024) (a₀ := 0) odiv n := by
    have hn := Nat.mod_eq_of_lt n.isLt
    unfold Rect.part Rect.block
    congr 1 <;> funext a
    · match a with
      | 0 => simp [Shape.partIx, Shape.partSize, hn]; omega
      | 1 => simp [Shape.partIx, Shape.partSize]
    · match a with
      | 0 => simp [Shape.partSize]
      | 1 => simp [Shape.partSize]
  rw [← hr]
  refine (View.set_slice (v := (View.whole (main_v0_scv : Ref sig .scVector))) _).trans ?_
  exact Finset.map_refl

omit [FloatOps F] in
theorem chunks_eq (d : Dev nD) (f : Buf (Elt F) (oLoc d)) :
    (oLoc d ↦{fullShare} f : sProp 𝕄) = bigSep Finset.univ fun n : Fin 32 => bigSep (Finset.range 64) fun j => oLoc d ↦[oSet (64 * n.val + j)]{fullShare} f := by
  have hd : ∀ i ∈ (Finset.univ : Finset (Fin 2048)), ∀ j ∈ (Finset.univ : Finset (Fin 2048)), i ≠ j → Disjoint (oSet i.val) (oSet j.val) :=
    fun i _ j _ h => by rw [oSet_eq, oSet_eq]; exact Rect.part_disjoint odiv h
  have hc : (Finset.univ : Finset (Fin 2048)).biUnion (fun n => oSet n.val) = Finset.univ :=
    (Finset.biUnion_congr rfl fun i _ => oSet_eq i).trans (Rect.biUnion_part odiv)
  have h0 : (oLoc d ↦{fullShare} f : sProp 𝕄) = bigSep Finset.univ fun n : Fin 2048 => oLoc d ↦[oSet n.val]{fullShare} f := by
    rw [← pointsTo_biUnion Finset.univ (ℓ := oLoc d) (fun n : Fin 2048 => oSet n.val) hd, hc]; try rfl
  rw [h0]
  refine (bigSep_univ_equiv (finProdFinEquiv (m := 32) (n := 64)) (fun n : Fin (32 * 64) => (oLoc d ↦[oSet n.val]{fullShare} f : sProp 𝕄))).trans ?_
  refine (bigSep_univ_prod fun p : Fin 32 × Fin 64 => (oLoc d ↦[oSet (finProdFinEquiv p).val]{fullShare} f : sProp 𝕄)).trans ?_
  refine bigSep_congr fun n _ => ?_
  rw [show Finset.range 64 = (Finset.univ : Finset (Fin 64)).map Fin.valEmbedding by rw [Fin.map_valEmbedding_univ, Nat.Iio_eq_range], bigSep_map]
  refine bigSep_congr fun j _ => ?_
  have e : (finProdFinEquiv (m := 32) (n := 64) (n, j)).val = 64 * n.val + j.val := by
    show j.val + 64 * n.val = _
    omega
  rw [e]; rfl

theorem pieces_eq (d : Dev nD) (f : Buf (Elt F) (oLoc d)) :
    iprop((yLoc d ↦{fullShare} m (yLoc d)) ∗ (dLoc d ↦{fullShare} m (dLoc d)) ∗ (oLoc d ↦{fullShare} f))
      = bigSep Finset.univ fun c : Fin 2 => bigSep Finset.univ fun i : Fin 16 => piece d m (num c.val i.val) f := by
  rw [← tasks_eq (fun n => piece d m n f), bigSep_sep', bigSep_sep', shares_eq (m (yLoc d)), shares_eq (m (dLoc d)), chunks_eq d f]

omit [FloatOps F] in
theorem split_refl (A B : sProp 𝕄) : A ⊢ |={Set.univ}=> iprop(A ∗ (B -∗ B)) := by
  iintro H; imodintro
  isplitl [H]; · iexact H
  iintro H; iexact H

abbrev half (d : Dev nD) (c : ℕ) (f : Buf (Elt F) (oLoc d)) : sProp 𝕄 :=
  bigSep Finset.univ fun i : Fin ((K (F := F)).nSub 0) => piece d m (num c i.val) f
theorem st_eq (d : Dev nD) (c) : (P m).st 0 d c = half m d c.val (m (oLoc d)) := rfl
theorem dn_eq (d : Dev nD) (c) : (P m).dn 0 d c = half m d c.val (G d m) := rfl
theorem go_eq (d : Dev nD) (c) : (bigSep Finset.univ fun i => (P m).go 0 d c i) = half m d c.val (m (oLoc d)) := rfl
theorem td_eq (d : Dev nD) (c) : (bigSep Finset.univ fun i => (P m).td 0 d c i) = half m d c.val (G d m) := rfl
theorem vecSplit : (K (F := F)).VecSplit' (P m) 0 := by
  intro d c
  rw [st_eq, dn_eq, go_eq, td_eq]
  exact split_refl _ _

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((yLoc d ↦{fullShare} W main_arg0) ∗ (dLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

abbrev FIN (d : Dev nD) : sProp 𝕄 := iprop((yLoc d ↦{fullShare} m (yLoc d)) ∗ (dLoc d ↦{fullShare} m (dLoc d)) ∗ (oLoc d ↦{fullShare} G d m))

theorem st0_eq (d : Dev nD) : (bigSep Finset.univ fun c : Fin ((K (F := F)).nCore 0) => (P m).st 0 d c)
    = iprop((yLoc d ↦{fullShare} m (yLoc d)) ∗ (dLoc d ↦{fullShare} m (dLoc d)) ∗ (oLoc d ↦{fullShare} m (oLoc d))) :=
  (pieces_eq m d (m (oLoc d))).symm
theorem dn0_eq (d : Dev nD) : (bigSep Finset.univ fun c : Fin ((K (F := F)).nCore 0) => (P m).dn 0 d c) = FIN m d :=
  (pieces_eq m d (G d m)).symm

/-- @main on device `d`'s TensorCore: the one call, from the three arrays whole to the three arrays whole, the result's at its value. -/
theorem hmain (κ : GSem nD τ sig → ℕ) (d : Dev nD) :
    iprop((K (F := F)).ctx EH (P m) κ ∗ (K (F := F)).tcSt EH d 0 ∗ (K (F := F)).tcRes m ρ d ∗ emp)
      ⊢ wp Idealize.ShloMosaic.frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hy, Hd, Ho⟩, Hts, -⟩, -⟩
  iapply ((K (F := F)).wp_run (D (F := F)) 𝒱 (EH := EH) (P := P m) κ d 0) $$ [Hst Hy Hd Ho Hb Hts]
  isplitr; · iexact Hctx
  isplitl [Hst]; · iexact Hst
  isplitl [Hy Hd Ho]
  · rw [st0_eq]
    isplitl [Hy]; · iexact Hy
    isplitl [Hd]; · iexact Hd
    iexact Ho
  iintro ⟨Hst, Hdn⟩
  ihave Hfin := (Entails.of_eq (dn0_eq m d)) $$ Hdn
  imodintro
  isplitl [Hst]; · iexact Hst
  isplitl [Hfin]; · iexact Hfin
  isplitl [Hb] <;> iassumption

def fq (d : Dev nD) (s' : Phys nD τ sig (Elt F)) : Prop :=
  s'.mem.mem (yLoc d) = m (yLoc d) ∧ s'.mem.mem (dLoc d) = m (dLoc d) ∧ s'.mem.mem (oLoc d) = G d m

set_option maxRecDepth 16384 in
theorem hfin (d : Dev nD) (s' : Phys nD τ sig (Elt F)) : iprop(FIN m d ∗ SI s') ⊢ (⌜fq m d s'⌝ : sProp 𝕄) := by
  iintro ⟨⟨Hy, Hd, Ho⟩, HSI⟩
  ihave H := (persistent_entails_right (SI_pointsTo_agree (st := s') (ℓ := yLoc d) (I := Finset.univ) (q := fullShare) (f := m (yLoc d)))) $$ [HSI Hy]
  · isplitl [HSI] <;> iassumption
  icases H with ⟨%h1, HSI, -⟩
  ihave H := (persistent_entails_right (SI_pointsTo_agree (st := s') (ℓ := dLoc d) (I := Finset.univ) (q := fullShare) (f := m (dLoc d)))) $$ [HSI Hd]
  · isplitl [HSI] <;> iassumption
  icases H with ⟨%h2, HSI, -⟩
  ihave H := (SI_pointsTo_agree (st := s') (ℓ := oLoc d) (I := Finset.univ) (q := fullShare) (f := G d m)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (yLoc c) = m (yLoc c) ∧ r.2.mem (dLoc c) = m (dLoc c) ∧ r.2.mem (oLoc c) = G c m) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Unsort

end
-- ==== Proof.Ref.lean ====
/-
  The reference: `ys[dest]` as one gather of whole rows, read at an index; and the precondition, read as a bound on
  the index array's words.
-/
module

public import proofs.«01_k».proof.Proof.Launch
public import Idealize.ShloMosaic.Lib.Pipeline.Value
public import proofs.«01_k».proof.Proof.Gen.ReferenceIdeal.Run
public import proofs.«01_k».proof.Proof.Gen.Reference.Run

@[expose] public section

noncomputable section

namespace Cert.Proof.Unsort

open Idealize.ShloMosaic Idealize.ShloMosaic.TcCoe Idealize.SL.Sem
open Cert.KernelIdeal

/-! ## A gather of whole rows -/

section Rows

variable {α : Type} {N C R w : ℕ}

/-- The dimension numbers of `x[i]` for `x : [N, C]` and `i : [R, 1]`: one whole row per start index. -/
abbrev rowDims (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![R, 1]⟩ ⟨2, ![R, C]⟩ [1] [0] [] [0] [] 1 ![1, C])
  (idx : IVec ⟨2, ![R, 1]⟩ w) (y : (⟨2, ![R, C]⟩ : Shape).Idx)

/-- Row `y 0` of the column of start indices. -/
abbrev colIx (y : (⟨2, ![R, C]⟩ : Shape).Idx) : (⟨2, ![R, 1]⟩ : Shape).Idx :=
  fun a => match a with | ⟨0, _⟩ => ⟨(y 0).val, (y 0).isLt⟩ | ⟨1, _⟩ => ⟨0, Nat.one_pos⟩

/-- The operand's row that result row `y 0` reads: its start index, clamped to the operand. -/
theorem row_coord : ((rowDims wf).operandIdx y idx 0).val = min (idx (colIx y)).toInt.toNat (N - 1) := by
  show (rowDims wf).start y idx 0 + (rowDims wf).batchCoord y 0 + (rowDims wf).offCoord y 0 = _
  rw [GatherDims.batchCoord_eq_zero _ _ _ List.not_mem_nil,
    GatherDims.offCoord_eq_zero _ _ _ (fun h => ((GatherDims.mem_sKept _ _).mp h).1 (List.mem_singleton.mpr rfl))]
  have hm : (0 : Fin 2) ∈ (rowDims wf).startIndexMap := List.mem_singleton.mpr rfl
  have hs : (rowDims wf).siIdx y ⟨List.idxOf (0 : Fin 2) (rowDims wf).startIndexMap, List.idxOf_lt_length_iff.2 hm⟩ = colIx y := by
    funext b
    match b with
    | ⟨0, _⟩ => exact Fin.ext rfl
    | ⟨1, _⟩ => exact Fin.ext rfl
  unfold GatherDims.start
  rw [dif_pos hm, hs]
  rfl

/-- The column is the result's own. -/
theorem col_coord : ((rowDims wf).operandIdx y idx 1).val = (y 1).val := by
  show (rowDims wf).start y idx 1 + (rowDims wf).batchCoord y 1 + (rowDims wf).offCoord y 1 = _
  have h1 : (1 : Fin 2) ∉ (rowDims wf).startIndexMap := fun h => Nat.one_ne_zero (congrArg Fin.val (List.mem_singleton.mp h))
  have h2 : (1 : Fin 2) ∈ (rowDims wf).sKept :=
    (GatherDims.mem_sKept _ _).mpr ⟨fun h => Nat.one_ne_zero (congrArg Fin.val (List.mem_singleton.mp h)), List.not_mem_nil⟩
  rw [GatherDims.batchCoord_eq_zero _ _ _ List.not_mem_nil]
  unfold GatherDims.start GatherDims.offCoord
  rw [dif_neg h1, dif_pos h2]
  show 0 + 0 + _ = _
  rw [Nat.zero_add]
  rfl

end Rows

/-! ## The reference's value -/

variable {F : FTy → Type} [FloatOps F]

/-- A word below 48640 reads the same signed. -/
theorem toInt_small (v : BitVec 32) (h : v.toNat < 48640) : v.toInt = (v.toNat : ℤ) := by
  rw [BitVec.toInt_eq_toNat_cond, if_pos (by omega)]

/-- A word below 48640 is its own index: it is not negative, so it is not wrapped round. -/
theorem wrap_eq (v : BitVec 32) (h : v.toNat < 48640) :
    Scalar.select (IntOp.cmpi .slt v 0#32) (IntOp.addi v 48640#32) v = v := by
  have hs : v.slt 0#32 = false := by
    rw [BitVec.slt_eq_decide, decide_eq_false_iff_not, toInt_small v h]
    have : (0#32 : BitVec 32).toInt = 0 := by decide
    omega
  show (if BitVec.ofBool (v.slt 0#32) = 1 then _ else v) = v
  rw [hs]; exact if_neg (by decide)

/-- A word that passes both comparisons of the precondition lies below 48640. -/
theorem ok_key (v : BitVec 32) (e : IntOp.andi (IntOp.cmpi .sge v 0#32) (IntOp.cmpi .slt v 48640#32) = 1#1) : v.toNat < 48640 := by
  have hand : ∀ a b : Bool, BitVec.ofBool a &&& BitVec.ofBool b = 1#1 → a = true ∧ b = true := by decide
  obtain ⟨h1, h2⟩ := hand ((0#32 : BitVec 32).sle v) (v.slt 48640#32) e
  rw [BitVec.sle_eq_decide, decide_eq_true_eq, BitVec.toInt_eq_toNat_cond] at h1
  rw [BitVec.slt_eq_decide, decide_eq_true_eq, BitVec.toInt_eq_toNat_cond] at h2
  rw [BitVec.toInt_eq_toNat_cond] at h1 h2
  simp only [BitVec.toNat_ofNat, Nat.reducePow, Nat.reduceMod] at h1 h2
  have := v.isLt
  split_ifs at h1 h2 <;> omega

/-- The precondition bounds every word of the index array. -/
theorem ok_of_pre (m : (ℓ : Loc nD τ sig) → Buf (Elt F) ℓ)
    (h : ∀ c : Dev nD, Cert.Pre_dest_in_rows.fn (F := F) (m (yLoc c)) (m (dLoc c)) = fun _ => 1#1) : PreOK m :=
  fun d j => ok_key _ (congrFun (h d) j)

/-- The reference's result, element by element: the table's row that the index array names. -/
theorem ref_val (x : FVec F Cert.ReferenceIdeal.S48640x1024 .f32) (i : IVec Cert.ReferenceIdeal.S32768 32)
    (hi : ∀ j, (i j).toNat < 48640) :
    Host.gather Cert.ReferenceIdeal.gather_S48640x1024_S32768x1_S32768x1024_1_0_n_n_0_1_11024 x
      (broadcastInDim Cert.ReferenceIdeal.S32768x1 ![0] Cert.ReferenceIdeal.Facts₀.bcast_S32768_S32768x1_0
        (select (cmpi .slt i (broadcastInDim Cert.ReferenceIdeal.S32768 ![] Cert.ReferenceIdeal.Facts₀.bcast_S_S32768 (constantI Cert.ReferenceIdeal.S_ 32 0#32)))
          (addi i (broadcastInDim Cert.ReferenceIdeal.S32768 ![] Cert.ReferenceIdeal.Facts₀.bcast_S_S32768 (constantI Cert.ReferenceIdeal.S_ 32 48640#32))) i))
      = fun z => x (yIx (i (dIx (z 0).val)).toNat (z 1).val) := by
  funext z
  show x (GatherDims.operandIdx (rowDims Cert.ReferenceIdeal.Facts₀.gather_S48640x1024_S32768x1_S32768x1024_1_0_n_n_0_1_11024_wf) z _) = _
  congr 1
  funext a
  have hz : (z 0).val < 32768 := (z 0).isLt
  have h := hi (dIx (z 0).val)
  refine Fin.ext ?_
  match a with
  | ⟨0, _⟩ =>
    refine (row_coord _ _ z).trans ?_
    have e : ∀ v : IVec Cert.ReferenceIdeal.S32768 32, broadcastInDim Cert.ReferenceIdeal.S32768x1 ![0] Cert.ReferenceIdeal.Facts₀.bcast_S32768_S32768x1_0 v (colIx z) = v (dIx (z 0).val) := by
      intro v
      refine broadcastInDim_apply _ _ v (colIx z) _ (fun a => ?_)
      match a with
      | ⟨0, _⟩ =>
        show (z 0).val % 32768 = if (32768 : ℕ) = 1 then 0 else (z 0).val
        rw [if_neg (by decide), Nat.mod_eq_of_lt hz]
    rw [e]
    show min (Scalar.select (IntOp.cmpi .slt (i (dIx (z 0).val)) 0#32) (IntOp.addi (i (dIx (z 0).val)) 48640#32) (i (dIx (z 0).val))).toInt.toNat (48640 - 1) = (i (dIx (z 0).val)).toNat % 48640
    rw [wrap_eq _ h, toInt_small _ h, Int.toNat_natCast, Nat.mod_eq_of_lt h]
    omega
  | ⟨1, _⟩ =>
    refine (col_coord _ _ z).trans ?_
    have : (z 1).val < 1024 := (z 1).isLt
    show (z 1).val = (z 1).val % 1024
    omega

end Cert.Proof.Unsort

end
-- ==== Proof.AttnTile.lean ====
/-
  THE ATTENTION STEP OF ONE BLOCK, AS ONE FUNCTION OF THE BLOCKS IT READS. The kernel takes a block of 2048 rows as eight
  slabs of 256 rows and does the same to each: the root-mean-square norm, the query projection, four heads of softmax attention over
  the 256 memory slots, the output projection, the residual sum. `slabOut` is that step on one slab, at any float type;
  `blockOut` is the whole block; `out_first` and `out_next` say that what a grid point leaves in the result's
  staging buffer is `blockOut` of the blocks staged for it, at the first point and at every other.
-/
module

public import proofs.«01_k».proof.Proof.Gen.Kernel2Ideal.Frame
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Proof.Attn

open Cert.Kernel2Ideal Cert.Kernel2Ideal.Gen

variable {F : FTy → Type} [FloatOps F]

/-- The normed rows times the query weights. -/
def query (x : Vec F S1x256x1024 .f32) (g : Vec F S1x1024 .f32) (wq : Vec F S1024x1024 .bf16) : FVec F S256x1024 .bf16 :=
  k0_pay24 (k0_pay12 (k0_pay2 x) (k0_pay10 g) (k0_pay11 x) (Scalar.ofBits .f32 0x44800000#32)) wq

/-- One head's scores: its 256 columns of the queries times its keys, over 16. -/
def scores {o : Nat} (h : S256x1024.Slices ![0, o] S256x256) (q : FVec F S256x1024 .bf16) (k : Vec F S1x256x256 .bf16) :
    FVec F S256x256 .f32 :=
  mulf (matmul dot_S256x256_S256x256_S256x256_1_0_0_1_n_n none (extractStridedSlice S256x256 ![0, o] q h)
    (shapeCast S256x256 k shapeCasts_S1x256x256_S256x256) (constant S256x256 .f32 0x00000000#32))
    (broadcast S256x256 (Scalar.ofBits .f32 0x3D800000#32))

/-- One head's output: the exponentials of the shifted scores times the values, over the exponentials' sum. -/
def headOut (s : FVec F S256x256 .f32) (v : Vec F S1x256x256 .bf16) : FVec F S256x256 .bf16 :=
  k0_pay65 (k0_pay49 (k0_pay40 s)) (k0_pay58 (k0_pay41 (k0_pay40 s)) v)

/-- The four heads side by side. -/
def heads (q : FVec F S256x1024 .bf16) (kt : Vec F S1x1024x256 .bf16) (v : Vec F S1x256x1024 .bf16) : FVec F S256x1024 .bf16 :=
  concatenate S256x1024 1
    [⟨S256x256, headOut (scores slices_S256x1024_o0_0_S256x256 q
        (View.ld kt (Rect.unit (s := S1x1024x256) ![0, 0, 0] S1x256x256.size inb_S1x1024x256_S1x256x256_0_0_0)))
        (View.ld v (Rect.unit (s := S1x256x1024) ![0, 0, 0] S1x256x256.size inb_S1x256x1024_S1x256x256_0_0_0))⟩,
     ⟨S256x256, headOut (scores slices_S256x1024_o0_256_S256x256 q
        (View.ld kt (Rect.unit (s := S1x1024x256) ![0, 256, 0] S1x256x256.size inb_S1x1024x256_S1x256x256_0_256_0)))
        (View.ld v (Rect.unit (s := S1x256x1024) ![0, 0, 256] S1x256x256.size inb_S1x256x1024_S1x256x256_0_0_256))⟩,
     ⟨S256x256, headOut (scores slices_S256x1024_o0_512_S256x256 q
        (View.ld kt (Rect.unit (s := S1x1024x256) ![0, 512, 0] S1x256x256.size inb_S1x1024x256_S1x256x256_0_512_0)))
        (View.ld v (Rect.unit (s := S1x256x1024) ![0, 0, 512] S1x256x256.size inb_S1x256x1024_S1x256x256_0_0_512))⟩,
     ⟨S256x256, headOut (scores slices_S256x1024_o0_768_S256x256 q
        (View.ld kt (Rect.unit (s := S1x1024x256) ![0, 768, 0] S1x256x256.size inb_S1x1024x256_S1x256x256_0_768_0)))
        (View.ld v (Rect.unit (s := S1x256x1024) ![0, 0, 768] S1x256x256.size inb_S1x256x1024_S1x256x256_0_0_768))⟩]
    concatenates_S256x256_S256x256_S256x256_S256x256_S256x1024_d1

/-- The step on one slab of 256 rows. -/
def slabOut (x : Vec F S1x256x1024 .f32) (kt : Vec F S1x1024x256 .bf16) (v : Vec F S1x256x1024 .bf16) (g : Vec F S1x1024 .f32)
    (wq wo : Vec F S1024x1024 .bf16) : FVec F S1x256x1024 .f32 :=
  k0_pay198 (k0_pay188 (k0_pay2 x) (heads (query x g wq) kt v) wo)

/-- Rows `256 j … 256 j + 255` of a block. -/
def slab (x : Vec F S1x2048x1024 .f32) (j : Nat) (hj : j < 8) : Vec F S1x256x1024 .f32 := fun z =>
  x (ix3 (0 : Fin 1) (⟨256 * j + (z 1).val, by have h : (z 1).val < 256 := (z 1).isLt; omega⟩ : Fin 2048) (z 2 : Fin 1024))

/-- Where an index of the block falls in its slab. -/
def within (y : S1x2048x1024.Idx) : S1x256x1024.Idx :=
  ix3 (0 : Fin 1) (⟨(y 1).val % 256, Nat.mod_lt _ (by decide)⟩ : Fin 256) (y 2 : Fin 1024)

/-- The step on a whole block of 2048 rows. -/
def blockOut (x : Vec F S1x2048x1024 .f32) (kt : Vec F S1x1024x256 .bf16) (v : Vec F S1x256x1024 .bf16) (g : Vec F S1x1024 .f32)
    (wq wo : Vec F S1024x1024 .bf16) : Vec F S1x2048x1024 .f32 := fun y =>
  slabOut (slab x ((y 1).val / 256) (by have h : (y 1).val < 2048 := (y 1).isLt; omega)) kt v g wq wo (within y)

/-- One store's piece is its slab of the block. -/
theorem piece (x : Vec F S1x2048x1024 .f32) (kt : Vec F S1x1024x256 .bf16) (v : Vec F S1x256x1024 .bf16) (g : Vec F S1x1024 .f32)
    (wq wo : Vec F S1024x1024 .bf16) (o j : Nat) (ho : o = 256 * j) (hj : j < 8) (inb : ∀ a, ![0, o, 0] a + S1x256x1024.size a ≤ S1x2048x1024.size a)
    (z : S1x256x1024.Idx) :
    slabOut (View.ld x (Rect.unit (s := S1x2048x1024) ![0, o, 0] S1x256x1024.size inb)) kt v g wq wo z
      = blockOut x kt v g wq wo ((Rect.unit (s := S1x2048x1024) ![0, o, 0] S1x256x1024.size inb).emb z) := by
  subst ho
  have hz : (z 1).val < 256 := (z 1).isLt
  have h1 : (((Rect.unit (s := S1x2048x1024) ![0, 256 * j, 0] S1x256x1024.size inb).emb z) 1).val = 256 * j + 1 * (z 1).val := rfl
  have hj' : (((Rect.unit (s := S1x2048x1024) ![0, 256 * j, 0] S1x256x1024.size inb).emb z) 1).val / 256 = j := by rw [h1]; omega
  have hw : within ((Rect.unit (s := S1x2048x1024) ![0, 256 * j, 0] S1x256x1024.size inb).emb z) = z := by
    funext a; apply Fin.ext
    match a with
    | ⟨0, h⟩ => exact (Nat.lt_one_iff.mp (show (z ⟨0, h⟩).val < 1 from (z ⟨0, h⟩).isLt)).symm
    | ⟨1, _⟩ => show _ % 256 = (z 1).val; rw [h1]; omega
    | ⟨2, _⟩ => show 0 + 1 * (z 2).val = (z 2).val; omega
  have hs : View.ld x (Rect.unit (s := S1x2048x1024) ![0, 256 * j, 0] S1x256x1024.size inb) = slab x j hj := by
    funext w
    refine congrArg x (funext fun a => Fin.ext ?_)
    match a with
    | ⟨0, h⟩ => show 0 + 1 * (w ⟨0, h⟩).val = 0; have := (w ⟨0, h⟩).isLt; have h' : (w ⟨0, h⟩).val < 1 := this; omega
    | ⟨1, h⟩ => show 256 * j + 1 * (w ⟨1, h⟩).val = 256 * j + (w ⟨1, h⟩).val; omega
    | ⟨2, h⟩ => show 0 + 1 * (w ⟨2, h⟩).val = (w ⟨2, h⟩).val; omega
  rw [hs]
  unfold blockOut
  rw [hw]
  congr 2
  exact hj'.symm

theorem hz2 : (![0, 0] : Fin 2 → Nat) = fun _ => 0 := funext fun a => by fin_cases a <;> rfl

variable [Named F]

/-- What every grid point but the first leaves. -/
theorem out_next (c : Dev nD) (i : grid0.Coords) (arg2 : Memref sig .tc .vmem S1x2048x1024 .f32) (harg2 : arg2.IsWhole) (arg3 : Memref sig .tc .vmem S1x1024x256 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S128x1 .f32) (harg10 : arg10.IsWhole) (arg11 : Memref sig .tc .vmem S1x2048x1024 .f32) (harg11 : arg11.IsWhole) (arg12 : Memref sig .tc .vmem S8x2048 .f32) (harg12 : arg12.IsWhole) (arg13 : Memref sig .tc .vmem S128x1 .f32) (harg13 : arg13.IsWhole) (arg14 : Memref sig .tc .vmem S128x1 .f32) (harg14 : arg14.IsWhole) (hc0 : ¬cond0_0 i)
    (x0 : Vec F S1x2048x1024 .f32) (x1 : Vec F S1x1024x256 .bf16) (x2 : Vec F S1x256x1024 .bf16) (x3 : Vec F S1x1024 .f32) (x4 : Vec F S1024x1024 .bf16) (x5 : Vec F S1024x1024 .bf16) (x6 : Vec F S1x1024 .f32) (x7 : Vec F S128x1024 .bf16) (x8 : Vec F S128x1 .f32) (xs0 : Vec F S128x1 .f32) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 = blockOut x0 x1 x2 x3 x4 x5 := by
  funext y
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0)]
  refine View.canon_apply_of_pieces (blockOut x0 x1 x2 x3 x4 x5) _ ?_ y (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 y)
  unfold kernelRun0_B
  dsimp only
  sl_unfold_words
  simp only [View.readAt_eq_ld]
  rw [harg2.read_unread x0, harg3.read_unread x1, harg4.read_unread x2, harg5.read_unread x3, harg6.read_unread x4, harg7.read_unread x5]
  rw [View.ld_unit_zero (S := S1x1024) hz2 _ x3, View.ld_unit_zero (S := S1024x1024) hz2 _ x4, View.ld_unit_zero (S := S1024x1024) hz2 _ x5]
  intro p hp z
  simp only [List.mem_cons, List.not_mem_nil, or_false] at hp
  rcases hp with rfl | rfl | rfl | rfl | rfl | rfl | rfl | rfl
  · exact piece x0 x1 x2 x3 x4 x5 1792 7 rfl (by decide) inb_S1x2048x1024_S1x256x1024_0_1792_0 z
  · exact piece x0 x1 x2 x3 x4 x5 1536 6 rfl (by decide) inb_S1x2048x1024_S1x256x1024_0_1536_0 z
  · exact piece x0 x1 x2 x3 x4 x5 1280 5 rfl (by decide) inb_S1x2048x1024_S1x256x1024_0_1280_0 z
  · exact piece x0 x1 x2 x3 x4 x5 1024 4 rfl (by decide) inb_S1x2048x1024_S1x256x1024_0_1024_0 z
  · exact piece x0 x1 x2 x3 x4 x5 768 3 rfl (by decide) inb_S1x2048x1024_S1x256x1024_0_768_0 z
  · exact piece x0 x1 x2 x3 x4 x5 512 2 rfl (by decide) inb_S1x2048x1024_S1x256x1024_0_512_0 z
  · exact piece x0 x1 x2 x3 x4 x5 256 1 rfl (by decide) inb_S1x2048x1024_S1x256x1024_0_256_0 z
  · exact piece x0 x1 x2 x3 x4 x5 0 0 rfl (by decide) inb_S1x2048x1024_S1x256x1024_0_0_0 z

/-- What the first grid point leaves. -/
theorem out_first (c : Dev nD) (i : grid0.Coords) (arg2 : Memref sig .tc .vmem S1x2048x1024 .f32) (harg2 : arg2.IsWhole) (arg3 : Memref sig .tc .vmem S1x1024x256 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S128x1 .f32) (harg10 : arg10.IsWhole) (arg11 : Memref sig .tc .vmem S1x2048x1024 .f32) (harg11 : arg11.IsWhole) (arg12 : Memref sig .tc .vmem S8x2048 .f32) (harg12 : arg12.IsWhole) (arg13 : Memref sig .tc .vmem S128x1 .f32) (harg13 : arg13.IsWhole) (arg14 : Memref sig .tc .vmem S128x1 .f32) (harg14 : arg14.IsWhole) (hc0 : cond0_0 i)
    (x0 : Vec F S1x2048x1024 .f32) (x1 : Vec F S1x1024x256 .bf16) (x2 : Vec F S1x256x1024 .bf16) (x3 : Vec F S1x1024 .f32) (x4 : Vec F S1024x1024 .bf16) (x5 : Vec F S1024x1024 .bf16) (x6 : Vec F S1x1024 .f32) (x7 : Vec F S128x1024 .bf16) (x8 : Vec F S128x1 .f32) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = blockOut x0 x1 x2 x3 x4 x5 := by
  funext y
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  refine View.canon_apply_of_pieces (blockOut x0 x1 x2 x3 x4 x5) _ ?_ y (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 y)
  unfold kernelRun0_A
  dsimp only
  sl_unfold_words
  simp only [View.readAt_eq_ld]
  rw [harg2.read_unread x0, harg3.read_unread x1, harg4.read_unread x2, harg5.read_unread x3, harg6.read_unread x4, harg7.read_unread x5]
  rw [View.ld_unit_zero (S := S1x1024) hz2 _ x3, View.ld_unit_zero (S := S1024x1024) hz2 _ x4, View.ld_unit_zero (S := S1024x1024) hz2 _ x5]
  intro p hp z
  simp only [List.mem_cons, List.not_mem_nil, or_false] at hp
  rcases hp with rfl | rfl | rfl | rfl | rfl | rfl | rfl | rfl
  · exact piece x0 x1 x2 x3 x4 x5 1792 7 rfl (by decide) inb_S1x2048x1024_S1x256x1024_0_1792_0 z
  · exact piece x0 x1 x2 x3 x4 x5 1536 6 rfl (by decide) inb_S1x2048x1024_S1x256x1024_0_1536_0 z
  · exact piece x0 x1 x2 x3 x4 x5 1280 5 rfl (by decide) inb_S1x2048x1024_S1x256x1024_0_1280_0 z
  · exact piece x0 x1 x2 x3 x4 x5 1024 4 rfl (by decide) inb_S1x2048x1024_S1x256x1024_0_1024_0 z
  · exact piece x0 x1 x2 x3 x4 x5 768 3 rfl (by decide) inb_S1x2048x1024_S1x256x1024_0_768_0 z
  · exact piece x0 x1 x2 x3 x4 x5 512 2 rfl (by decide) inb_S1x2048x1024_S1x256x1024_0_512_0 z
  · exact piece x0 x1 x2 x3 x4 x5 256 1 rfl (by decide) inb_S1x2048x1024_S1x256x1024_0_256_0 z
  · exact piece x0 x1 x2 x3 x4 x5 0 0 rfl (by decide) inb_S1x2048x1024_S1x256x1024_0_0_0 z

end Cert.Proof.Attn
-- ==== Proof.AttnSoft.lean ====
/-
  THE ATTENTION OF ONE ROW OVER THE EXTENDED REALS, and why dividing the weighted sum by the exponentials' total (the kernel)
  equals weighting by the divided exponentials (the reference): the total is a positive real whenever the row, the gain,
  the query weights and the keys are finite.
-/
module

public import Idealize.ShloMosaic.PureOps.Ideal.Laws

@[expose] public section

noncomputable section

open Idealize.ShloMosaic
open scoped BigOperators

namespace Cert.Proof.Attn

/-- The printed constants: 1024, the norm's epsilon, 1/16 and minus infinity. -/
def c1024 : EReal := Ideal.ofBits .f32 0x44800000#32
def cEps : EReal := Ideal.ofBits .f32 0x358637BD#32
def c16 : EReal := Ideal.ofBits .f32 0x3D800000#32
def cBot : EReal := Ideal.ofBits .f32 0xFF800000#32

theorem c1024_eq : c1024 = ((1024 : ℝ) : EReal) := by
  simp [c1024, Ideal.ofBits, Ideal.ieee, -EReal.coe_mul]; norm_num
theorem c16_eq : c16 = ((1 / 16 : ℝ) : EReal) := by
  simp [c16, Ideal.ofBits, Ideal.ieee, -EReal.coe_mul]; norm_num
theorem cBot_eq : cBot = ⊥ := by simp [cBot, Ideal.ofBits, Ideal.ieee]
theorem cEps_eq : ∃ e : ℝ, 0 < e ∧ cEps = (e : EReal) := by
  refine ⟨_, ?_, by simp [cEps, Ideal.ofBits, Ideal.ieee, -EReal.coe_mul]; rfl⟩
  norm_num

/-! ## One row -/

section Row

variable (x g : Fin 1024 → EReal) (wq : Fin 1024 → Fin 1024 → EReal) (kt : Fin 1024 → Fin 256 → EReal) (v : Fin 256 → Fin 1024 → EReal)

/-- The reciprocal root mean square. -/
def inv : EReal := Ideal.rsqrt (Ideal.div (∑ k, x k * x k) c1024 + cEps)
/-- The normed row. -/
def normed (k : Fin 1024) : EReal := x k * inv x * g k
/-- The queries. -/
def quer (j : Fin 1024) : EReal := ∑ k, normed x g k * wq k j
/-- Column `256 a + e`, head `a`'s `e`-th. -/
def col (a : Fin 4) (e : Fin 256) : Fin 1024 := ⟨256 * a.val + e.val, by omega⟩
/-- Head `a`'s score of slot `s`. -/
def score (a : Fin 4) (s : Fin 256) : EReal := (∑ e, quer x g wq (col a e) * kt (col a e) s) * c16
/-- The greatest score. -/
def top (a : Fin 4) : EReal := (Finset.univ : Finset (Fin 256)).fold max cBot (score x g wq kt a)
/-- The exponentials of the shifted scores … -/
def wt (a : Fin 4) (s : Fin 256) : EReal := Ideal.exp (score x g wq kt a s - top x g wq kt a)
/-- … and their total. -/
def total (a : Fin 4) : EReal := ∑ s, wt x g wq kt a s
/-- What the kernel computes: divide after summing. -/
def attnLate (a : Fin 4) (e : Fin 256) : EReal := Ideal.div (∑ s, wt x g wq kt a s * v s (col a e)) (total x g wq kt a)
/-- What the reference computes: divide before summing. -/
def attnEarly (a : Fin 4) (e : Fin 256) : EReal := ∑ s, v s (col a e) * Ideal.div (wt x g wq kt a s) (total x g wq kt a)

end Row

/-! ## Finite numbers -/

/-- An extended real that is a real. -/
def Fin' (x : EReal) : Prop := ∃ r : ℝ, x = (r : EReal)

theorem Fin'.mul {x y : EReal} : Fin' x → Fin' y → Fin' (x * y) := by
  rintro ⟨a, rfl⟩ ⟨b, rfl⟩; exact ⟨a * b, (EReal.coe_mul a b).symm⟩
theorem Fin'.add {x y : EReal} : Fin' x → Fin' y → Fin' (x + y) := by
  rintro ⟨a, rfl⟩ ⟨b, rfl⟩; exact ⟨a + b, (EReal.coe_add a b).symm⟩
theorem Fin'.sub {x y : EReal} : Fin' x → Fin' y → Fin' (x - y) := by
  rintro ⟨a, rfl⟩ ⟨b, rfl⟩; exact ⟨a - b, (EReal.coe_sub a b).symm⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Fin'.sum {ι : Type} [Fintype ι] {f : ι → EReal} (h : ∀ i, Fin' (f i)) : Fin' (∑ i, f i) := by
  choose r hr using h
  exact ⟨∑ i, r i, by rw [← coe_sum]; exact Finset.sum_congr rfl fun i _ => hr i⟩

theorem fin'_iff {x : EReal} : Fin' x ↔ x ≠ ⊤ ∧ x ≠ ⊥ := by
  constructor
  · rintro ⟨r, rfl⟩; exact ⟨EReal.coe_ne_top r, EReal.coe_ne_bot r⟩
  · rintro ⟨h, h'⟩; exact ⟨x.toReal, (EReal.coe_toReal h h').symm⟩

/-- The greatest of the scores, from minus infinity, is finite when they are. -/
theorem Fin'.max {n : ℕ} [NeZero n] {f : Fin n → EReal} (h : ∀ i, Fin' (f i)) :
    Fin' ((Finset.univ : Finset (Fin n)).fold max cBot f) := by
  rw [fin'_iff, cBot_eq]
  constructor
  · refine ne_of_lt ((Finset.fold_max_lt _).mpr ⟨bot_lt_top, fun i _ => lt_top_iff_ne_top.mpr (fin'_iff.mp (h i)).1⟩)
  · refine ne_of_gt ((Finset.lt_fold_max _).mpr (Or.inr ⟨0, Finset.mem_univ _, bot_lt_iff_ne_bot.mpr (fin'_iff.mp (h 0)).2⟩))

/-- A nonnegative real distributes over a sum of any extended reals. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem div_real (x : EReal) (r : ℝ) (hr : r ≠ 0) : Ideal.div x (r : EReal) = x * ((r⁻¹ : ℝ) : EReal) := by
  unfold Ideal.div
  rw [if_neg (by exact_mod_cast hr), EReal.coe_inv]

section Row

variable {x g : Fin 1024 → EReal} {wq : Fin 1024 → Fin 1024 → EReal} {kt : Fin 1024 → Fin 256 → EReal}

/-- The reciprocal root mean square of a finite row is finite: the mean square plus epsilon is positive. -/
theorem fin_inv (hx : ∀ k, Fin' (x k)) : Fin' (inv x) := by
  choose r hr using hx
  obtain ⟨e, he, hE⟩ := cEps_eq
  have hs : ∑ k, x k * x k = ((∑ k, r k * r k : ℝ) : EReal) := by
    rw [← coe_sum]; exact Finset.sum_congr rfl fun k _ => by rw [hr k, EReal.coe_mul]
  have hp : 0 < (∑ k, r k * r k) * (1024 : ℝ)⁻¹ + e := by
    have := Finset.sum_nonneg (s := Finset.univ) fun k (_ : k ∈ (Finset.univ : Finset (Fin 1024))) => mul_self_nonneg (r k)
    positivity
  unfold inv
  rw [hs, c1024_eq, div_real _ _ (by norm_num), hE, ← EReal.coe_mul, ← EReal.coe_add]
  show Fin' (if _ then _ else if _ then _ else _)
  rw [if_neg (not_lt.mpr hp.le), if_neg hp.ne']
  exact ⟨_, rfl⟩

theorem fin_score (hx : ∀ k, Fin' (x k)) (hg : ∀ k, Fin' (g k)) (hw : ∀ k j, Fin' (wq k j)) (hk : ∀ j s, Fin' (kt j s))
    (a : Fin 4) (s : Fin 256) : Fin' (score x g wq kt a s) := by
  refine Fin'.mul (Fin'.sum fun e => Fin'.mul (Fin'.sum fun k => ?_) (hk _ _)) ⟨_, c16_eq⟩
  exact (((hx k).mul (fin_inv hx)).mul (hg k)).mul (hw _ _)

/-- Each exponential is a positive real. -/
theorem pos_wt (hx : ∀ k, Fin' (x k)) (hg : ∀ k, Fin' (g k)) (hw : ∀ k j, Fin' (wq k j)) (hk : ∀ j s, Fin' (kt j s))
    (a : Fin 4) (s : Fin 256) : ∃ r : ℝ, 0 < r ∧ wt x g wq kt a s = (r : EReal) := by
  obtain ⟨r, hr⟩ := (fin_score hx hg hw hk a s).sub (Fin'.max fun s => fin_score hx hg hw hk a s)
  exact ⟨Real.exp r, Real.exp_pos r, by unfold wt top; rw [hr]; rfl⟩

/-- So is their total. -/
theorem pos_total (hx : ∀ k, Fin' (x k)) (hg : ∀ k, Fin' (g k)) (hw : ∀ k j, Fin' (wq k j)) (hk : ∀ j s, Fin' (kt j s))
    (a : Fin 4) : ∃ r : ℝ, 0 < r ∧ total x g wq kt a = (r : EReal) := by
  choose r h0 hr using fun s => pos_wt hx hg hw hk a s
  refine ⟨∑ s, r s, Finset.sum_pos (fun s _ => h0 s) ⟨0, Finset.mem_univ _⟩, ?_⟩
  rw [← coe_sum]; exact Finset.sum_congr rfl fun s _ => hr s

/-- **Dividing after the sum or before it is the same.** -/
theorem late_eq_early (hx : ∀ k, Fin' (x k)) (hg : ∀ k, Fin' (g k)) (hw : ∀ k j, Fin' (wq k j)) (hk : ∀ j s, Fin' (kt j s))
    (v : Fin 256 → Fin 1024 → EReal) (a : Fin 4) (e : Fin 256) :
    attnLate x g wq kt v a e = attnEarly x g wq kt v a e := by
  obtain ⟨l, hl, hL⟩ := pos_total hx hg hw hk a
  unfold attnLate attnEarly
  rw [hL, div_real _ _ hl.ne', sum_mul_real _ _ _ (inv_nonneg.mpr hl.le)]
  refine Finset.sum_congr rfl fun s _ => ?_
  rw [div_real _ _ hl.ne', mul_comm (wt x g wq kt a s), mul_assoc]

end Row

end Cert.Proof.Attn
-- ==== Proof.AttnSlab.lean ====
/-
  THE SLAB'S STEP READ AT AN INDEX, at the ideal floats: row `r`, column `n` of what a slab leaves is the row's residual sum over its
  own attention, `rowOut` of AttnSoft's one-row functions.
-/
module

public import proofs.«01_k».proof.Proof.AttnTile
public import proofs.«01_k».proof.Proof.AttnSoft

@[expose] public section

set_option maxRecDepth 16384

noncomputable section

open Idealize.ShloMosaic Idealize.ShloMosaic.TcCoe
open scoped BigOperators

namespace Cert.Proof.Attn

open Cert.Kernel2Ideal Cert.Kernel2Ideal.Gen

theorem query_at (x : Vec Ideal S1x256x1024 .f32) (g : Vec Ideal S1x1024 .f32) (wq : Vec Ideal S1024x1024 .bf16) (r : Fin 256) (j : Fin 1024) :
    query (F := Ideal) x g wq (ix2 r j)
      = quer (fun k => x (ix3 0 r k)) (fun k => g (ix2 0 k)) (fun k j => wq (ix2 k j)) j := by
  unfold query
  pointwise [k0_pay24, k0_pay12, k0_pay2, k0_pay10, k0_pay11]
  rfl

theorem scores_at {o : Nat} (h : S256x1024.Slices ![0, o] S256x256) (q : FVec Ideal S256x1024 .bf16) (k : Vec Ideal S1x256x256 .bf16)
    (r s : Fin 256) (c : Fin 256 → Fin 1024) (hc : ∀ e, (c e).val = o + e.val) :
    scores (F := Ideal) h q k (ix2 r s) = (∑ e, q (ix2 r (c e)) * k (ix3 0 e s)) * c16 := by
  unfold scores
  pointwise
  refine congrArg (· * c16) (Finset.sum_congr rfl fun e _ => ?_)
  rw [show c e = ⟨o + e.val, by rw [← hc]; exact (c e).isLt⟩ from Fin.ext (hc e)]

theorem headOut_at (s : FVec Ideal S256x256 .f32) (v : Vec Ideal S1x256x256 .bf16) (r e : Fin 256) :
    headOut (F := Ideal) s v (ix2 r e)
      = Ideal.div
          (∑ k, Ideal.exp (s (ix2 r k) - (Finset.univ : Finset (Fin 256)).fold max cBot fun k => s (ix2 r k)) * v (ix3 0 k e))
          (∑ k, Ideal.exp (s (ix2 r k) - (Finset.univ : Finset (Fin 256)).fold max cBot fun k => s (ix2 r k))) := by
  unfold headOut
  pointwise [k0_pay65, k0_pay49, k0_pay40, k0_pay41, k0_pay58]
  rfl

theorem slabOut_at (x : Vec Ideal S1x256x1024 .f32) (kt : Vec Ideal S1x1024x256 .bf16) (v : Vec Ideal S1x256x1024 .bf16) (g : Vec Ideal S1x1024 .f32)
    (wq wo : Vec Ideal S1024x1024 .bf16) (z : Fin 1) (r : Fin 256) (n : Fin 1024) :
    slabOut (F := Ideal) x kt v g wq wo (ix3 z r n)
      = x (ix3 0 r n) + ∑ j, heads (F := Ideal) (query x g wq) kt v (ix2 r j) * wo (ix2 j n) := by
  unfold slabOut
  pointwise [k0_pay198, k0_pay188, k0_pay2]

/-- One head, from its own slices of the keys and values. -/
theorem head_at (x : Vec Ideal S1x256x1024 .f32) (kt : Vec Ideal S1x1024x256 .bf16) (v : Vec Ideal S1x256x1024 .bf16) (g : Vec Ideal S1x1024 .f32)
    (wq : Vec Ideal S1024x1024 .bf16) (r : Fin 256) (a : Fin 4) (e : Fin 256) (o : Nat) (ho : o = 256 * a.val)
    (h : S256x1024.Slices ![0, o] S256x256)
    (hk : ∀ i, ![0, o, 0] i + S1x256x256.size i ≤ S1x1024x256.size i) (hv : ∀ i, ![0, 0, o] i + S1x256x256.size i ≤ S1x256x1024.size i) :
    headOut (F := Ideal) (scores h (query x g wq) (View.ld kt (Rect.unit (s := S1x1024x256) ![0, o, 0] S1x256x256.size hk)))
        (View.ld v (Rect.unit (s := S1x256x1024) ![0, 0, o] S1x256x256.size hv)) (ix2 r e)
      = attnLate (fun k => x (ix3 0 r k)) (fun k => g (ix2 0 k)) (fun k j => wq (ix2 k j)) (fun j s => kt (ix3 0 j s))
          (fun s j => v (ix3 0 s j)) a e := by
  have hs : ∀ s, scores (F := Ideal) h (query x g wq) (View.ld kt (Rect.unit (s := S1x1024x256) ![0, o, 0] S1x256x256.size hk)) (ix2 r s)
      = score (fun k => x (ix3 0 r k)) (fun k => g (ix2 0 k)) (fun k j => wq (ix2 k j)) (fun j s => kt (ix3 0 j s)) a s := by
    intro s
    rw [scores_at h _ _ r s (col a) (fun e => by show 256 * a.val + e.val = _; omega)]
    refine congrArg (· * c16) (Finset.sum_congr rfl fun e _ => ?_)
    rw [query_at]
    refine congrArg (_ * ·) (congrArg kt (funext fun b => Fin.ext ?_))
    match b with
    | ⟨0, _⟩ => rfl
    | ⟨1, _⟩ => show o + 1 * e.val = 256 * a.val + e.val; omega
    | ⟨2, _⟩ => show 0 + 1 * s.val = s.val; omega
  rw [headOut_at]
  simp only [hs]
  have hV : ∀ s, View.ld v (Rect.unit (s := S1x256x1024) ![0, 0, o] S1x256x256.size hv) (ix3 0 s e) = v (ix3 0 s (col a e)) := by
    intro s
    refine congrArg v (funext fun b => Fin.ext ?_)
    match b with
    | ⟨0, _⟩ => rfl
    | ⟨1, _⟩ => show 0 + 1 * s.val = s.val; omega
    | ⟨2, _⟩ => show o + 1 * e.val = 256 * a.val + e.val; omega
  simp only [hV]
  rfl

/-- The four heads side by side are the row's attention. -/
theorem heads_at (x : Vec Ideal S1x256x1024 .f32) (kt : Vec Ideal S1x1024x256 .bf16) (v : Vec Ideal S1x256x1024 .bf16) (g : Vec Ideal S1x1024 .f32)
    (wq : Vec Ideal S1024x1024 .bf16) (r : Fin 256) (a : Fin 4) (e : Fin 256) :
    heads (F := Ideal) (query x g wq) kt v (ix2 r (col a e))
      = attnLate (fun k => x (ix3 0 r k)) (fun k => g (ix2 0 k)) (fun k j => wq (ix2 k j)) (fun j s => kt (ix3 0 j s))
          (fun s j => v (ix3 0 s j)) a e := by
  unfold heads
  match a with
  | ⟨0, h0⟩ =>
    rw [← head_at x kt v g wq r ⟨0, h0⟩ e 0 rfl slices_S256x1024_o0_0_S256x256 inb_S1x1024x256_S1x256x256_0_0_0 inb_S1x256x1024_S1x256x256_0_0_0]
    exact concatenate_apply_piece (t := S256x1024) 1 _ _ _ 0 (Nat.lt_of_sub_pos (by exact Nat.zero_lt_succ _)) S256x256 _ rfl rfl 0 rfl (ix2 r e) (fun b hb => match b with
      | ⟨0, _⟩ => rfl
      | ⟨1, _⟩ => absurd rfl hb) (by show 0 + e.val = 256 * 0 + e.val; omega)
  | ⟨1, h0⟩ =>
    rw [← head_at x kt v g wq r ⟨1, h0⟩ e 256 rfl slices_S256x1024_o0_256_S256x256 inb_S1x1024x256_S1x256x256_0_256_0 inb_S1x256x1024_S1x256x256_0_0_256]
    exact concatenate_apply_piece (t := S256x1024) 1 _ _ _ 1 (Nat.lt_of_sub_pos (by exact Nat.zero_lt_succ _)) S256x256 _ rfl rfl 256 rfl (ix2 r e) (fun b hb => match b with
      | ⟨0, _⟩ => rfl
      | ⟨1, _⟩ => absurd rfl hb) (by show 256 + e.val = 256 * 1 + e.val; omega)
  | ⟨2, h0⟩ =>
    rw [← head_at x kt v g wq r ⟨2, h0⟩ e 512 rfl slices_S256x1024_o0_512_S256x256 inb_S1x1024x256_S1x256x256_0_512_0 inb_S1x256x1024_S1x256x256_0_0_512]
    exact concatenate_apply_piece (t := S256x1024) 1 _ _ _ 2 (Nat.lt_of_sub_pos (by exact Nat.zero_lt_succ _)) S256x256 _ rfl rfl 512 rfl (ix2 r e) (fun b hb => match b with
      | ⟨0, _⟩ => rfl
      | ⟨1, _⟩ => absurd rfl hb) (by show 512 + e.val = 256 * 2 + e.val; omega)
  | ⟨3, h0⟩ =>
    rw [← head_at x kt v g wq r ⟨3, h0⟩ e 768 rfl slices_S256x1024_o0_768_S256x256 inb_S1x1024x256_S1x256x256_0_768_0 inb_S1x256x1024_S1x256x256_0_0_768]
    exact concatenate_apply_piece (t := S256x1024) 1 _ _ _ 3 (Nat.lt_of_sub_pos (by exact Nat.zero_lt_succ _)) S256x256 _ rfl rfl 768 rfl (ix2 r e) (fun b hb => match b with
      | ⟨0, _⟩ => rfl
      | ⟨1, _⟩ => absurd rfl hb) (by show 768 + e.val = 256 * 3 + e.val; omega)

end Cert.Proof.Attn
-- ==== Proof.AttnBlock.lean ====
/-
  WHAT THE ATTENTION CALL'S RESULT ARRAY ENDS HOLDING. Grid point `t` of the sixteen takes batch `t / 2`, rows
  `2048 (t % 2) …`; `at_point` says what it leaves is `blockOut` of the blocks staged for it, and the last lemmas read those
  blocks off the launch's arrays.
-/
module

public import proofs.«01_k».proof.Proof.AttnTile
public import proofs.«01_k».proof.Proof.Gen.Kernel2Ideal.Value
public import Idealize.ShloMosaic.PureOps.Ideal.Laws
public import Idealize.ShloMosaic.Lib.StableHlo.RunRead
public import Idealize.ShloMosaic.Lib.Tactic
public import Idealize.ShloMosaic.Lib.Claim

@[expose] public section

set_option maxRecDepth 16384

noncomputable section

open Idealize.ShloMosaic Idealize.ShloMosaic.TcCoe Idealize.SL.Sem

namespace Cert.Proof.Attn

open Cert.Kernel2Ideal Cert.Kernel2Ideal.Gen Cert.Kernel2Ideal.Value

section AnyFloat

variable {F : FTy → Type} [FloatOps F] [Named F]
variable (m : (ℓ : Loc nD τ sig) → Buf (Elt F) ℓ)

/-- One point's step leaves the block's attention, whatever it found. -/
theorem step_eq (c : Dev nD) (t : Fin cfg0.N) (acc) :
    (stAt0 m c t.val t.isLt acc).1
      = blockOut (iblk m c 0 t) (iblk m c 1 t) (iblk m c 2 t) (iblk m c 3 t) (iblk m c 4 t) (iblk m c 5 t) := by
  by_cases h0 : t.val % 16 = 0
  · rw [stAt0_A m c t acc h0]
    dsimp only
    rw [out_first]
  · rw [stAt0_B m c t acc h0]
    dsimp only
    rw [out_next]

/-- So point `n` leaves its block's attention. -/
theorem at_point (c : Dev nD) (n : ℕ) (hn : n < cfg0.N) (h : 0 + n < cfg0.N) :
    (Pipeline.accAt (fun n h => stAt0 m c n h junk0) (stAt0 m c) 0 n h).1
      = blockOut (iblk m c 0 ⟨n, hn⟩) (iblk m c 1 ⟨n, hn⟩) (iblk m c 2 ⟨n, hn⟩) (iblk m c 3 ⟨n, hn⟩) (iblk m c 4 ⟨n, hn⟩)
          (iblk m c 5 ⟨n, hn⟩) := by
  cases n with
  | zero => exact step_eq m c ⟨0, hn⟩ junk0
  | succ k =>
    rw [Pipeline.accAt_succ]
    generalize Pipeline.accAt (fun n h => stAt0 m c n h junk0) (stAt0 m c) 0 k _ = acc
    have e : 0 + (k + 1) = k + 1 := Nat.zero_add _
    have hs : ∀ (a : ℕ) (ha : a < cfg0.N), a = k + 1 → stAt0 m c a ha acc = stAt0 m c (k + 1) hn acc := by
      intro a ha rfl; rfl
    rw [hs _ _ e]
    exact step_eq m c ⟨k + 1, hn⟩ acc

/-! ## The staged blocks, read off the launch's arrays -/

theorem index0 : ∀ t : Fin cfg0.N, win0_0.index t (0 : Fin 3) = t.val / 2 ∧ win0_0.index t (1 : Fin 3) = t.val % 2
    ∧ win0_0.index t (2 : Fin 3) = 0 := (by decide +kernel : ∀ t : Fin grid0.N, _)
theorem index1 : ∀ t : Fin cfg0.N, win0_1.index t (0 : Fin 3) = t.val / 2 ∧ win0_1.index t (1 : Fin 3) = 0
    ∧ win0_1.index t (2 : Fin 3) = 0 := (by decide +kernel : ∀ t : Fin grid0.N, _)
theorem index2 : ∀ t : Fin cfg0.N, win0_2.index t (0 : Fin 3) = t.val / 2 ∧ win0_2.index t (1 : Fin 3) = 0
    ∧ win0_2.index t (2 : Fin 3) = 0 := (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)

theorem lt16 (t : Fin cfg0.N) : t.val < 16 := lt_of_lt_of_eq t.isLt N_0

/-- The rows staged at point `t`. -/
theorem rows_at (c : Dev nD) (t : Fin cfg0.N) (z : Fin 1) (r : Fin 2048) (k : Fin 1024) :
    (iblk m c 0 t : Vec F S1x2048x1024 .f32) (ix3 z r k)
      = (m ((c : Thread nD τ).loc main_arg0) : Vec F S8x4096x1024 .f32)
          (ix3 (⟨t.val / 2, by have := lt16 t; omega⟩ : Fin 8) (⟨2048 * (t.val % 2) + r.val, by omega⟩ : Fin 4096) k) := by
  obtain ⟨e0, e1, e2⟩ := index0 t
  show V m c main_arg0 (((cfg0.win 0).blk t).view.emb (ix3 z r k)) = _
  rw [V_main_arg0]
  refine congrArg (m ((c : Thread nD τ).loc main_arg0)) (funext fun a => Fin.ext ?_)
  have hz := z.isLt
  match a with
  | ⟨0, _⟩ => show win0_0.index t (0 : Fin 3) * 1 + 1 * z.val = t.val / 2; omega
  | ⟨1, _⟩ => show win0_0.index t (1 : Fin 3) * 2048 + 1 * r.val = 2048 * (t.val % 2) + r.val; omega
  | ⟨2, _⟩ => show win0_0.index t (2 : Fin 3) * 1024 + 1 * k.val = k.val; omega

/-- The keys staged at point `t`. -/
theorem keys_at (c : Dev nD) (t : Fin cfg0.N) (z : Fin 1) (r : Fin 1024) (k : Fin 256) :
    (iblk m c 1 t : Vec F S1x1024x256 .bf16) (ix3 z r k)
      = (m ((c : Thread nD τ).loc main_arg1) : Vec F S8x1024x256 .bf16)
          (ix3 (⟨t.val / 2, by have := lt16 t; omega⟩ : Fin 8) r k) := by
  obtain ⟨e0, e1, e2⟩ := index1 t
  show V m c main_arg1 (((cfg0.win 1).blk t).view.emb (ix3 z r k)) = _
  rw [V_main_arg1]
  refine congrArg (m ((c : Thread nD τ).loc main_arg1)) (funext fun a => Fin.ext ?_)
  have hz := z.isLt
  match a with
  | ⟨0, _⟩ => show win0_1.index t (0 : Fin 3) * 1 + 1 * z.val = t.val / 2; omega
  | ⟨1, _⟩ => show win0_1.index t (1 : Fin 3) * 1024 + 1 * r.val = r.val; omega
  | ⟨2, _⟩ => show win0_1.index t (2 : Fin 3) * 256 + 1 * k.val = k.val; omega

/-- The values staged at point `t`. -/
theorem values_at (c : Dev nD) (t : Fin cfg0.N) (z : Fin 1) (r : Fin 256) (k : Fin 1024) :
    (iblk m c 2 t : Vec F S1x256x1024 .bf16) (ix3 z r k)
      = (m ((c : Thread nD τ).loc main_arg2) : Vec F S8x256x1024 .bf16)
          (ix3 (⟨t.val / 2, by have := lt16 t; omega⟩ : Fin 8) r k) := by
  obtain ⟨e0, e1, e2⟩ := index2 t
  show V m c main_arg2 (((cfg0.win 2).blk t).view.emb (ix3 z r k)) = _
  rw [V_main_arg2]
  refine congrArg (m ((c : Thread nD τ).loc main_arg2)) (funext fun a => Fin.ext ?_)
  have hz := z.isLt
  match a with
  | ⟨0, _⟩ => show win0_2.index t (0 : Fin 3) * 1 + 1 * z.val = t.val / 2; omega
  | ⟨1, _⟩ => show win0_2.index t (1 : Fin 3) * 256 + 1 * r.val = r.val; omega
  | ⟨2, _⟩ => show win0_2.index t (2 : Fin 3) * 1024 + 1 * k.val = k.val; omega

end AnyFloat

/-! ## At the ideal floats, the host's casts are the identity -/

variable (m : (ℓ : Loc nD τ sig) → Buf (Elt Ideal) ℓ)

/-- The gain staged at every point. -/
theorem gain_at (c : Dev nD) (t : Fin cfg0.N) (z : Fin 1) (k : Fin 1024) :
    (iblk m c 3 t : Vec Ideal S1x1024 .f32) (ix2 z k) = (m ((c : Thread nD τ).loc main_arg3) : Vec Ideal S1024 .f32) (ix1 k) := by
  obtain ⟨e0, e1⟩ := index3 t
  have hz := z.isLt
  have e : ((cfg0.win 3).blk t).view.emb (ix2 z k) = (ix2 z k : S1x1024.Idx) := by
    funext a; apply Fin.ext
    match a with
    | ⟨0, _⟩ => show win0_3.index t (0 : Fin 2) * 1 + 1 * z.val = z.val; omega
    | ⟨1, _⟩ => show win0_3.index t (1 : Fin 2) * 1024 + 1 * k.val = k.val; omega
  show V m c main_v10 (((cfg0.win 3).blk t).view.emb (ix2 z k)) = _
  rw [e]
  unfold_abbrev_sides
  after_reads_simp
  pointwise

/-- The query weights staged at every point. -/
theorem wq_at (c : Dev nD) (t : Fin cfg0.N) (r k : Fin 1024) :
    (iblk m c 4 t : Vec Ideal S1024x1024 .bf16) (ix2 r k) = (m ((c : Thread nD τ).loc main_arg4) : Vec Ideal S1024x1024 .f32) (ix2 r k) := by
  obtain ⟨e0, e1⟩ := index4 t
  have e : ((cfg0.win 4).blk t).view.emb (ix2 r k) = (ix2 r k : S1024x1024.Idx) := by
    funext a; apply Fin.ext
    match a with
    | ⟨0, _⟩ => show win0_4.index t (0 : Fin 2) * 1024 + 1 * r.val = r.val; omega
    | ⟨1, _⟩ => show win0_4.index t (1 : Fin 2) * 1024 + 1 * k.val = k.val; omega
  show V m c main_v11 (((cfg0.win 4).blk t).view.emb (ix2 r k)) = _
  rw [e]
  unfold_abbrev_sides
  after_reads_simp
  rfl

/-- The output weights staged at every point. -/
theorem wo_at (c : Dev nD) (t : Fin cfg0.N) (r k : Fin 1024) :
    (iblk m c 5 t : Vec Ideal S1024x1024 .bf16) (ix2 r k) = (m ((c : Thread nD τ).loc main_arg5) : Vec Ideal S1024x1024 .f32) (ix2 r k) := by
  obtain ⟨e0, e1⟩ := index5 t
  have e : ((cfg0.win 5).blk t).view.emb (ix2 r k) = (ix2 r k : S1024x1024.Idx) := by
    funext a; apply Fin.ext
    match a with
    | ⟨0, _⟩ => show win0_5.index t (0 : Fin 2) * 1024 + 1 * r.val = r.val; omega
    | ⟨1, _⟩ => show win0_5.index t (1 : Fin 2) * 1024 + 1 * k.val = k.val; omega
  show V m c main_v12 (((cfg0.win 5).blk t).view.emb (ix2 r k)) = _
  rw [e]
  unfold_abbrev_sides
  after_reads_simp
  rfl

end Cert.Proof.Attn
-- ==== Proof.AttnRef.lean ====
/-
  THE REFERENCE'S ATTENTION READ AT AN INDEX: batch `b`, row `r`, column `n` of its result is the same residual sum, over the attention that
  divides before it sums.
-/
module

public import proofs.«01_k».proof.Proof.AttnSoft
public import proofs.«01_k».proof.Proof.Gen.Reference2Ideal.Read
public import Idealize.ShloMosaic.Lib.Pointwise
public import Idealize.ShloMosaic.Lib.KernelVsHost

@[expose] public section

set_option maxRecDepth 16384

noncomputable section

open Idealize.ShloMosaic Idealize.ShloMosaic.TcCoe
open scoped BigOperators

namespace Cert.Proof.Attn

open Cert.Reference2Ideal Cert.Reference2Ideal.Read

variable (x0 : Vec Ideal S8x4096x1024 .f32) (x1 : Vec Ideal S8x1024x256 .bf16) (x2 : Vec Ideal S8x256x1024 .bf16) (x3 : Vec Ideal S1024 .f32)
  (x4 x5 : Vec Ideal S1024x1024 .f32)

/-- The row, the gain, the weights, the keys and the values of batch `b`, row `r`. -/
abbrev xrow (b : Fin 8) (r : Fin 4096) : Fin 1024 → EReal := fun k => x0 (ix3 b r k)
abbrev gvec : Fin 1024 → EReal := fun k => x3 (ix1 k)
abbrev wmat : Fin 1024 → Fin 1024 → EReal := fun k j => x4 (ix2 k j)
abbrev kmat (b : Fin 8) : Fin 1024 → Fin 256 → EReal := fun j s => x1 (ix3 b j s)
abbrev vmat (b : Fin 8) : Fin 256 → Fin 1024 → EReal := fun s j => x2 (ix3 b s j)

theorem ref_query (b : Fin 8) (r : Fin 4096) (j : Fin 1024) :
    val_main_v13 (F := Ideal) x0 x3 x4 (ix3 b r j) = quer (xrow x0 b r) (gvec x3) (wmat x4) j := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The reshape's column of head `a`. -/
theorem col_eq (a : Fin 4) (e : Fin 256) (h : a.val * 256 + e.val < 1024) : (⟨a.val * 256 + e.val, h⟩ : Fin 1024) = col a e :=
  Fin.ext (by show a.val * 256 + e.val = 256 * a.val + e.val; omega)

theorem ref_score (b : Fin 8) (a : Fin 4) (r : Fin 4096) (s : Fin 256) :
    val_main_v22 (F := Ideal) x0 x1 x3 x4 (ix4 b a r s)
      = score (xrow x0 b r) (gvec x3) (wmat x4) (kmat x1 b) a s := by
  pointwise [val_main_v22, val_main_v21, val_main_v20, val_main_v17, val_main_v16, val_main_v15, val_main_v14, val_main_cst_2]
  refine congrArg (· * c16) (Finset.sum_congr rfl fun e _ => ?_)
  rw [col_eq, ref_query]

/-- The host's maximum over the last axis, from minus infinity. -/
theorem ref_max (y : FVec Ideal S8x4x4096x256 .f32) (b : Fin 8) (a : Fin 4) (r : Fin 4096) :
    Host.reduce FloatOps.maximumf y (constant S_ .f32 0xFF800000#32) Gen.reducesTo_S8x4x4096x256_S8x4x4096_d3 Gen.h_S_ (ix3 b a r)
      = (Finset.univ : Finset (Fin 256)).fold max cBot fun s => y (ix4 b a r s) := by
  have h' : S8x4x4096x256.Reduces [3] S8x4x4096 := by decide
  refine (Host.reduce_eq_fold_single (max : EReal → EReal → EReal) y _ _ h' Gen.h_S_ (ix3 b a r)).trans ?_
  refine congrArg (fun f => (Finset.univ : Finset (Fin 256)).fold max cBot f) (funext fun s => congrArg y (funext fun c => Fin.ext ?_))
  match c with
  | ⟨0, _⟩ => rfl
  | ⟨1, _⟩ => rfl
  | ⟨2, _⟩ => rfl
  | ⟨3, _⟩ => rfl

/-- The weight's last step, over any scores `x` and any row maxima `y`. -/
theorem weight_step (x : FVec Ideal S8x4x4096x256 .f32) (y : FVec Ideal S8x4x4096 .f32) (b : Fin 8) (a : Fin 4) (r : Fin 4096) (s : Fin 256) :
    Host.exp (subf x (broadcastInDim S8x4x4096x256 ![0, 1, 2, 3] Gen.bcast_S8x4x4096x1_S8x4x4096x256_0_1_2_3
        (broadcastInDim S8x4x4096x1 ![0, 1, 2] Gen.bcast_S8x4x4096_S8x4x4096x1_0_1_2 (maximumf (val_main_v24 (F := Ideal)) y)))) (ix4 b a r s)
      = Ideal.exp (x (ix4 b a r s) - max cBot (y (ix3 b a r))) := by
  pointwise [val_main_v24, val_main_cst_4]
  rfl

theorem ref_weight (b : Fin 8) (a : Fin 4) (r : Fin 4096) (s : Fin 256) :
    val_main_v29 (F := Ideal) x0 x1 x3 x4 (ix4 b a r s)
      = wt (xrow x0 b r) (gvec x3) (wmat x4) (kmat x1 b) a s := by
  unfold val_main_v29 val_main_v28 val_main_v27 val_main_v26 val_main_v25
  have hm : val_main_v23 (F := Ideal) x0 x1 x3 x4 (ix3 b a r)
      = (Finset.univ : Finset (Fin 256)).fold max cBot (score (xrow x0 b r) (gvec x3) (wmat x4) (kmat x1 b) a) := by
    unfold val_main_v23 val_main_cst_3
    rw [ref_max]
    exact congrArg (fun f => (Finset.univ : Finset (Fin 256)).fold max cBot f) (funext fun s => ref_score x0 x1 x3 x4 b a r s)
  have hs := ref_score x0 x1 x3 x4 b a r s
  generalize val_main_v23 (F := Ideal) x0 x1 x3 x4 = y at hm ⊢
  generalize val_main_v22 (F := Ideal) x0 x1 x3 x4 = x at hs ⊢
  rw [weight_step, hm, hs]
  unfold wt top
  refine congrArg (fun u => Ideal.exp (score (xrow x0 b r) (gvec x3) (wmat x4) (kmat x1 b) a s - u)) ?_
  rw [cBot_eq]
  exact max_eq_right bot_le

theorem ref_head (b : Fin 8) (a : Fin 4) (r : Fin 4096) (e : Fin 256) :
    val_main_v36 (F := Ideal) x0 x1 x2 x3 x4 (ix3 b r (col a e))
      = attnEarly (xrow x0 b r) (gvec x3) (wmat x4) (kmat x1 b) (vmat x2 b) a e := by
  pointwise [val_main_v36, val_main_v35, val_main_v34, val_main_v33, val_main_v32, val_main_v31, val_main_v30, val_main_cst_5,
    val_main_v19, val_main_v18]
  have hd : ∀ h, (⟨(col a e).val / 256, h⟩ : Fin 4) = a := fun h => Fin.ext (by show (256 * a.val + e.val) / 256 = a.val; omega)
  simp only [hd, ref_weight]
  rfl

theorem ref_at (b : Fin 8) (r : Fin 4096) (n : Fin 1024) :
    val_main_v38 (F := Ideal) x0 x1 x2 x3 x4 x5 (ix3 b r n)
      = x0 (ix3 b r n) + ∑ j, val_main_v36 (F := Ideal) x0 x1 x2 x3 x4 (ix3 b r j) * x5 (ix2 j n) := by
  pointwise [val_main_v38, val_main_v37]

end Cert.Proof.Attn
-- ==== Proof.AttnMain.lean ====
/-
  THE TWO ATTENTIONS ARE ONE: at every index the array the kernel leaves is the reference's result, when the entries the scores are made of
  are real numbers.
-/
module

public import proofs.«01_k».proof.Proof.AttnSlab
public import proofs.«01_k».proof.Proof.AttnBlock
public import proofs.«01_k».proof.Proof.AttnRef

@[expose] public section

set_option maxRecDepth 16384

noncomputable section

open Idealize.ShloMosaic Idealize.ShloMosaic.TcCoe
open scoped BigOperators

namespace Cert.Proof.Attn

open Cert.Kernel2Ideal Cert.Kernel2Ideal.Gen Cert.Kernel2Ideal.Value

/-- Every column is some head's. -/
theorem col_split (j : Fin 1024) : ∃ (a : Fin 4) (e : Fin 256), j = col a e :=
  ⟨⟨j.val / 256, by omega⟩, ⟨j.val % 256, Nat.mod_lt _ (by decide)⟩, Fin.ext (by show j.val = 256 * (j.val / 256) + j.val % 256; omega)⟩

variable (m : (ℓ : Loc nD τ sig) → Buf (Elt Ideal) ℓ) (c : Dev nD)

/-- The launch's arrays. -/
abbrev a0 : Vec Ideal S8x4096x1024 .f32 := m ((c : Thread nD τ).loc main_arg0)
abbrev a1 : Vec Ideal S8x1024x256 .bf16 := m ((c : Thread nD τ).loc main_arg1)
abbrev a2 : Vec Ideal S8x256x1024 .bf16 := m ((c : Thread nD τ).loc main_arg2)
abbrev a3 : Vec Ideal S1024 .f32 := m ((c : Thread nD τ).loc main_arg3)
abbrev a4 : Vec Ideal S1024x1024 .f32 := m ((c : Thread nD τ).loc main_arg4)
abbrev a5 : Vec Ideal S1024x1024 .f32 := m ((c : Thread nD τ).loc main_arg5)

/-- The kernel's array at batch `b`, row `r`, column `n`. -/
theorem kernel_at (b : Fin 8) (r : Fin 4096) (n : Fin 1024) :
    G9 m c (ix3 b r n) = a0 m c (ix3 b r n) + ∑ j, (fun j : Fin 1024 => attnLate (xrow (a0 m c) b r) (gvec (a3 m c)) (wmat (a4 m c)) (kmat (a1 m c) b)
      (vmat (a2 m c) b) ⟨j.val / 256, by omega⟩ ⟨j.val % 256, Nat.mod_lt _ (by decide)⟩) j * a5 m c (ix2 j n) := by
  have hN : 2 * b.val + r.val / 2048 < cfg0.N := lt_of_lt_of_eq (by omega : _ < 16) N_0.symm
  have hp : pt9Of (ix3 b r n) = 2 * b.val + r.val / 2048 := by
    show 2 * (b.val / 1 - 0) + 1 * (r.val / 2048 - 0) + 1 * (n.val / 1024 - 0) = _
    have := n.isLt; omega
  unfold G9
  rw [dif_pos (hp ▸ hN), fold0_congr m c _ _ (2 * b.val + r.val / 2048) (by omega) hp, at_point m c _ hN]
  set t : Fin cfg0.N := ⟨2 * b.val + r.val / 2048, hN⟩ with ht
  have hrow : ∀ k : Fin 1024, slab (iblk m c 0 t) (r.val % 2048 / 256) (by omega) (ix3 (0 : Fin 1) (⟨r.val % 2048 % 256, Nat.mod_lt _ (by decide)⟩ : Fin 256) k)
      = a0 m c (ix3 b r k) := by
    intro k
    refine (rows_at m c t 0 (⟨256 * (r.val % 2048 / 256) + r.val % 2048 % 256, by omega⟩ : Fin 2048) k).trans ?_
    refine congrArg (a0 m c) (funext fun x => Fin.ext ?_)
    match x with
    | ⟨0, _⟩ => show (2 * b.val + r.val / 2048) / 2 = b.val; omega
    | ⟨1, _⟩ => show 2048 * ((2 * b.val + r.val / 2048) % 2) + (256 * (r.val % 2048 / 256) + r.val % 2048 % 256) = r.val; omega
    | ⟨2, _⟩ => rfl
  have hb : ∀ h, (⟨t.val / 2, h⟩ : Fin 8) = b := fun h => Fin.ext (by show (2 * b.val + r.val / 2048) / 2 = b.val; omega)
  have hn : (⟨n.val % 1024, Nat.mod_lt _ (by decide)⟩ : Fin 1024) = n := Fin.ext (Nat.mod_eq_of_lt n.isLt)
  show slabOut (slab (iblk m c 0 t) (r.val % 2048 / 256) _) (iblk m c 1 t) (iblk m c 2 t) (iblk m c 3 t) (iblk m c 4 t) (iblk m c 5 t)
    (ix3 (0 : Fin 1) (⟨r.val % 2048 % 256, Nat.mod_lt _ (by decide)⟩ : Fin 256) (⟨n.val % 1024, Nat.mod_lt _ (by decide)⟩ : Fin 1024)) = _
  rw [hn, slabOut_at, hrow]
  refine congrArg (a0 m c (ix3 b r n) + ·) (Finset.sum_congr rfl fun j _ => ?_)
  obtain ⟨a, e, rfl⟩ := col_split j
  have ha : (⟨(col a e).val / 256, by omega⟩ : Fin 4) = a := Fin.ext (by show (256 * a.val + e.val) / 256 = a.val; omega)
  have he : (⟨(col a e).val % 256, Nat.mod_lt _ (by decide)⟩ : Fin 256) = e := Fin.ext (by show (256 * a.val + e.val) % 256 = e.val; omega)
  dsimp only
  rw [ha, he, heads_at, wo_at]
  refine congrArg (· * _) ?_
  congr 1
  · exact funext hrow
  · exact funext fun k => gain_at m c t 0 k
  · exact funext fun k => funext fun j => wq_at m c t k j
  · exact funext fun j => funext fun s => (keys_at m c t 0 j s).trans (by rw [hb])
  · exact funext fun s => funext fun j => (values_at m c t 0 s j).trans (by rw [hb])

/-- So it is the reference's. -/
theorem kernel_eq_ref (h0 : ∀ j, Fin' (a0 m c j)) (h1 : ∀ j, Fin' (a1 m c j)) (h3 : ∀ j, Fin' (a3 m c j)) (h4 : ∀ j, Fin' (a4 m c j)) :
    Cert.Reference2Ideal.Read.val_main_v38 (F := Ideal) (a0 m c) (a1 m c) (a2 m c) (a3 m c) (a4 m c) (a5 m c) = G9 m c := by
  funext i
  obtain ⟨b, r, n, rfl⟩ : ∃ (b : Fin 8) (r : Fin 4096) (n : Fin 1024), i = ix3 b r n :=
    ⟨i 0, i 1, i 2, funext fun x => by match x with | ⟨0, _⟩ => rfl | ⟨1, _⟩ => rfl | ⟨2, _⟩ => rfl⟩
  rw [kernel_at, ref_at]
  refine congrArg (a0 m c (ix3 b r n) + ·) (Finset.sum_congr rfl fun j _ => congrArg (· * a5 m c (ix2 j n)) ?_)
  obtain ⟨a, e, rfl⟩ := col_split j
  have ha : (⟨(col a e).val / 256, by omega⟩ : Fin 4) = a := Fin.ext (by show (256 * a.val + e.val) / 256 = a.val; omega)
  have he : (⟨(col a e).val % 256, Nat.mod_lt _ (by decide)⟩ : Fin 256) = e := Fin.ext (by show (256 * a.val + e.val) % 256 = e.val; omega)
  dsimp only
  rw [ha, he, ref_head]
  exact (late_eq_early (fun _ => h0 _) (fun _ => h3 _) (fun _ _ => h4 _) (fun _ _ => h1 _) _ a e).symm

end Cert.Proof.Attn
-- ==== Proof.AttnPre.lean ====
/-
  WHAT THE PRECONDITION SAYS: each entry of the four arrays the scores are made of is a real number.
-/
module

public import proofs.«01_k».proof.Proof.AttnSoft
public import proofs.«01_k».proof.Defs
public import Idealize.ShloMosaic.Lib.Affine

@[expose] public section

noncomputable section

open Idealize.ShloMosaic

namespace Cert.Proof.Attn

open Cert.Pre_finite_scores

/-- An array whose largest absolute value is below infinity has only real entries. -/
theorem entries_real {s : Shape} {axes : List (Fin s.rank)} (x : FVec Ideal s .f32) (h : s.ReducesTo axes S_) (hu : 0 < S_.numel) (i : S_.Idx)
    (hr : cmpf .olt (Host.reduce FloatOps.maximumf (Host.absf x) (constant S_ .f32 0xFF800000#32) h hu) (constant S_ .f32 0x7F800000#32) i = 1#1)
    (j : s.Idx) : Fin' (x j) := by
  have hlt : Host.reduce FloatOps.maximumf (Host.absf x) (constant (F := Ideal) S_ .f32 0xFF800000#32) h hu i < (⊤ : EReal) := by
    generalize Host.reduce FloatOps.maximumf (Host.absf x) (constant (F := Ideal) S_ .f32 0xFF800000#32) h hu = y at hr ⊢
    by_contra hn
    have ht : (Ideal.ofBits .f32 0x7F800000#32 : EReal) = ⊤ := by simp [Ideal.ofBits, Ideal.ieee]
    have hf : Ideal.cmp .olt (y i : EReal) (Ideal.ofBits .f32 0x7F800000#32) = 1#1 := hr
    rw [ht] at hf
    simp [Ideal.cmp, hn] at hf
  have hfold : (Finset.univ.filter fun k => h.drop k = i).fold (max : EReal → EReal → EReal) (Ideal.ofBits .f32 0xFF800000#32) (Host.absf x) < ⊤ := by
    have e := Host.reduce_eq_fold (max : EReal → EReal → EReal) (Host.absf x) (constant (F := Ideal) S_ .f32 0xFF800000#32) h hu i
    exact lt_of_eq_of_lt e.symm hlt
  have hj := ((Finset.fold_max_lt _).mp hfold).2 j (Finset.mem_filter.mpr ⟨Finset.mem_univ _, funext fun b => b.elim0⟩)
  have ha : max (x j) (-(x j)) < (⊤ : EReal) := hj
  refine fin'_iff.mpr ⟨fun e => ?_, fun e => ?_⟩ <;> rw [e] at ha <;> simp at ha

/-- The precondition's own side conditions. -/
theorem pre_facts : Facts where
  reducesTo_S8x4096x1024_S_d0_1_2 := by decide
  h_S_ := by decide
  bitsLt_bf16_f32 := by decide
  reducesTo_S8x1024x256_S_d0_1_2 := by decide
  reducesTo_S1024_S_d0 := by decide
  reducesTo_S1024x1024_S_d0_1 := by decide

instance : Facts := pre_facts

variable (x0 : FVec Ideal S8x4096x1024 .f32) (x1 : FVec Ideal S8x1024x256 .bf16) (x2 : FVec Ideal S8x256x1024 .bf16) (x3 : FVec Ideal S1024 .f32)
  (x4 x5 : FVec Ideal S1024x1024 .f32) (x6 : FVec Ideal S1024 .f32) (x7 : FVec Ideal S1024x4 .f32) (x8 : FVec Ideal S4 .f32)
  (x9 : FVec Ideal S1024x32 .f32) (x10 : FVec Ideal S32 .f32)

theorem pre_real (h : fn (F := Ideal) x0 x1 x2 x3 x4 x5 x6 x7 x8 x9 x10 = fun _ => 1#1) :
    (∀ j, Fin' (x0 j)) ∧ (∀ j, Fin' (x1 j)) ∧ (∀ j, Fin' (x3 j)) ∧ ∀ j, Fin' (x4 j) := by
  have h0 := congrFun h (fun a => a.elim0)
  obtain ⟨h1, hw⟩ := IntOp.andi_eq_one.mp h0
  obtain ⟨h2, hg⟩ := IntOp.andi_eq_one.mp h1
  obtain ⟨hx, hk⟩ := IntOp.andi_eq_one.mp h2
  exact ⟨entries_real x0 _ _ _ hx, entries_real (s := S8x1024x256) (extf .f32 x1 Facts.bitsLt_bf16_f32) _ _ _ hk, entries_real x3 _ _ _ hg, entries_real x4 _ _ _ hw⟩

end Cert.Proof.Attn
-- ==== Proof.RtFirst.lean ====
/-
  THE FIRST GREATEST ENTRY OF A FEW, over the extended reals. `First P v i` says that `i` is the first of the greatest entries of `v` among
  those in `P`. A stable sort by `>` puts it in front, and the least index whose entry equals the greatest is it.
-/
module

public import Idealize.ShloMosaic.PureOps.Ideal.Laws
public import Idealize.ShloMosaic.Lib.SortFacts

@[expose] public section

noncomputable section

open Idealize.ShloMosaic
open scoped BigOperators

namespace Cert.Proof.Route

/-- `i` is in `P`, its entry is the greatest there, and no earlier one in `P` is as great. -/
def First {n : ℕ} (P : Fin n → Prop) (v : Fin n → EReal) (i : Fin n) : Prop :=
  P i ∧ ∀ x, P x → v x ≤ v i ∧ (v x = v i → i ≤ x)

theorem First.unique {n : ℕ} {P : Fin n → Prop} {v : Fin n → EReal} {i j : Fin n} (hi : First P v i) (hj : First P v j) : i = j := by
  have h : v i = v j := le_antisymm (hj.2 i hi.1).1 (hi.2 j hj.1).1
  exact le_antisymm ((hi.2 j hj.1).2 h.symm) ((hj.2 i hi.1).2 h)

/-! ## In front of a stable sort -/

/-- `x` comes before `y` in the sorted order. -/
def Ahead {n : ℕ} (v : Fin n → EReal) (x y : Fin n) : Prop := v y ≤ v x ∧ (v y = v x → x < y)

theorem Ahead.trans {n : ℕ} {v : Fin n → EReal} {x y z : Fin n} (h : Ahead v x y) (h' : Ahead v y z) : Ahead v x z :=
  ⟨h'.1.trans h.1, fun e => by
    have e1 : v y = v x := le_antisymm h.1 (e ▸ h'.1)
    exact (h.2 e1).trans (h'.2 (e.trans e1.symm))⟩

/-- The sort's comparison. -/
def gtB {n : ℕ} (v : Fin n → EReal) (a b : Fin n) : Bool := decide (v b < v a)

theorem insert_ahead {n : ℕ} (v : Fin n → EReal) (a : Fin n) (m : List (Fin n)) (ha : ∀ b ∈ m, a < b) (hm : m.Pairwise (Ahead v)) :
    (insertBefore (gtB v) a m).Pairwise (Ahead v) := by
  induction m with
  | nil => simp [insertBefore]
  | cons b m ih =>
    rw [List.pairwise_cons] at hm
    unfold insertBefore
    by_cases h : v a < v b
    · rw [if_pos (by simpa [gtB] using h), List.pairwise_cons]
      refine ⟨fun y hy => ?_, ih (fun x hx => ha x (List.mem_cons_of_mem _ hx)) hm.2⟩
      rcases List.mem_cons.mp ((perm_insertBefore (gtB v) a m).mem_iff.mp hy) with rfl | hy
      · exact ⟨h.le, fun e => absurd e h.ne⟩
      · exact hm.1 y hy
    · rw [if_neg (by simpa [gtB] using h), List.pairwise_cons, List.pairwise_cons]
      have hab : Ahead v a b := ⟨not_lt.mp h, fun _ => ha b List.mem_cons_self⟩
      refine ⟨fun y hy => ?_, hm.1, hm.2⟩
      rcases List.mem_cons.mp hy with rfl | hy
      · exact hab
      · exact hab.trans (hm.1 y hy)

theorem sort_ahead {n : ℕ} (v : Fin n → EReal) (l : List (Fin n)) (hl : l.Pairwise (· < ·)) : (stableSort (gtB v) l).Pairwise (Ahead v) := by
  induction l with
  | nil => exact List.Pairwise.nil
  | cons a l ih =>
    rw [List.pairwise_cons] at hl
    exact insert_ahead v a _ (fun b hb => hl.1 b ((perm_stableSort (gtB v) l).mem_iff.mp hb)) (ih hl.2)

theorem sorted_ahead {n : ℕ} (v : Fin n → EReal) (i j : Fin n) (hij : i < j) : Ahead v (sortedFrom (gtB v) i) (sortedFrom (gtB v) j) := by
  have hp := List.pairwise_iff_get.mp (sort_ahead v (List.finRange n) (List.pairwise_lt_finRange n))
  exact hp (i.cast (length_sortPositions n _).symm) (j.cast (length_sortPositions n _).symm) hij

/-- The sort's first position is the first greatest of all … -/
theorem sorted_first {n : ℕ} [NeZero n] (v : Fin n → EReal) : First (fun _ => True) v (sortedFrom (gtB v) 0) := by
  refine ⟨trivial, fun x _ => ?_⟩
  obtain ⟨k, rfl⟩ := sortedFrom_surjective (gtB v) x
  rcases eq_or_ne k 0 with rfl | hk
  · exact ⟨le_rfl, fun _ => le_rfl⟩
  · have h := sorted_ahead v 0 k (Fin.pos_iff_ne_zero.mpr hk)
    exact ⟨h.1, fun e => (h.2 e).le⟩

/-- … and its second the first greatest of the others. -/
theorem sorted_second {n : ℕ} (v : Fin (n + 2) → EReal) :
    First (fun x => x ≠ sortedFrom (gtB v) 0) v (sortedFrom (gtB v) 1) := by
  refine ⟨fun h => absurd (sortedFrom_injective (gtB v) h) (by simp), fun x hx => ?_⟩
  obtain ⟨k, rfl⟩ := sortedFrom_surjective (gtB v) x
  have hk0 : k ≠ 0 := fun h => hx (by rw [h])
  rcases eq_or_ne k 1 with rfl | hk
  · exact ⟨le_rfl, fun _ => le_rfl⟩
  · have h := sorted_ahead v 1 k (by
      have h0 : k.val ≠ 0 := fun h => hk0 (Fin.ext h)
      have h1 : k.val ≠ 1 := fun h => hk (Fin.ext (by simpa using h))
      show ((1 : Fin (n + 2)).val) < k.val
      simp only [Fin.val_one]; omega)
    exact ⟨h.1, fun e => (h.2 e).le⟩

/-! ## The least index whose entry is the greatest -/

/-- A number as an extended real. -/
def num (k : ℕ) : EReal := ((k : ℝ) : EReal)

theorem num_inj {a b : ℕ} : num a = num b ↔ a = b := by unfold num; norm_cast
theorem num_lt {a b : ℕ} : num a < num b ↔ a < b := by unfold num; norm_cast
theorem num_le {a b : ℕ} : num a ≤ num b ↔ a ≤ b := by unfold num; norm_cast

open Classical in
theorem least_first {P : Fin 8 → Prop} {v : Fin 8 → EReal} {i : Fin 8} (h : First P v i) :
    (Finset.univ : Finset (Fin 8)).fold min ⊤ (fun k => if P k ∧ v k = (Finset.univ : Finset (Fin 8)).fold max ⊥ (fun k => if P k then v k else ⊥)
      then num k.val else num 8) = num i.val := by
  have hm : (Finset.univ : Finset (Fin 8)).fold max ⊥ (fun k => if P k then v k else ⊥) = v i := by
    refine le_antisymm ((Finset.fold_max_le _).mpr ⟨bot_le, fun k _ => ?_⟩) ((Finset.le_fold_max _).mpr (Or.inr ⟨i, Finset.mem_univ _, by rw [if_pos h.1]⟩))
    by_cases hk : P k
    · rw [if_pos hk]; exact (h.2 k hk).1
    · rw [if_neg hk]; exact bot_le
  rw [hm]
  refine le_antisymm ((Finset.fold_min_le _).mpr (Or.inr ⟨i, Finset.mem_univ _, by rw [if_pos ⟨h.1, rfl⟩]⟩)) ((Finset.le_fold_min _).mpr ⟨le_top, fun k _ => ?_⟩)
  by_cases hk : P k ∧ v k = v i
  · rw [if_pos hk]; exact num_le.mpr ((h.2 k hk.1).2 hk.2)
  · rw [if_neg hk]; exact num_le.mpr i.isLt.le

/-! ## The class number -/

/-- The number of group `g` with the experts `lo < hi` of it. -/
def code (g lo hi : ℕ) : ℕ := 28 * g + lo * (15 - lo) / 2 + (hi - lo - 1)

theorem code_lt {g lo hi : ℕ} (hg : g < 4) (h : lo < hi) (h8 : hi < 8) : code g lo hi < 128 := by
  unfold code
  have : lo < 7 := by omega
  interval_cases lo <;> omega

theorem code_eq {g lo hi : ℕ} (h : lo < hi) (h8 : hi < 8) :
    num (code g lo hi) = (((g : ℝ) * 28 + ((lo : ℝ) * (15 - (lo : ℝ)) * 2⁻¹ + ((hi : ℝ) - (lo : ℝ) - 1)) : ℝ) : EReal) := by
  unfold num code
  have h1 : 1 ≤ hi - lo := by omega
  have hs : ((hi - lo - 1 : ℕ) : ℝ) = (hi : ℝ) - lo - 1 := by
    rw [Nat.cast_sub h1, Nat.cast_sub h.le, Nat.cast_one]
  rw [Nat.cast_add, hs]
  congr 1
  rw [Nat.cast_add, Nat.cast_mul]
  have ht : ((lo * (15 - lo) / 2 : ℕ) : ℝ) = (lo : ℝ) * (15 - (lo : ℝ)) * 2⁻¹ := by
    have : lo < 7 := by omega
    interval_cases lo <;> norm_num
  rw [ht]; push_cast; ring

/-! ## How many before -/

open Classical in
/-- How many of the first `n` tokens have class `c`. -/
def cnt (C : ℕ → EReal) (c : EReal) (n : ℕ) : EReal := ∑ i ∈ Finset.range n, if C i = c then 1 else 0

open Classical in
theorem cnt_add (C : ℕ → EReal) (c : EReal) (n k : ℕ) :
    cnt C c (n + k) = cnt C c n + ∑ x : Fin k, if C (n + x.val) = c then 1 else 0 := by
  unfold cnt
  rw [Finset.sum_range_add, Finset.sum_range (fun x => if C (n + x) = c then (1 : EReal) else 0)]

open Classical in
/-- Counting inside a stretch of `k` up to place `r`, added to the count before the stretch. -/
theorem cnt_inside (C : ℕ → EReal) (c : EReal) (n k r : ℕ) (hr : r ≤ k) :
    (∑ x : Fin k, if C (n + x.val) = c ∧ x.val < r then 1 else 0) + cnt C c n = cnt C c (n + r) := by
  rw [cnt_add, add_comm]
  congr 1
  obtain ⟨d, rfl⟩ := Nat.exists_eq_add_of_le hr
  rw [← Finset.sum_range (fun x => if C (n + x) = c ∧ x < r then (1 : EReal) else 0), Finset.sum_range_add,
    ← Finset.sum_range (fun x => if C (n + x) = c then (1 : EReal) else 0)]
  rw [Finset.sum_eq_zero (s := Finset.range d) (fun x _ => if_neg (by omega)), add_zero]
  exact Finset.sum_congr rfl fun x hx => by simp [Finset.mem_range.mp hx]

end Cert.Proof.Route
-- ==== Proof.RtClass.lean ====
/-
  THE CLASS A SLAB GIVES ITS ROWS, at the ideal floats. The kernel finds the first greatest of the four group logits, then the first and
  second greatest of that group's eight expert logits, each as the least index whose entry equals the greatest, and numbers the pair.
-/
module

public import proofs.«01_k».proof.Proof.Gen.Kernel2Ideal.Frame
public import proofs.«01_k».proof.Proof.RtFirst
public import Idealize.ShloMosaic.Lib.Tactic
public import Idealize.ShloMosaic.Lib.Pointwise

@[expose] public section

set_option maxRecDepth 16384

noncomputable section

open Idealize.ShloMosaic Idealize.ShloMosaic.TcCoe
open scoped BigOperators

namespace Cert.Proof.Route

open Cert.Kernel2Ideal Cert.Kernel2Ideal.Gen

/-! ## The printed constants -/

theorem inf_eq : Ideal.ofBits .f32 0x7F800000#32 = ⊤ := by simp [Ideal.ofBits, Ideal.ieee]
theorem neg_inf_eq : Ideal.ofBits .f32 0xFF800000#32 = ⊥ := by simp [Ideal.ofBits, Ideal.ieee]
theorem half_eq : Ideal.ofBits .f32 0x3F000000#32 = (((2 : ℝ)⁻¹ : ℝ) : EReal) := by
  simp [Ideal.ofBits, Ideal.ieee, -EReal.coe_mul]; norm_num
theorem two_eq : Ideal.ofBits .f32 0x40000000#32 = num 2 := by
  simp [num, Ideal.ofBits, Ideal.ieee, -EReal.coe_mul]; norm_num
theorem three_eq : Ideal.ofBits .f32 0x40400000#32 = num 3 := by
  simp [num, Ideal.ofBits, Ideal.ieee, -EReal.coe_mul]; norm_num
theorem four_eq : Ideal.ofBits .f32 0x40800000#32 = num 4 := by
  simp [num, Ideal.ofBits, Ideal.ieee, -EReal.coe_mul]; norm_num
theorem eight_eq : Ideal.ofBits .f32 0x41000000#32 = num 8 := by
  simp [num, Ideal.ofBits, Ideal.ieee, -EReal.coe_mul]; norm_num
theorem fifteen_eq : Ideal.ofBits .f32 0x41700000#32 = ((15 : ℝ) : EReal) := by
  simp [Ideal.ofBits, Ideal.ieee, -EReal.coe_mul]; norm_num
theorem twentyeight_eq : Ideal.ofBits .f32 0x41E00000#32 = ((28 : ℝ) : EReal) := by
  simp [Ideal.ofBits, Ideal.ieee, -EReal.coe_mul]; norm_num
theorem one_eq : (1 : EReal) = num 1 := by simp [num]
theorem zero_eq : (0 : EReal) = num 0 := by simp [num]

/-- The mask's name denotes minus infinity. -/
theorem mask_eq : Named.named (F := Ideal) κ "mask" (φ := .f32) 0xF149F2CA#32 = (⊥ : EReal) :=
  IdealRules.named_const.ideal_named_scalar _ _ _ _ rfl

/-- A small number's word, converted. -/
theorem convert_num (k : ℕ) (hk : k < 2147483648) : FloatOps.sitofp (F := Ideal) .f32 (BitVec.ofNat 32 k) = num k := by
  show (((BitVec.ofNat 32 k).toInt : ℝ) : EReal) = _
  unfold num
  rw [BitVec.toInt_eq_toNat_of_lt (by rw [BitVec.toNat_ofNat]; omega), BitVec.toNat_ofNat, Nat.mod_eq_of_lt (by omega)]
  norm_cast

theorem and_one (p q : Prop) [Decidable p] [Decidable q] :
    IntOp.andi (BitVec.ofBool (decide p)) (BitVec.ofBool (decide q)) = 1 ↔ p ∧ q := by
  by_cases hp : p <;> by_cases hq : q <;> simp [hp, hq, IntOp.andi]

/-! ## The group -/

/-- Rows 0 to 3 of the logits are the groups', rows 8 + 8 g to 15 + 8 g group `g`'s experts. -/
def grow (k : Fin 4) : Fin 128 := ⟨k.val, by omega⟩
def erow (g : Fin 4) (e : Fin 8) : Fin 128 := ⟨8 + 8 * g.val + e.val, by omega⟩

/-- A least index, as the kernel selects it. -/
theorem least_select {P : Fin 8 → Prop} {v : Fin 8 → EReal} {i : Fin 8} (h : First P v i) (f : Fin 8 → EReal) (m : Fin 8 → EReal)
    (hm1 : ∀ k, P k → m k = v k) (hm0 : ∀ k, ¬P k → m k = ⊥)
    (hf1 : ∀ k, (P k ∧ v k = (Finset.univ : Finset (Fin 8)).fold max ⊥ m) → f k = num k.val)
    (hf0 : ∀ k, ¬(P k ∧ v k = (Finset.univ : Finset (Fin 8)).fold max ⊥ m) → f k = num 8) :
    (Finset.univ : Finset (Fin 8)).fold min ⊤ f = num i.val := by
  classical
  have em : m = fun k => if P k then v k else ⊥ := by
    funext k
    by_cases hk : P k
    · rw [if_pos hk, hm1 k hk]
    · rw [if_neg hk, hm0 k hk]
  subst em
  refine Eq.trans (congrArg (fun g => (Finset.univ : Finset (Fin 8)).fold min ⊤ g) (funext fun k => ?_)) (least_first h)
  by_cases hk : P k ∧ v k = (Finset.univ : Finset (Fin 8)).fold max ⊥ (fun k => if P k then v k else ⊥)
  · rw [if_pos hk, hf1 k hk]
  · rw [if_neg hk, hf0 k hk]

theorem group_at (L : FVec Ideal S128x256 .f32) (r : Fin 256) (z : Fin 1) (g : Fin 4)
    (h : First (fun _ => True) (fun k => L (ix2 (grow k) r)) g) : k0_pay226 (F := Ideal) L (ix2 z r) = num g.val := by
  pointwise [k0_pay226, k0_pay225, k0_pay224]
  rw [inf_eq, neg_inf_eq, four_eq, eight_eq, mask_eq]
  have hc : ∀ k : Fin 8, FloatOps.sitofp (F := Ideal) .f32 (BitVec.ofNat 32 k.val) = num k.val := fun k => convert_num _ (by omega)
  have hlt : ∀ k : Fin 8, FloatOps.sitofp (F := Ideal) .f32 (BitVec.ofNat 32 k.val) < num 4 ↔ k.val < 4 := fun k => by
    rw [hc]; exact num_lt
  have h8 : First (fun k : Fin 8 => k.val < 4) (fun k => L (ix2 (⟨k.val, by omega⟩ : Fin 128) r)) ⟨g.val, by omega⟩ :=
    ⟨g.isLt, fun x hx => ⟨(h.2 ⟨x.val, hx⟩ trivial).1, fun e => (h.2 ⟨x.val, hx⟩ trivial).2 e⟩⟩
  refine least_select h8 _ (fun x => if FloatOps.sitofp (F := Ideal) .f32 (BitVec.ofNat 32 x.val) < num 4 then L (ix2 (⟨x.val, by omega⟩ : Fin 128) r) else ⊥)
    (fun k hk => if_pos ((hlt k).mpr hk)) (fun k hk => if_neg fun e => hk ((hlt k).mp e)) (fun k hk => ?_) (fun k hk => ?_)
  · exact (if_pos ((and_one _ _).mpr ⟨(hlt k).mpr hk.1, hk.2⟩)).trans (hc k)
  · exact if_neg fun e => hk ⟨(hlt k).mp ((and_one _ _).mp e).1, ((and_one _ _).mp e).2⟩

/-- The chosen group's eight logits. -/
theorem chosen_at (L : FVec Ideal S128x256 .f32) (r : Fin 256) (e : Fin 8) (g : Fin 4)
    (h : k0_pay226 (F := Ideal) L (ix2 0 r) = num g.val) : k0_pay227 (F := Ideal) L (ix2 e r) = L (ix2 (erow g e) r) := by
  pointwise [k0_pay227]
  rw [h, two_eq, three_eq, one_eq]
  simp only [num_inj]
  unfold erow
  match g with
  | ⟨0, _⟩ => rfl
  | ⟨1, _⟩ => rfl
  | ⟨2, _⟩ => rfl
  | ⟨3, _⟩ => rfl

/-! ## The class -/

/-- The slab's classes, from its logits. -/
def cls {F : FTy → Type} [FloatOps F] [Named F] (L : FVec F S128x256 .f32) : FVec F S1x256 .f32 :=
  k0_pay229 k0_pay224 (k0_pay226 L) (k0_pay227 L) (k0_pay228 L)

theorem min_num (a b : ℕ) : min (num a) (num b) = num (min a b) := by
  rcases le_total a b with h | h
  · rw [min_eq_left h, min_eq_left (num_le.mpr h)]
  · rw [min_eq_right h, min_eq_right (num_le.mpr h)]
theorem max_num (a b : ℕ) : max (num a) (num b) = num (max a b) := by
  rcases le_total a b with h | h
  · rw [max_eq_right h, max_eq_right (num_le.mpr h)]
  · rw [max_eq_left h, max_eq_left (num_le.mpr h)]

theorem cls_at (L : FVec Ideal S128x256 .f32) (r : Fin 256) (z : Fin 1) (g : Fin 4) (i j : Fin 8)
    (hg : First (fun _ => True) (fun k => L (ix2 (grow k) r)) g)
    (hi : First (fun _ => True) (fun e => L (ix2 (erow g e) r)) i)
    (hj : First (fun e => e ≠ i) (fun e => L (ix2 (erow g e) r)) j) :
    cls (F := Ideal) L (ix2 z r) = num (code g.val (min i.val j.val) (max i.val j.val)) := by
  have e1 := fun z => group_at L r z g hg
  have e2 := fun e => chosen_at L r e g (e1 0)
  have e3 : k0_pay228 (F := Ideal) L (ix1 r) = (Finset.univ : Finset (Fin 8)).fold max ⊥ fun e => L (ix2 (erow g e) r) := by
    pointwise [k0_pay228]
    rw [neg_inf_eq]
    simp only [e2]
  have e4 : ∀ e : Fin 8, k0_pay224 (F := Ideal) (ix2 e r) = num e.val := by
    intro e
    pointwise [k0_pay224]
    exact convert_num _ (by omega)
  unfold cls
  generalize k0_pay228 (F := Ideal) L = d at *
  generalize k0_pay227 (F := Ideal) L = c at *
  generalize k0_pay226 (F := Ideal) L = b at *
  generalize k0_pay224 (F := Ideal) = a at *
  have f1 : (Finset.univ : Finset (Fin 8)).fold min ⊤ (fun x => if c (ix2 x r) = d (ix1 r) then a (ix2 x r) else num 8) = num i.val := by
    refine least_select hi _ (fun e => L (ix2 (erow g e) r)) (fun _ _ => rfl) (fun _ h => absurd trivial h) (fun k hk => ?_) (fun k hk => ?_)
    · rw [e2, e3, e4]; exact if_pos hk.2
    · rw [e2, e3]; exact if_neg fun h => hk ⟨trivial, h⟩
  pointwise [k0_pay229]
  rw [inf_eq, neg_inf_eq, mask_eq, eight_eq, half_eq, fifteen_eq, twentyeight_eq]
  simp only [f1]
  have f2 : (Finset.univ : Finset (Fin 8)).fold min ⊤ (fun x =>
      Scalar.select (IntOp.andi (BitVec.ofBool (decide (a (ix2 x r) ≠ num i.val)))
        (BitVec.ofBool (decide (c (ix2 x r) = (Finset.univ : Finset (Fin 8)).fold max ⊥
          (fun x => if a (ix2 x r) ≠ num i.val then c (ix2 x r) else ⊥))))) (a (ix2 x r)) (num 8)) = num j.val := by
    have hne : ∀ k : Fin 8, a (ix2 k r) ≠ num i.val ↔ k ≠ i := by
      intro k; rw [e4, Ne, num_inj, ← Fin.ext_iff]
    refine least_select hj _ (fun x => if a (ix2 x r) ≠ num i.val then c (ix2 x r) else ⊥) (fun k hk => (if_pos ((hne k).mpr hk)).trans (e2 k)) (fun k hk => if_neg fun h => hk ((hne k).mp h)) (fun k hk => ?_) (fun k hk => ?_)
    · refine (if_pos ((and_one _ _).mpr ⟨(hne k).mpr hk.1, ?_⟩)).trans (e4 k)
      rw [e2]; exact hk.2
    · refine if_neg fun h => hk ?_
      have h' := (and_one _ _).mp h
      exact ⟨(hne k).mp h'.1, by rw [← e2]; exact h'.2⟩
  rw [f2, e1, min_num, max_num, code_eq (lt_of_le_of_ne (min_le_max) ?_) (max_lt i.isLt j.isLt)]
  · unfold num
    rw [show (1 : EReal) = ((1 : ℝ) : EReal) from rfl]
    norm_cast
  · intro h
    exact hj.1 (Fin.ext (by omega))

/-- Every four logits have a first greatest. -/
theorem exists_first {n : ℕ} [NeZero n] (v : Fin n → EReal) : ∃ i, First (fun _ => True) v i := ⟨_, sorted_first v⟩

end Cert.Proof.Route
-- ==== Proof.RtTile.lean ====
/-
  THE ROUTING STEP OF ONE BLOCK, AS ONE FUNCTION OF THE BLOCKS IT READS. Each slab's logits come from its attention rows, its classes from the
  logits (RtClass), and its two rows of words from the classes and the count of each class so far, which the slabs hand on.
-/
module

public import proofs.«01_k».proof.Proof.AttnTile
public import proofs.«01_k».proof.Proof.RtClass

@[expose] public section

set_option maxRecDepth 16384

noncomputable section

open Idealize.ShloMosaic Idealize.ShloMosaic.TcCoe Idealize.SL.Sem

namespace Cert.Proof.Route

open Cert.Kernel2Ideal Cert.Kernel2Ideal.Gen Cert.Proof.Attn

variable {F : FTy → Type} [FloatOps F]

/-- A slab's logits: the router's rows times the slab's normed attention rows, plus the bias. -/
def logits (x : Vec F S1x256x1024 .f32) (kt : Vec F S1x1024x256 .bf16) (v : Vec F S1x256x1024 .bf16) (g : Vec F S1x1024 .f32)
    (wq wo : Vec F S1024x1024 .bf16) (gf : Vec F S1x1024 .f32) (wr : Vec F S128x1024 .bf16) (br : Vec F S128x1 .f32) : FVec F S128x256 .f32 :=
  k0_pay214 (k0_pay206 (k0_pay188 (k0_pay2 x) (heads (query x g wq) kt v) wo) gf) wr br

variable [Named F]

/-- Which class each of a slab's rows has, one row per class. -/
def oh (L : FVec F S128x256 .f32) : IVec S128x256 1 := k0_pay274 (cls L)

/-- A slab's rows of words, from its logits and the counts before it. -/
def wordsOf (L : FVec F S128x256 .f32) (seen : FVec F S128x1 .f32) : FVec F S8x256 .f32 :=
  k0_pay298 k0_pay224 (cls L) (oh L) (k0_pay290 k0_pay272 (oh L) (Scalar.ofBits .f32 0x3F800000#32)) seen

/-- The counts after a slab. -/
def next (L : FVec F S128x256 .f32) (seen : FVec F S128x1 .f32) : FVec F S128x1 .f32 :=
  k0_pay299 (k0_pay282 (oh L) (Scalar.ofBits .f32 0x3F800000#32)) seen

/-- The counts before slab `j`. -/
def carry (L : ℕ → FVec F S128x256 .f32) (seen : FVec F S128x1 .f32) : ℕ → FVec F S128x1 .f32
  | 0 => seen
  | j + 1 => next (L j) (carry L seen j)

/-- Rows `256 (j % 8) …` of a block, as the kernel loads them. -/
def slabLd (x : Vec F S1x2048x1024 .f32) (j : ℕ) : Vec F S1x256x1024 .f32 :=
  View.ld x (Rect.unit (s := S1x2048x1024) ![0, 256 * (j % 8), 0] S1x256x1024.size fun a => by
    match a with
    | ⟨0, _⟩ => exact le_refl 1
    | ⟨1, _⟩ => show 256 * (j % 8) + 256 ≤ 2048; omega
    | ⟨2, _⟩ => exact le_refl 1024)

/-- The logits of the block's slab `j % 8`. -/
def slabLogits (x : Vec F S1x2048x1024 .f32) (kt : Vec F S1x1024x256 .bf16) (v : Vec F S1x256x1024 .bf16) (g : Vec F S1x1024 .f32)
    (wq wo : Vec F S1024x1024 .bf16) (gf : Vec F S1x1024 .f32) (wr : Vec F S128x1024 .bf16) (br : Vec F S128x1 .f32) (j : ℕ) : FVec F S128x256 .f32 :=
  logits (slabLd x j) kt v g wq wo gf wr br

/-- A block's rows of words. -/
def wordsBlock (x : Vec F S1x2048x1024 .f32) (kt : Vec F S1x1024x256 .bf16) (v : Vec F S1x256x1024 .bf16) (g : Vec F S1x1024 .f32)
    (wq wo : Vec F S1024x1024 .bf16) (gf : Vec F S1x1024 .f32) (wr : Vec F S128x1024 .bf16) (br : Vec F S128x1 .f32) (seen : Vec F S128x1 .f32) : Vec F S8x2048 .f32 := fun y =>
  wordsOf (slabLogits x kt v g wq wo gf wr br ((y 1).val / 256)) (carry (slabLogits x kt v g wq wo gf wr br) seen ((y 1).val / 256))
    (ix2 (y 0 : Fin 8) (⟨(y 1).val % 256, Nat.mod_lt _ (by decide)⟩ : Fin 256))

theorem slabLd_eq (x : Vec F S1x2048x1024 .f32) (j : Nat) (hj : j < 8) : slabLd x j = slab x j hj := by
  funext w
  refine congrArg x (funext fun a => Fin.ext ?_)
  match a with
  | ⟨0, h⟩ => show 0 + 1 * (w ⟨0, h⟩).val = 0; have := (w ⟨0, h⟩).isLt; have h' : (w ⟨0, h⟩).val < 1 := this; omega
  | ⟨1, h⟩ => show 256 * (j % 8) + 1 * (w ⟨1, h⟩).val = 256 * j + (w ⟨1, h⟩).val; rw [Nat.mod_eq_of_lt hj]; omega
  | ⟨2, h⟩ => show 0 + 1 * (w ⟨2, h⟩).val = (w ⟨2, h⟩).val; omega

/-- One store's piece is its slab's words. -/
theorem wpiece (x : Vec F S1x2048x1024 .f32) (kt : Vec F S1x1024x256 .bf16) (v : Vec F S1x256x1024 .bf16) (g : Vec F S1x1024 .f32)
    (wq wo : Vec F S1024x1024 .bf16) (gf : Vec F S1x1024 .f32) (wr : Vec F S128x1024 .bf16) (br : Vec F S128x1 .f32) (seen : Vec F S128x1 .f32)
    (o j : Nat) (ho : o = 256 * j) (inb : ∀ a, ![0, o] a + S8x256.size a ≤ S8x2048.size a) (z : S8x256.Idx) :
    wordsOf (slabLogits x kt v g wq wo gf wr br j) (carry (slabLogits x kt v g wq wo gf wr br) seen j) z
      = wordsBlock x kt v g wq wo gf wr br seen ((Rect.unit (s := S8x2048) ![0, o] S8x256.size inb).emb z) := by
  subst ho
  have hz : (z 1).val < 256 := (z 1).isLt
  have h1 : (((Rect.unit (s := S8x2048) ![0, 256 * j] S8x256.size inb).emb z) 1).val = 256 * j + 1 * (z 1).val := rfl
  have hj' : (((Rect.unit (s := S8x2048) ![0, 256 * j] S8x256.size inb).emb z) 1).val / 256 = j := by rw [h1]; omega
  unfold wordsBlock
  rw [hj']
  refine congrArg _ (funext fun a => Fin.ext ?_)
  match a with
  | ⟨0, _⟩ => show (z 0).val = 0 + 1 * (z 0).val; omega
  | ⟨1, _⟩ => show (z 1).val = _ % 256; rw [h1]; omega

/-- What every grid point but the first leaves in the words' staging buffer. -/
theorem words_next (c : Dev nD) (i : grid0.Coords) (arg2 : Memref sig .tc .vmem S1x2048x1024 .f32) (harg2 : arg2.IsWhole) (arg3 : Memref sig .tc .vmem S1x1024x256 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S128x1 .f32) (harg10 : arg10.IsWhole) (arg11 : Memref sig .tc .vmem S1x2048x1024 .f32) (harg11 : arg11.IsWhole) (arg12 : Memref sig .tc .vmem S8x2048 .f32) (harg12 : arg12.IsWhole) (arg13 : Memref sig .tc .vmem S128x1 .f32) (harg13 : arg13.IsWhole) (arg14 : Memref sig .tc .vmem S128x1 .f32) (harg14 : arg14.IsWhole) (hc0 : ¬cond0_0 i)
    (x0 : Vec F S1x2048x1024 .f32) (x1 : Vec F S1x1024x256 .bf16) (x2 : Vec F S1x256x1024 .bf16) (x3 : Vec F S1x1024 .f32) (x4 : Vec F S1024x1024 .bf16) (x5 : Vec F S1024x1024 .bf16) (x6 : Vec F S1x1024 .f32) (x7 : Vec F S128x1024 .bf16) (x8 : Vec F S128x1 .f32) (xs0 : Vec F S128x1 .f32) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 = wordsBlock x0 x1 x2 x3 x4 x5 x6 x7 x8 xs0 := by
  funext y
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0)]
  refine View.canon_apply_of_pieces (wordsBlock x0 x1 x2 x3 x4 x5 x6 x7 x8 xs0) _ ?_ y (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 y)
  unfold kernelRun0_B
  dsimp only
  have e : wordsBlock x0 x1 x2 x3 x4 x5 x6 x7 x8 xs0 = wordsBlock (View.read (Elt F) arg2.view (harg2.unread x0)) (View.read (Elt F) arg3.view (harg3.unread x1)) (View.read (Elt F) arg4.view (harg4.unread x2)) (View.ld (View.read (Elt F) arg5.view (harg5.unread x3)) (Rect.unit (s := S1x1024) ![0, 0] S1x1024.size inb_S1x1024_S1x1024_0_0)) (View.ld (View.read (Elt F) arg6.view (harg6.unread x4)) (Rect.unit (s := S1024x1024) ![0, 0] S1024x1024.size inb_S1024x1024_S1024x1024_0_0)) (View.ld (View.read (Elt F) arg7.view (harg7.unread x5)) (Rect.unit (s := S1024x1024) ![0, 0] S1024x1024.size inb_S1024x1024_S1024x1024_0_0)) (View.ld (View.read (Elt F) arg8.view (harg8.unread x6)) (Rect.unit (s := S1x1024) ![0, 0] S1x1024.size inb_S1x1024_S1x1024_0_0)) (View.ld (View.read (Elt F) arg9.view (harg9.unread x7)) (Rect.unit (s := S128x1024) ![0, 0] S128x1024.size inb_S128x1024_S128x1024_0_0)) (View.ld (View.read (Elt F) arg10.view (harg10.unread x8)) (Rect.unit (s := S128x1) ![0, 0] S128x1.size inb_S128x1_S128x1_0_0)) (View.ld (View.read (Elt F) arg14.view (harg14.unread xs0)) (Rect.unit (s := S128x1) ![0, 0] S128x1.size inb_S128x1_S128x1_0_0)) := by
    rw [harg2.read_unread x0, harg3.read_unread x1, harg4.read_unread x2, harg5.read_unread x3, harg6.read_unread x4, harg7.read_unread x5,
      harg8.read_unread x6, harg9.read_unread x7, harg10.read_unread x8, harg14.read_unread xs0]
    rw [View.ld_unit_zero (S := S1x1024) hz2 _ x3, View.ld_unit_zero (S := S1024x1024) hz2 _ x4, View.ld_unit_zero (S := S1024x1024) hz2 _ x5,
      View.ld_unit_zero (S := S1x1024) hz2 _ x6, View.ld_unit_zero (S := S128x1024) hz2 _ x7, View.ld_unit_zero (S := S128x1) hz2 _ x8, View.ld_unit_zero (S := S128x1) hz2 _ xs0]
  rw [e]
  intro p hp z
  simp only [List.mem_cons, List.not_mem_nil, or_false] at hp
  rcases hp with rfl | rfl | rfl | rfl | rfl | rfl | rfl | rfl
  · exact wpiece _ _ _ _ _ _ _ _ _ _ 1792 7 rfl inb_S8x2048_S8x256_0_1792 z
  · exact wpiece _ _ _ _ _ _ _ _ _ _ 1536 6 rfl inb_S8x2048_S8x256_0_1536 z
  · exact wpiece _ _ _ _ _ _ _ _ _ _ 1280 5 rfl inb_S8x2048_S8x256_0_1280 z
  · exact wpiece _ _ _ _ _ _ _ _ _ _ 1024 4 rfl inb_S8x2048_S8x256_0_1024 z
  · exact wpiece _ _ _ _ _ _ _ _ _ _ 768 3 rfl inb_S8x2048_S8x256_0_768 z
  · exact wpiece _ _ _ _ _ _ _ _ _ _ 512 2 rfl inb_S8x2048_S8x256_0_512 z
  · exact wpiece _ _ _ _ _ _ _ _ _ _ 256 1 rfl inb_S8x2048_S8x256_0_256 z
  · exact wpiece _ _ _ _ _ _ _ _ _ _ 0 0 rfl inb_S8x2048_S8x256_0_0 z

/-- The zeros the first grid point stores into the counts, read back. -/
theorem zeros_read (c : Dev nD) (arg14 : Memref sig .tc .vmem S128x1 .f32) : kernelRun0_A.sl.v1650 (F := F) c arg14 = k0_pay1 := by
  unfold kernelRun0_A.sl.v1650
  exact View.readCov_unit_zero _ hz2 _ _

/-- What the first grid point leaves there. -/
theorem words_first (c : Dev nD) (i : grid0.Coords) (arg2 : Memref sig .tc .vmem S1x2048x1024 .f32) (harg2 : arg2.IsWhole) (arg3 : Memref sig .tc .vmem S1x1024x256 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S128x1 .f32) (harg10 : arg10.IsWhole) (arg11 : Memref sig .tc .vmem S1x2048x1024 .f32) (harg11 : arg11.IsWhole) (arg12 : Memref sig .tc .vmem S8x2048 .f32) (harg12 : arg12.IsWhole) (arg13 : Memref sig .tc .vmem S128x1 .f32) (harg13 : arg13.IsWhole) (arg14 : Memref sig .tc .vmem S128x1 .f32) (harg14 : arg14.IsWhole) (hc0 : cond0_0 i)
    (x0 : Vec F S1x2048x1024 .f32) (x1 : Vec F S1x1024x256 .bf16) (x2 : Vec F S1x256x1024 .bf16) (x3 : Vec F S1x1024 .f32) (x4 : Vec F S1024x1024 .bf16) (x5 : Vec F S1024x1024 .bf16) (x6 : Vec F S1x1024 .f32) (x7 : Vec F S128x1024 .bf16) (x8 : Vec F S128x1 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = wordsBlock x0 x1 x2 x3 x4 x5 x6 x7 x8 k0_pay1 := by
  funext y
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  refine View.canon_apply_of_pieces (wordsBlock x0 x1 x2 x3 x4 x5 x6 x7 x8 k0_pay1) _ ?_ y (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 y)
  unfold kernelRun0_A
  dsimp only
  have e : wordsBlock x0 x1 x2 x3 x4 x5 x6 x7 x8 k0_pay1 = wordsBlock (View.read (Elt F) arg2.view (harg2.unread x0)) (View.read (Elt F) arg3.view (harg3.unread x1)) (View.read (Elt F) arg4.view (harg4.unread x2)) (View.ld (View.read (Elt F) arg5.view (harg5.unread x3)) (Rect.unit (s := S1x1024) ![0, 0] S1x1024.size inb_S1x1024_S1x1024_0_0)) (View.ld (View.read (Elt F) arg6.view (harg6.unread x4)) (Rect.unit (s := S1024x1024) ![0, 0] S1024x1024.size inb_S1024x1024_S1024x1024_0_0)) (View.ld (View.read (Elt F) arg7.view (harg7.unread x5)) (Rect.unit (s := S1024x1024) ![0, 0] S1024x1024.size inb_S1024x1024_S1024x1024_0_0)) (View.ld (View.read (Elt F) arg8.view (harg8.unread x6)) (Rect.unit (s := S1x1024) ![0, 0] S1x1024.size inb_S1x1024_S1x1024_0_0)) (View.ld (View.read (Elt F) arg9.view (harg9.unread x7)) (Rect.unit (s := S128x1024) ![0, 0] S128x1024.size inb_S128x1024_S128x1024_0_0)) (View.ld (View.read (Elt F) arg10.view (harg10.unread x8)) (Rect.unit (s := S128x1) ![0, 0] S128x1.size inb_S128x1_S128x1_0_0)) (kernelRun0_A.sl.v1650 c arg14) := by
    rw [zeros_read, harg2.read_unread x0, harg3.read_unread x1, harg4.read_unread x2, harg5.read_unread x3, harg6.read_unread x4, harg7.read_unread x5,
      harg8.read_unread x6, harg9.read_unread x7, harg10.read_unread x8]
    rw [View.ld_unit_zero (S := S1x1024) hz2 _ x3, View.ld_unit_zero (S := S1024x1024) hz2 _ x4, View.ld_unit_zero (S := S1024x1024) hz2 _ x5,
      View.ld_unit_zero (S := S1x1024) hz2 _ x6, View.ld_unit_zero (S := S128x1024) hz2 _ x7, View.ld_unit_zero (S := S128x1) hz2 _ x8]
  rw [e]
  intro p hp z
  simp only [List.mem_cons, List.not_mem_nil, or_false] at hp
  rcases hp with rfl | rfl | rfl | rfl | rfl | rfl | rfl | rfl
  · exact wpiece _ _ _ _ _ _ _ _ _ _ 1792 7 rfl inb_S8x2048_S8x256_0_1792 z
  · exact wpiece _ _ _ _ _ _ _ _ _ _ 1536 6 rfl inb_S8x2048_S8x256_0_1536 z
  · exact wpiece _ _ _ _ _ _ _ _ _ _ 1280 5 rfl inb_S8x2048_S8x256_0_1280 z
  · exact wpiece _ _ _ _ _ _ _ _ _ _ 1024 4 rfl inb_S8x2048_S8x256_0_1024 z
  · exact wpiece _ _ _ _ _ _ _ _ _ _ 768 3 rfl inb_S8x2048_S8x256_0_768 z
  · exact wpiece _ _ _ _ _ _ _ _ _ _ 512 2 rfl inb_S8x2048_S8x256_0_512 z
  · exact wpiece _ _ _ _ _ _ _ _ _ _ 256 1 rfl inb_S8x2048_S8x256_0_256 z
  · exact wpiece _ _ _ _ _ _ _ _ _ _ 0 0 rfl inb_S8x2048_S8x256_0_0 z

/-- The counts every grid point but the first leaves. -/
theorem counts_next (c : Dev nD) (i : grid0.Coords) (arg2 : Memref sig .tc .vmem S1x2048x1024 .f32) (harg2 : arg2.IsWhole) (arg3 : Memref sig .tc .vmem S1x1024x256 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S128x1 .f32) (harg10 : arg10.IsWhole) (arg11 : Memref sig .tc .vmem S1x2048x1024 .f32) (harg11 : arg11.IsWhole) (arg12 : Memref sig .tc .vmem S8x2048 .f32) (harg12 : arg12.IsWhole) (arg13 : Memref sig .tc .vmem S128x1 .f32) (harg13 : arg13.IsWhole) (arg14 : Memref sig .tc .vmem S128x1 .f32) (harg14 : arg14.IsWhole) (hc0 : ¬cond0_0 i)
    (x0 : Vec F S1x2048x1024 .f32) (x1 : Vec F S1x1024x256 .bf16) (x2 : Vec F S1x256x1024 .bf16) (x3 : Vec F S1x1024 .f32) (x4 : Vec F S1024x1024 .bf16) (x5 : Vec F S1024x1024 .bf16) (x6 : Vec F S1x1024 .f32) (x7 : Vec F S128x1024 .bf16) (x8 : Vec F S128x1 .f32) (xs0 : Vec F S128x1 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 = carry (slabLogits x0 x1 x2 x3 x4 x5 x6 x7 x8) xs0 8 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0)]
  unfold kernelRun0_B
  dsimp only
  have e : carry (slabLogits x0 x1 x2 x3 x4 x5 x6 x7 x8) xs0 8 = carry (slabLogits (View.read (Elt F) arg2.view (harg2.unread x0)) (View.read (Elt F) arg3.view (harg3.unread x1)) (View.read (Elt F) arg4.view (harg4.unread x2)) (View.ld (View.read (Elt F) arg5.view (harg5.unread x3)) (Rect.unit (s := S1x1024) ![0, 0] S1x1024.size inb_S1x1024_S1x1024_0_0)) (View.ld (View.read (Elt F) arg6.view (harg6.unread x4)) (Rect.unit (s := S1024x1024) ![0, 0] S1024x1024.size inb_S1024x1024_S1024x1024_0_0)) (View.ld (View.read (Elt F) arg7.view (harg7.unread x5)) (Rect.unit (s := S1024x1024) ![0, 0] S1024x1024.size inb_S1024x1024_S1024x1024_0_0)) (View.ld (View.read (Elt F) arg8.view (harg8.unread x6)) (Rect.unit (s := S1x1024) ![0, 0] S1x1024.size inb_S1x1024_S1x1024_0_0)) (View.ld (View.read (Elt F) arg9.view (harg9.unread x7)) (Rect.unit (s := S128x1024) ![0, 0] S128x1024.size inb_S128x1024_S128x1024_0_0)) (View.ld (View.read (Elt F) arg10.view (harg10.unread x8)) (Rect.unit (s := S128x1) ![0, 0] S128x1.size inb_S128x1_S128x1_0_0))) (View.ld (View.read (Elt F) arg14.view (harg14.unread xs0)) (Rect.unit (s := S128x1) ![0, 0] S128x1.size inb_S128x1_S128x1_0_0)) 8 := by
    rw [harg2.read_unread x0, harg3.read_unread x1, harg4.read_unread x2, harg5.read_unread x3, harg6.read_unread x4, harg7.read_unread x5,
      harg8.read_unread x6, harg9.read_unread x7, harg10.read_unread x8, harg14.read_unread xs0]
    rw [View.ld_unit_zero (S := S1x1024) hz2 _ x3, View.ld_unit_zero (S := S1024x1024) hz2 _ x4, View.ld_unit_zero (S := S1024x1024) hz2 _ x5,
      View.ld_unit_zero (S := S1x1024) hz2 _ x6, View.ld_unit_zero (S := S128x1024) hz2 _ x7, View.ld_unit_zero (S := S128x1) hz2 _ x8, View.ld_unit_zero (S := S128x1) hz2 _ xs0]
  rw [e]
  exact View.canon_cons_unit_zero hz2 _ _ _

/-- The counts the first grid point leaves. -/
theorem counts_first (c : Dev nD) (i : grid0.Coords) (arg2 : Memref sig .tc .vmem S1x2048x1024 .f32) (harg2 : arg2.IsWhole) (arg3 : Memref sig .tc .vmem S1x1024x256 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S128x1 .f32) (harg10 : arg10.IsWhole) (arg11 : Memref sig .tc .vmem S1x2048x1024 .f32) (harg11 : arg11.IsWhole) (arg12 : Memref sig .tc .vmem S8x2048 .f32) (harg12 : arg12.IsWhole) (arg13 : Memref sig .tc .vmem S128x1 .f32) (harg13 : arg13.IsWhole) (arg14 : Memref sig .tc .vmem S128x1 .f32) (harg14 : arg14.IsWhole) (hc0 : cond0_0 i)
    (x0 : Vec F S1x2048x1024 .f32) (x1 : Vec F S1x1024x256 .bf16) (x2 : Vec F S1x256x1024 .bf16) (x3 : Vec F S1x1024 .f32) (x4 : Vec F S1024x1024 .bf16) (x5 : Vec F S1024x1024 .bf16) (x6 : Vec F S1x1024 .f32) (x7 : Vec F S128x1024 .bf16) (x8 : Vec F S128x1 .f32) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = carry (slabLogits x0 x1 x2 x3 x4 x5 x6 x7 x8) k0_pay1 8 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  have e : carry (slabLogits x0 x1 x2 x3 x4 x5 x6 x7 x8) k0_pay1 8 = carry (slabLogits (View.read (Elt F) arg2.view (harg2.unread x0)) (View.read (Elt F) arg3.view (harg3.unread x1)) (View.read (Elt F) arg4.view (harg4.unread x2)) (View.ld (View.read (Elt F) arg5.view (harg5.unread x3)) (Rect.unit (s := S1x1024) ![0, 0] S1x1024.size inb_S1x1024_S1x1024_0_0)) (View.ld (View.read (Elt F) arg6.view (harg6.unread x4)) (Rect.unit (s := S1024x1024) ![0, 0] S1024x1024.size inb_S1024x1024_S1024x1024_0_0)) (View.ld (View.read (Elt F) arg7.view (harg7.unread x5)) (Rect.unit (s := S1024x1024) ![0, 0] S1024x1024.size inb_S1024x1024_S1024x1024_0_0)) (View.ld (View.read (Elt F) arg8.view (harg8.unread x6)) (Rect.unit (s := S1x1024) ![0, 0] S1x1024.size inb_S1x1024_S1x1024_0_0)) (View.ld (View.read (Elt F) arg9.view (harg9.unread x7)) (Rect.unit (s := S128x1024) ![0, 0] S128x1024.size inb_S128x1024_S128x1024_0_0)) (View.ld (View.read (Elt F) arg10.view (harg10.unread x8)) (Rect.unit (s := S128x1) ![0, 0] S128x1.size inb_S128x1_S128x1_0_0))) (kernelRun0_A.sl.v1650 c arg14) 8 := by
    rw [zeros_read, harg2.read_unread x0, harg3.read_unread x1, harg4.read_unread x2, harg5.read_unread x3, harg6.read_unread x4, harg7.read_unread x5,
      harg8.read_unread x6, harg9.read_unread x7, harg10.read_unread x8]
    rw [View.ld_unit_zero (S := S1x1024) hz2 _ x3, View.ld_unit_zero (S := S1024x1024) hz2 _ x4, View.ld_unit_zero (S := S1024x1024) hz2 _ x5,
      View.ld_unit_zero (S := S1x1024) hz2 _ x6, View.ld_unit_zero (S := S128x1024) hz2 _ x7, View.ld_unit_zero (S := S128x1) hz2 _ x8]
  rw [e]
  exact View.canon_cons_unit_zero hz2 _ _ _

/-- The counts every grid point but the first hands on. -/
theorem seen_next (c : Dev nD) (i : grid0.Coords) (arg2 : Memref sig .tc .vmem S1x2048x1024 .f32) (harg2 : arg2.IsWhole) (arg3 : Memref sig .tc .vmem S1x1024x256 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S128x1 .f32) (harg10 : arg10.IsWhole) (arg11 : Memref sig .tc .vmem S1x2048x1024 .f32) (harg11 : arg11.IsWhole) (arg12 : Memref sig .tc .vmem S8x2048 .f32) (harg12 : arg12.IsWhole) (arg13 : Memref sig .tc .vmem S128x1 .f32) (harg13 : arg13.IsWhole) (arg14 : Memref sig .tc .vmem S128x1 .f32) (harg14 : arg14.IsWhole) (hc0 : ¬cond0_0 i)
    (x0 : Vec F S1x2048x1024 .f32) (x1 : Vec F S1x1024x256 .bf16) (x2 : Vec F S1x256x1024 .bf16) (x3 : Vec F S1x1024 .f32) (x4 : Vec F S1024x1024 .bf16) (x5 : Vec F S1024x1024 .bf16) (x6 : Vec F S1x1024 .f32) (x7 : Vec F S128x1024 .bf16) (x8 : Vec F S128x1 .f32) (xs0 : Vec F S128x1 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 = carry (slabLogits x0 x1 x2 x3 x4 x5 x6 x7 x8) xs0 8 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0)]
  unfold kernelRun0_B
  dsimp only
  have e : carry (slabLogits x0 x1 x2 x3 x4 x5 x6 x7 x8) xs0 8 = carry (slabLogits (View.read (Elt F) arg2.view (harg2.unread x0)) (View.read (Elt F) arg3.view (harg3.unread x1)) (View.read (Elt F) arg4.view (harg4.unread x2)) (View.ld (View.read (Elt F) arg5.view (harg5.unread x3)) (Rect.unit (s := S1x1024) ![0, 0] S1x1024.size inb_S1x1024_S1x1024_0_0)) (View.ld (View.read (Elt F) arg6.view (harg6.unread x4)) (Rect.unit (s := S1024x1024) ![0, 0] S1024x1024.size inb_S1024x1024_S1024x1024_0_0)) (View.ld (View.read (Elt F) arg7.view (harg7.unread x5)) (Rect.unit (s := S1024x1024) ![0, 0] S1024x1024.size inb_S1024x1024_S1024x1024_0_0)) (View.ld (View.read (Elt F) arg8.view (harg8.unread x6)) (Rect.unit (s := S1x1024) ![0, 0] S1x1024.size inb_S1x1024_S1x1024_0_0)) (View.ld (View.read (Elt F) arg9.view (harg9.unread x7)) (Rect.unit (s := S128x1024) ![0, 0] S128x1024.size inb_S128x1024_S128x1024_0_0)) (View.ld (View.read (Elt F) arg10.view (harg10.unread x8)) (Rect.unit (s := S128x1) ![0, 0] S128x1.size inb_S128x1_S128x1_0_0))) (View.ld (View.read (Elt F) arg14.view (harg14.unread xs0)) (Rect.unit (s := S128x1) ![0, 0] S128x1.size inb_S128x1_S128x1_0_0)) 8 := by
    rw [harg2.read_unread x0, harg3.read_unread x1, harg4.read_unread x2, harg5.read_unread x3, harg6.read_unread x4, harg7.read_unread x5,
      harg8.read_unread x6, harg9.read_unread x7, harg10.read_unread x8, harg14.read_unread xs0]
    rw [View.ld_unit_zero (S := S1x1024) hz2 _ x3, View.ld_unit_zero (S := S1024x1024) hz2 _ x4, View.ld_unit_zero (S := S1024x1024) hz2 _ x5,
      View.ld_unit_zero (S := S1x1024) hz2 _ x6, View.ld_unit_zero (S := S128x1024) hz2 _ x7, View.ld_unit_zero (S := S128x1) hz2 _ x8, View.ld_unit_zero (S := S128x1) hz2 _ xs0]
  rw [e]
  refine (View.canon_cons_unit_zero (S := S128x1) (off := ![0, 0]) hz2 inb_S128x1_S128x1_0_0 _ _).trans ?_
  unfold k0_pay314
  exact shapeCast_self _ _

/-- The counts the first grid point hands on. -/
theorem seen_first (c : Dev nD) (i : grid0.Coords) (arg2 : Memref sig .tc .vmem S1x2048x1024 .f32) (harg2 : arg2.IsWhole) (arg3 : Memref sig .tc .vmem S1x1024x256 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S128x1 .f32) (harg10 : arg10.IsWhole) (arg11 : Memref sig .tc .vmem S1x2048x1024 .f32) (harg11 : arg11.IsWhole) (arg12 : Memref sig .tc .vmem S8x2048 .f32) (harg12 : arg12.IsWhole) (arg13 : Memref sig .tc .vmem S128x1 .f32) (harg13 : arg13.IsWhole) (arg14 : Memref sig .tc .vmem S128x1 .f32) (harg14 : arg14.IsWhole) (hc0 : cond0_0 i)
    (x0 : Vec F S1x2048x1024 .f32) (x1 : Vec F S1x1024x256 .bf16) (x2 : Vec F S1x256x1024 .bf16) (x3 : Vec F S1x1024 .f32) (x4 : Vec F S1024x1024 .bf16) (x5 : Vec F S1024x1024 .bf16) (x6 : Vec F S1x1024 .f32) (x7 : Vec F S128x1024 .bf16) (x8 : Vec F S128x1 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = carry (slabLogits x0 x1 x2 x3 x4 x5 x6 x7 x8) k0_pay1 8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  have e : carry (slabLogits x0 x1 x2 x3 x4 x5 x6 x7 x8) k0_pay1 8 = carry (slabLogits (View.read (Elt F) arg2.view (harg2.unread x0)) (View.read (Elt F) arg3.view (harg3.unread x1)) (View.read (Elt F) arg4.view (harg4.unread x2)) (View.ld (View.read (Elt F) arg5.view (harg5.unread x3)) (Rect.unit (s := S1x1024) ![0, 0] S1x1024.size inb_S1x1024_S1x1024_0_0)) (View.ld (View.read (Elt F) arg6.view (harg6.unread x4)) (Rect.unit (s := S1024x1024) ![0, 0] S1024x1024.size inb_S1024x1024_S1024x1024_0_0)) (View.ld (View.read (Elt F) arg7.view (harg7.unread x5)) (Rect.unit (s := S1024x1024) ![0, 0] S1024x1024.size inb_S1024x1024_S1024x1024_0_0)) (View.ld (View.read (Elt F) arg8.view (harg8.unread x6)) (Rect.unit (s := S1x1024) ![0, 0] S1x1024.size inb_S1x1024_S1x1024_0_0)) (View.ld (View.read (Elt F) arg9.view (harg9.unread x7)) (Rect.unit (s := S128x1024) ![0, 0] S128x1024.size inb_S128x1024_S128x1024_0_0)) (View.ld (View.read (Elt F) arg10.view (harg10.unread x8)) (Rect.unit (s := S128x1) ![0, 0] S128x1.size inb_S128x1_S128x1_0_0))) (kernelRun0_A.sl.v1650 c arg14) 8 := by
    rw [zeros_read, harg2.read_unread x0, harg3.read_unread x1, harg4.read_unread x2, harg5.read_unread x3, harg6.read_unread x4, harg7.read_unread x5,
      harg8.read_unread x6, harg9.read_unread x7, harg10.read_unread x8]
    rw [View.ld_unit_zero (S := S1x1024) hz2 _ x3, View.ld_unit_zero (S := S1024x1024) hz2 _ x4, View.ld_unit_zero (S := S1024x1024) hz2 _ x5,
      View.ld_unit_zero (S := S1x1024) hz2 _ x6, View.ld_unit_zero (S := S128x1024) hz2 _ x7, View.ld_unit_zero (S := S128x1) hz2 _ x8]
  rw [e]
  refine (View.canon_cons_unit_zero (S := S128x1) (off := ![0, 0]) hz2 inb_S128x1_S128x1_0_0 _ _).trans ?_
  unfold k0_pay314
  exact shapeCast_self _ _

end Cert.Proof.Route
-- ==== Proof.RtBlock.lean ====
/-
  THE COUNTS ACROSS THE GRID. Token `n` of the 32768 is row `n % 256` of slab `n % 2048 / 256` of grid point `n / 2048`. Each slab adds to the
  count of every class what its own rows have of it, so the counts before a slab are of all tokens before it, and a row's rank is the count of
  its class before it.
-/
module

public import proofs.«01_k».proof.Proof.RtTile
public import proofs.«01_k».proof.Proof.AttnBlock

@[expose] public section

set_option maxRecDepth 16384

noncomputable section

open Idealize.ShloMosaic Idealize.ShloMosaic.TcCoe
open scoped BigOperators

namespace Cert.Proof.Route

open Cert.Kernel2Ideal Cert.Kernel2Ideal.Gen Cert.Kernel2Ideal.Value

theorem cls_num (L : FVec Ideal S128x256 .f32) (r : Fin 256) (z : Fin 1) : ∃ k : Fin 128, cls L (ix2 z r) = num k.val := by
  obtain ⟨g, hg⟩ := exists_first (fun k => L (ix2 (grow k) r))
  have hi := sorted_first (fun e => L (ix2 (erow g e) r))
  have hj := sorted_second (n := 6) (fun e => L (ix2 (erow g e) r))
  refine ⟨⟨_, code_lt g.isLt (min_lt_max.mpr fun h => hj.1 (Fin.ext h.symm)) (max_lt (Fin.isLt _) (Fin.isLt _))⟩, cls_at L r z g _ _ hg hi hj⟩

theorem row_at (k : Fin 128) (x : Fin 256) : k0_pay273 (F := Ideal) (ix2 k x) = num k.val := by
  pointwise [k0_pay273]
  exact convert_num _ (by omega)

/-- Choosing by place. -/
theorem before_at (x r : Fin 256) (a b : EReal) :
    Scalar.select (IntOp.cmpi .slt (BitVec.ofNat 32 x.val) (BitVec.ofNat 32 r.val)) a b = if x.val < r.val then a else b := by
  have h : (BitVec.ofNat 32 x.val).slt (BitVec.ofNat 32 r.val) = decide (x.val < r.val) := by
    rw [BitVec.slt_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr Nat.cast_lt
  show (if BitVec.ofBool ((BitVec.ofNat 32 x.val).slt (BitVec.ofNat 32 r.val)) = 1 then a else b) = _
  rw [h]
  by_cases hx : x.val < r.val <;> simp [hx]

open Classical in
theorem next_at (L : FVec Ideal S128x256 .f32) (seen : FVec Ideal S128x1 .f32) (k : Fin 128) (z : Fin 1) :
    next L seen (ix2 k z) = seen (ix2 k z) + ∑ x : Fin 256, if cls L (ix2 0 x) = num k.val then 1 else 0 := by
  unfold next oh
  pointwise [k0_pay299, k0_pay282, k0_pay274]
  exact congrArg (seen (ix2 k z) + ·) (Finset.sum_congr rfl fun x _ => if_congr (by rw [row_at]; exact eq_comm) rfl rfl)

open Classical in
theorem words_at (L : FVec Ideal S128x256 .f32) (seen : FVec Ideal S128x1 .f32) (y : Fin 8) (r : Fin 256) :
    wordsOf L seen (ix2 y r) = if y.val = 0 then cls L (ix2 0 r) else if y.val = 1 then
      ∑ k : Fin 128, if num k.val = cls L (ix2 0 r) then
        (∑ x : Fin 256, if cls L (ix2 0 x) = num k.val ∧ x.val < r.val then 1 else 0) + seen (ix2 k 0) else 0 else 0 := by
  unfold wordsOf oh
  pointwise [k0_pay298, k0_pay290, k0_pay282, k0_pay274, k0_pay272, k0_pay224]
  rw [convert_num _ (by omega)]
  refine if_congr (by rw [zero_eq, num_inj]) rfl (if_congr (by rw [one_eq, num_inj]) (Finset.sum_congr rfl fun k _ => ?_) rfl)
  refine if_congr (by rw [row_at]) (congrArg (· + _) (Finset.sum_congr rfl fun x _ => ?_)) rfl
  rw [before_at, row_at]
  by_cases h1 : x.val < r.val <;> by_cases h2 : cls L (ix2 0 x) = num k.val
  · rw [if_pos h1, if_pos h2.symm, if_pos ⟨h2, h1⟩]
  · rw [if_pos h1, if_neg fun h => h2 h.symm, if_neg fun h => h2 h.1]
  · rw [if_neg h1, if_neg fun h => h1 h.2]
  · rw [if_neg h1, if_neg fun h => h1 h.2]

section Slabs

variable {L : ℕ → FVec Ideal S128x256 .f32} {seen : FVec Ideal S128x1 .f32} {C : ℕ → EReal} {n0 : ℕ}

open Classical in
theorem carry_at (hC : ∀ j < 8, ∀ r : Fin 256, C (n0 + 256 * j + r.val) = cls (L j) (ix2 0 r))
    (hs : ∀ (k : Fin 128) z, seen (ix2 k z) = cnt C (num k.val) n0) (k : Fin 128) (z : Fin 1) :
    ∀ j, j ≤ 8 → carry L seen j (ix2 k z) = cnt C (num k.val) (n0 + 256 * j)
  | 0, _ => hs k z
  | j + 1, h => by
    show next (L j) (carry L seen j) (ix2 k z) = _
    rw [next_at, carry_at hC hs k z j (by omega), Nat.mul_succ, ← Nat.add_assoc, cnt_add C _ (n0 + 256 * j) 256]
    exact congrArg (cnt C (num k.val) (n0 + 256 * j) + ·) (Finset.sum_congr rfl fun x _ => by rw [hC j (by omega) x])

open Classical in
theorem slab_words (hC : ∀ j < 8, ∀ r : Fin 256, C (n0 + 256 * j + r.val) = cls (L j) (ix2 0 r))
    (hs : ∀ (k : Fin 128) z, seen (ix2 k z) = cnt C (num k.val) n0) (j : ℕ) (hj : j < 8) (y : Fin 8) (r : Fin 256) :
    wordsOf (L j) (carry L seen j) (ix2 y r) = if y.val = 0 then C (n0 + 256 * j + r.val) else if y.val = 1 then
      cnt C (C (n0 + 256 * j + r.val)) (n0 + 256 * j + r.val) else 0 := by
  rw [words_at, hC j hj]
  refine if_congr Iff.rfl rfl (if_congr Iff.rfl ?_ rfl)
  obtain ⟨k, hk⟩ := cls_num (L j) r 0
  rw [Finset.sum_eq_single k (fun x _ hx => if_neg fun h => hx (Fin.ext (num_inj.mp (h.trans hk)))) (fun h => absurd (Finset.mem_univ k) h),
    if_pos hk.symm, carry_at hC hs k 0 j hj.le, hk, ← cnt_inside C (num k.val) (n0 + 256 * j) 256 r.val r.isLt.le]
  exact congrArg (· + _) (Finset.sum_congr rfl fun x _ => by rw [hC j hj x])

end Slabs

/-! ## The points -/

variable (m : (ℓ : Loc nD τ sig) → Buf (Elt Ideal) ℓ) (c : Dev nD)

/-- The logits of slab `j` of point `t`. -/
def pointLogits (t : Fin cfg0.N) : ℕ → FVec Ideal S128x256 .f32 :=
  slabLogits (iblk m c 0 t) (iblk m c 1 t) (iblk m c 2 t) (iblk m c 3 t) (iblk m c 4 t) (iblk m c 5 t) (iblk m c 6 t) (iblk m c 7 t) (iblk m c 8 t)

/-- Token `n`'s class. -/
def klass (n : ℕ) : EReal :=
  if h : n / 2048 < cfg0.N then cls (pointLogits m c ⟨n / 2048, h⟩ (n % 2048 / 256)) (ix2 0 (⟨n % 256, Nat.mod_lt _ (by decide)⟩ : Fin 256)) else 0

theorem klass_at (t : Fin cfg0.N) (j : ℕ) (hj : j < 8) (r : Fin 256) :
    klass m c (2048 * t.val + 256 * j + r.val) = cls (pointLogits m c t j) (ix2 0 r) := by
  have h1 : (2048 * t.val + 256 * j + r.val) / 2048 = t.val := by omega
  have h2 : (2048 * t.val + 256 * j + r.val) % 2048 / 256 = j := by omega
  have h3 : (⟨(2048 * t.val + 256 * j + r.val) % 256, Nat.mod_lt _ (by decide)⟩ : Fin 256) = r := Fin.ext (by show _ % 256 = r.val; omega)
  unfold klass
  rw [dif_pos (lt_of_eq_of_lt h1 t.isLt), h2, h3]
  congr 2
  exact Fin.ext h1

/-- The counts a point starts from. -/
def start (t : Fin cfg0.N) (acc : Vec Ideal S128x1 .f32) : Vec Ideal S128x1 .f32 := if t.val % 16 = 0 then (k0_pay1 : FVec Ideal S128x1 .f32) else acc

theorem step_words (t : Fin cfg0.N) (acc) :
    (stAt0 m c t.val t.isLt acc).2.1 = wordsBlock (iblk m c 0 t) (iblk m c 1 t) (iblk m c 2 t) (iblk m c 3 t) (iblk m c 4 t) (iblk m c 5 t)
      (iblk m c 6 t) (iblk m c 7 t) (iblk m c 8 t) (start t acc.2.2.2) := by
  unfold start
  by_cases h0 : t.val % 16 = 0
  · rw [stAt0_A m c t acc h0, if_pos h0]
    dsimp only
    rw [words_first]
  · rw [stAt0_B m c t acc h0, if_neg h0]
    dsimp only
    rw [words_next]

theorem step_counts (t : Fin cfg0.N) (acc) :
    (stAt0 m c t.val t.isLt acc).2.2.1 = carry (pointLogits m c t) (start t acc.2.2.2) 8 := by
  unfold start pointLogits
  by_cases h0 : t.val % 16 = 0
  · rw [stAt0_A m c t acc h0, if_pos h0]
    dsimp only
    rw [counts_first]
  · rw [stAt0_B m c t acc h0, if_neg h0]
    dsimp only
    rw [counts_next]

theorem step_seen (t : Fin cfg0.N) (acc) :
    (stAt0 m c t.val t.isLt acc).2.2.2 = carry (pointLogits m c t) (start t acc.2.2.2) 8 := by
  unfold start pointLogits
  by_cases h0 : t.val % 16 = 0
  · rw [stAt0_A m c t acc h0, if_pos h0]
    dsimp only
    rw [seen_first]
  · rw [stAt0_B m c t acc h0, if_neg h0]
    dsimp only
    rw [seen_next]

/-- What a point leaves, when the counts it starts from are of the tokens before it. -/
def Leaves (t : Fin cfg0.N) (s : Vec Ideal S1x2048x1024 .f32 × Vec Ideal S8x2048 .f32 × Vec Ideal S128x1 .f32 × Vec Ideal S128x1 .f32) : Prop :=
  (∀ (y : Fin 8) (x : Fin 2048), s.2.1 (ix2 y x) = if y.val = 0 then klass m c (2048 * t.val + x.val) else if y.val = 1 then
      cnt (klass m c) (klass m c (2048 * t.val + x.val)) (2048 * t.val + x.val) else 0)
    ∧ (∀ (k : Fin 128) z, s.2.2.1 (ix2 k z) = cnt (klass m c) (num k.val) (2048 * (t.val + 1)))
    ∧ ∀ (k : Fin 128) z, s.2.2.2 (ix2 k z) = cnt (klass m c) (num k.val) (2048 * (t.val + 1))

theorem leaves (t : Fin cfg0.N) (acc) (hs : ∀ (k : Fin 128) z, start t acc.2.2.2 (ix2 k z) = cnt (klass m c) (num k.val) (2048 * t.val)) :
    Leaves m c t (stAt0 m c t.val t.isLt acc) := by
  have hC : ∀ j < 8, ∀ r : Fin 256, klass m c (2048 * t.val + 256 * j + r.val) = cls (pointLogits m c t j) (ix2 0 r) := fun j hj r => klass_at m c t j hj r
  refine ⟨fun y x => ?_, fun k z => ?_, fun k z => ?_⟩
  · rw [step_words]
    refine (slab_words hC hs (x.val / 256) (by omega) y ⟨x.val % 256, Nat.mod_lt _ (by decide)⟩).trans ?_
    have e : 2048 * t.val + 256 * (x.val / 256) + x.val % 256 = 2048 * t.val + x.val := by omega
    dsimp only
    rw [e]
  · rw [step_counts]; exact carry_at hC hs k z 8 le_rfl
  · rw [step_seen]; exact carry_at hC hs k z 8 le_rfl

theorem zeros_at (k : Fin 128) (z : Fin 1) : k0_pay1 (F := Ideal) (ix2 k z) = 0 := by
  pointwise [k0_pay1]

theorem leaves_at : ∀ (n : ℕ) (hn : n < cfg0.N) (h : 0 + n < cfg0.N),
    Leaves m c ⟨n, hn⟩ (Pipeline.accAt (fun n h => stAt0 m c n h junk0) (stAt0 m c) 0 n h)
  | 0, hn, _ => leaves m c ⟨0, hn⟩ junk0 fun k z => by
      unfold start
      rw [if_pos (by rfl), zeros_at]
      simp [cnt]
  | n + 1, hn, h => by
    have ih := leaves_at n (by omega) (by omega)
    rw [Pipeline.accAt_succ]
    generalize Pipeline.accAt (fun n h => stAt0 m c n h junk0) (stAt0 m c) 0 n _ = acc at *
    have e : 0 + (n + 1) = n + 1 := Nat.zero_add _
    have hs : ∀ (a : ℕ) (ha : a < cfg0.N), a = n + 1 → stAt0 m c a ha acc = stAt0 m c (n + 1) hn acc := by
      intro a ha rfl; rfl
    rw [hs _ _ e]
    refine leaves m c ⟨n + 1, hn⟩ acc fun k z => ?_
    unfold start
    have h16 := Attn.lt16 ⟨n + 1, hn⟩
    rw [if_neg (by show ¬(n + 1) % 16 = 0; have : n + 1 < 16 := h16; omega)]
    exact ih.2.2 k z

/-- The kernel's rows of words and ranks. -/
theorem words_kernel (y : Fin 8) (n : Fin 32768) : G10 m c (ix2 y n) = if y.val = 0 then klass m c n.val else if y.val = 1 then
    cnt (klass m c) (klass m c n.val) n.val else 0 := by
  have hN : n.val / 2048 < cfg0.N := lt_of_lt_of_eq (by omega : _ < 16) N_0.symm
  have hp : pt10Of (ix2 y n) = n.val / 2048 := by
    show 16 * (y.val / 8 - 0) + 1 * (n.val / 2048 - 0) = _
    have := y.isLt; omega
  unfold G10
  rw [dif_pos (hp ▸ hN), fold0_congr m c _ _ (n.val / 2048) (by omega) hp]
  have h := (leaves_at m c (n.val / 2048) hN (by omega)).1 y ⟨n.val % 2048, Nat.mod_lt _ (by decide)⟩
  have hy : (⟨y.val % 8, Nat.mod_lt _ (by decide)⟩ : Fin 8) = y := Fin.ext (Nat.mod_eq_of_lt y.isLt)
  have e : 2048 * (n.val / 2048) + n.val % 2048 = n.val := by omega
  dsimp only at h
  rw [e] at h
  refine Eq.trans (congrArg _ (funext fun a => Fin.ext ?_)) h
  match a with
  | ⟨0, _⟩ => exact Nat.mod_eq_of_lt y.isLt
  | ⟨1, _⟩ => rfl

/-- The kernel's counts. -/
theorem counts_kernel (k : Fin 128) (z : Fin 1) : G11 m c (ix2 k z) = cnt (klass m c) (num k.val) 32768 := by
  rw [G11_last]
  exact (leaves_at m c 15 (lt_of_lt_of_eq (by decide) N_0.symm) _).2.1 k z

end Cert.Proof.Route
-- ==== Proof.RtRef.lean ====
/-
  THE REFERENCE'S ROUTING READ AT AN INDEX: a token's group is the first greatest of its four group logits, its experts the first and second
  greatest of that group's eight, and its word numbers the pair; the ranks and the counts are sums over all tokens.
-/
module

public import proofs.«01_k».proof.Proof.RtFirst
public import proofs.«01_k».proof.Proof.RtClass
public import proofs.«01_k».proof.Proof.Gen.Reference2Ideal.Read
public import Idealize.ShloMosaic.Lib.Pointwise
public import Idealize.ShloMosaic.Lib.KernelVsHost

@[expose] public section

set_option maxRecDepth 16384

noncomputable section

open Idealize.ShloMosaic Idealize.ShloMosaic.TcCoe
open scoped BigOperators

namespace Cert.Proof.Route

open Cert.Reference2Ideal Cert.Reference2Ideal.Read

/-- The positions of a row's greatest entries. -/
theorem top_at {N w k : ℕ} (x : FVec Ideal ⟨2, ![N, w]⟩ .f32) (h) (hk : k ≤ w) (n : Fin N) (i : Fin k) :
    (Host.topK ⟨2, ![N, k]⟩ 1 (FloatOps.cmpfTotal .gt) x h).2 (ix2 n i)
      = BitVec.ofNat 32 (sortedFrom (gtB fun e => x (ix2 n e)) ⟨i.val, i.isLt.trans_le hk⟩).val := by
  have e : (fun a b : Fin w => (FloatOps.cmpfTotal (F := Ideal) (φ := .f32) .gt (x (ix2 n a)) (x (ix2 n b))) == 1#1) = gtB fun e => x (ix2 n e) := by
    funext a b
    show (Ideal.cmp .ogt (x (ix2 n a)) (x (ix2 n b)) == 1#1) = _
    unfold gtB
    by_cases hab : x (ix2 n b) < x (ix2 n a) <;> simp [Ideal.cmp, hab]
  rw [← e]
  have key : ∀ J : Shape.Idx ⟨2, ![N, w]⟩, (J 0).val = n.val → (J 1).val = i.val →
      BitVec.ofNat 32 ((J.along (1 : Fin 2) (sortedFrom (fun a b : Fin w => FloatOps.cmpfTotal (F := Ideal) (φ := .f32) .gt (x (J.along (1 : Fin 2) a)) (x (J.along (1 : Fin 2) b)) == 1#1) (J 1))) 1).val
        = BitVec.ofNat 32 (sortedFrom (fun a b : Fin w => FloatOps.cmpfTotal (F := Ideal) (φ := .f32) .gt (x (ix2 n a)) (x (ix2 n b)) == 1#1) ⟨i.val, i.isLt.trans_le hk⟩).val := by
    intro J h0 h1
    have ha : ∀ a : Fin w, J.along (1 : Fin 2) a = ix2 n a := by
      intro a
      funext b
      match b with
      | ⟨0, _⟩ => exact Fin.ext h0
      | ⟨1, _⟩ => rfl
    have hJ : (J 1 : Fin w) = ⟨i.val, i.isLt.trans_le hk⟩ := Fin.ext h1
    refine congrArg (fun q : Fin w => BitVec.ofNat 32 q.val) ?_
    exact congr (congrArg sortedFrom (funext fun a => funext fun b =>
      congrArg₂ (fun u v => (FloatOps.cmpfTotal (F := Ideal) (φ := .f32) .gt (x u) (x v) == 1#1)) (ha a) (ha b))) hJ
  unfold Host.topK Host.sort2
  pointwise
  exact key _ rfl rfl

/-! ## Taking the group's experts -/

abbrev takeDims := gather_S32768x4x8_S32768x1x1_S32768x1x8_2_1_0_0_1_2_118

theorem take_token (idx : IVec S32768x1x1 32) (y : S32768x1x8.Idx) : (takeDims.operandIdx y idx (0 : Fin 3)).val = (y 0).val := by
  show takeDims.start y idx (0 : Fin 3) + takeDims.batchCoord y (0 : Fin 3) + takeDims.offCoord y (0 : Fin 3) = _
  have h1 : (0 : Fin 3) ∉ takeDims.startIndexMap := by decide
  have h2 : (0 : Fin 3) ∈ takeDims.operandBatchingDims := by decide
  rw [GatherDims.offCoord_eq_zero _ _ _ (fun h => ((GatherDims.mem_sKept _ _).mp h).2 h2)]
  unfold GatherDims.start GatherDims.batchCoord
  rw [dif_neg h1, dif_pos h2, Nat.zero_add]
  rfl

theorem take_group (idx : IVec S32768x1x1 32) (y : S32768x1x8.Idx) (n : Fin 32768) (hn : n.val = (y 0).val) :
    (takeDims.operandIdx y idx (1 : Fin 3)).val = min (idx (ix3 n 0 0)).toInt.toNat 3 := by
  show takeDims.start y idx (1 : Fin 3) + takeDims.batchCoord y (1 : Fin 3) + takeDims.offCoord y (1 : Fin 3) = _
  have h1 : (1 : Fin 3) ∈ takeDims.startIndexMap := by decide
  have h2 : (1 : Fin 3) ∉ takeDims.operandBatchingDims := by decide
  have h3 : (1 : Fin 3) ∈ takeDims.collapsedSliceDims := by decide
  rw [GatherDims.batchCoord_eq_zero _ _ _ h2, GatherDims.offCoord_eq_zero _ _ _ (fun h => ((GatherDims.mem_sKept _ _).mp h).1 h3)]
  unfold GatherDims.start
  rw [dif_pos h1]
  have hs : ∀ q, takeDims.siIdx y q = (ix3 n 0 0 : S32768x1x1.Idx) := by
    intro q
    funext b
    refine Fin.ext ?_
    match b with
    | ⟨0, _⟩ => exact hn.symm
    | ⟨1, _⟩ => exact Nat.lt_one_iff.mp (Fin.isLt (takeDims.siIdx y q (1 : Fin 3)))
    | ⟨2, _⟩ => exact Nat.lt_one_iff.mp (Fin.isLt (takeDims.siIdx y q (2 : Fin 3)))
  rw [hs]
  rfl

theorem take_expert (idx : IVec S32768x1x1 32) (y : S32768x1x8.Idx) : (takeDims.operandIdx y idx (2 : Fin 3)).val = (y 2).val := by
  show takeDims.start y idx (2 : Fin 3) + takeDims.batchCoord y (2 : Fin 3) + takeDims.offCoord y (2 : Fin 3) = _
  have h1 : (2 : Fin 3) ∉ takeDims.startIndexMap := by decide
  have h2 : (2 : Fin 3) ∉ takeDims.operandBatchingDims := by decide
  have h3 : (2 : Fin 3) ∈ takeDims.sKept := (GatherDims.mem_sKept _ _).mpr ⟨by decide, h2⟩
  rw [GatherDims.batchCoord_eq_zero _ _ _ h2]
  unfold GatherDims.start GatherDims.offCoord
  rw [dif_neg h1, dif_pos h3, Nat.zero_add]
  rfl

/-- The gather's operand index: the token, its group's number, the expert. -/
theorem take_at (x : FVec Ideal S32768x4x8 .f32) (idx : IVec S32768x1x1 32) (n : Fin 32768) (z : Fin 1) (e : Fin 8) (g : Fin 4)
    (h : idx (ix3 n 0 0) = BitVec.ofNat 32 g.val) : Host.gather takeDims x idx (ix3 n z e) = x (ix3 n g e) := by
  have hg : ∀ g : Fin 4, min (BitVec.ofNat 32 g.val).toInt.toNat 3 = g.val := by decide
  show x (takeDims.operandIdx (ix3 n z e) idx) = _
  refine congrArg x (funext fun a => Fin.ext ?_)
  match a with
  | ⟨0, _⟩ => exact take_token idx (ix3 n z e)
  | ⟨1, _⟩ => exact (take_group idx (ix3 n z e) n rfl).trans (by rw [h, hg]; rfl)
  | ⟨2, _⟩ => exact take_expert idx (ix3 n z e)

variable (x0 : Vec Ideal S8x4096x1024 .f32) (x1 : Vec Ideal S8x1024x256 .bf16) (x2 : Vec Ideal S8x256x1024 .bf16) (x3 : Vec Ideal S1024 .f32)
  (x4 x5 : Vec Ideal S1024x1024 .f32) (x6 : Vec Ideal S1024 .f32) (x7 : Vec Ideal S1024x4 .f32) (x8 : Vec Ideal S4 .f32)
  (x9 : Vec Ideal S1024x32 .f32) (x10 : Vec Ideal S32 .f32)

/-- The group index, as the reference takes it. -/
theorem wrap_at (n : Fin 32768) (g : Fin 4) (h : val_main_indices (F := Ideal) x0 x1 x2 x3 x4 x5 x6 x7 x8 (ix2 n 0) = BitVec.ofNat 32 g.val) :
    val_main_call0_v4 (F := Ideal) x0 x1 x2 x3 x4 x5 x6 x7 x8 (ix3 n 0 0) = BitVec.ofNat 32 g.val := by
  pointwise [val_main_call0_v4, val_main_call0_v3, val_main_call0_v2, val_main_call0_v1, val_main_call0_v0, val_main_v62, val_main_call0_c, val_main_call0_c_0]
  rw [h]
  clear h
  revert g
  decide

theorem and_single (w : IVec S32768x1x1 1) (v : IVec S_ 1) (hv : v (Shape.Idx.first Gen.h_S_) = 1#1) (n : Fin 32768) (e : w (ix3 n 0 0) = 1#1) :
    Host.reduce IntOp.andi w v Gen.reducesTo_S32768x1x1_S32768x1_d2 Gen.h_S_ (ix2 n 0) = 1#1 := by
  have h' : S32768x1x1.Reduces [2] S32768x1 := by decide
  refine (Host.reduce_eq_fold_single IntOp.andi w v _ h' Gen.h_S_ (ix2 n 0)).trans ?_
  have hf : (w ∘ h'.lift (ix2 n 0)) = fun _ : Fin 1 => 1#1 := by
    funext k
    refine Eq.trans (congrArg w (funext fun a => Fin.ext ?_)) e
    have hk : k.val < 1 := k.isLt
    match a with
    | ⟨0, _⟩ => rfl
    | ⟨1, _⟩ => rfl
    | ⟨2, _⟩ => show k.val = 0; omega
  rw [hv]
  exact (congrArg (fun f => Finset.fold IntOp.andi 1#1 f (Finset.univ : Finset (Fin 1))) hf).trans (by decide)

theorem inside_at (n : Fin 32768) (g : Fin 4) (h : val_main_call0_v4 (F := Ideal) x0 x1 x2 x3 x4 x5 x6 x7 x8 (ix3 n 0 0) = BitVec.ofNat 32 g.val) :
    val_main_call0_v11 (F := Ideal) x0 x1 x2 x3 x4 x5 x6 x7 x8 (ix2 n 0) = 1#1 := by
  have e : val_main_call0_v10 (F := Ideal) x0 x1 x2 x3 x4 x5 x6 x7 x8 (ix3 n 0 0) = 1#1 := by
    pointwise [val_main_call0_v10, val_main_call0_v9, val_main_call0_v8, val_main_call0_v7, val_main_call0_v6, val_main_call0_v5, val_main_call0_c_1, val_main_call0_c_2]
    rw [h]
    clear h
    revert g
    decide
  exact and_single _ _ rfl n e

theorem experts_at (n : Fin 32768) (e : Fin 8) (g : Fin 4) (h : val_main_indices (F := Ideal) x0 x1 x2 x3 x4 x5 x6 x7 x8 (ix2 n 0) = BitVec.ofNat 32 g.val) :
    val_main_v64 (F := Ideal) x0 x1 x2 x3 x4 x5 x6 x7 x8 x9 x10 (ix2 n e) = val_main_v61 (F := Ideal) x0 x1 x2 x3 x4 x5 x6 x9 x10 (ix3 n g e) := by
  have hw := wrap_at x0 x1 x2 x3 x4 x5 x6 x7 x8 n g h
  have hi := inside_at x0 x1 x2 x3 x4 x5 x6 x7 x8 n g hw
  pointwise [val_main_v64, val_main_v63, val_main_call0_v13]
  refine (if_pos hi).trans ?_
  exact take_at _ _ n 0 e g hw

/-! ## The word -/

theorem min_word : ∀ i j : Fin 8, IntOp.minsi (BitVec.ofNat 32 i.val) (BitVec.ofNat 32 j.val) = BitVec.ofNat 32 (min i.val j.val) := by decide
theorem max_word : ∀ i j : Fin 8, IntOp.maxsi (BitVec.ofNat 32 i.val) (BitVec.ofNat 32 j.val) = BitVec.ofNat 32 (max i.val j.val) := by decide
theorem zero_word : ∀ y : Fin 8, IntOp.cmpi .eq (BitVec.ofNat 32 y.val) 0#32 = BitVec.ofBool (decide (y.val = 0)) := by decide
theorem one_word : ∀ y : Fin 8, IntOp.cmpi .eq (BitVec.ofNat 32 y.val) 1#32 = BitVec.ofBool (decide (y.val = 1)) := by decide
theorem less_word (a b : ℕ) (ha : a < 2147483648) (hb : b < 2147483648) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  exact congrArg BitVec.ofBool (decide_eq_decide.mpr Nat.cast_lt)
theorem select_bool (p : Prop) [Decidable p] (a b : EReal) : Scalar.select (BitVec.ofBool (decide p)) a b = if p then a else b := by
  by_cases h : p <;> simp [Scalar.select, h]

theorem word_at (n : Fin 32768) (g : Fin 4) (i j : Fin 8) (hij : i ≠ j)
    (hg : val_main_indices (F := Ideal) x0 x1 x2 x3 x4 x5 x6 x7 x8 (ix2 n 0) = BitVec.ofNat 32 g.val)
    (hi : val_main_indices_10 (F := Ideal) x0 x1 x2 x3 x4 x5 x6 x7 x8 x9 x10 (ix2 n 0) = BitVec.ofNat 32 i.val)
    (hj : val_main_indices_10 (F := Ideal) x0 x1 x2 x3 x4 x5 x6 x7 x8 x9 x10 (ix2 n 1) = BitVec.ofNat 32 j.val) :
    val_main_v90 (F := Ideal) x0 x1 x2 x3 x4 x5 x6 x7 x8 x9 x10 (ix1 n) = num (code g.val (min i.val j.val) (max i.val j.val)) := by
  pointwise [val_main_v90, val_main_v89, val_main_v88, val_main_v87, val_main_v86, val_main_v85, val_main_v84, val_main_v83, val_main_v82, val_main_v81,
    val_main_v80, val_main_v79, val_main_v78, val_main_v77, val_main_v76, val_main_v75, val_main_v74, val_main_v73, val_main_v72, val_main_v71, val_main_v70,
    val_main_v69, val_main_v68, val_main_v67, val_main_v66, val_main_v65, val_main_cst_11, val_main_cst_12, val_main_cst_13, val_main_cst_14]
  rw [hg, hi, hj]
  rw [min_word, max_word, convert_num _ (by omega), convert_num _ (by omega), convert_num _ (by omega), code_eq (min_lt_max.mpr fun h => hij (Fin.ext h)) (max_lt i.isLt j.isLt), twentyeight_eq, fifteen_eq, two_eq]
  unfold num
  rw [show (1 : EReal) = ((1 : ℝ) : EReal) from rfl]
  rw [Ideal.div_coe (by norm_num)]
  simp only [← EReal.coe_mul, ← EReal.coe_sub, ← EReal.coe_add]
  congr 1
  push_cast
  ring

open Classical in
theorem ref_words (y : Fin 8) (n : Fin 32768) :
    val_main_v115 (F := Ideal) x0 x1 x2 x3 x4 x5 x6 x7 x8 x9 x10 (ix2 y n) = if y.val = 0 then val_main_v90 (F := Ideal) x0 x1 x2 x3 x4 x5 x6 x7 x8 x9 x10 (ix1 n)
      else if y.val = 1 then ∑ p : Fin 32768, if val_main_v90 (F := Ideal) x0 x1 x2 x3 x4 x5 x6 x7 x8 x9 x10 (ix1 p) = val_main_v90 (F := Ideal) x0 x1 x2 x3 x4 x5 x6 x7 x8 x9 x10 (ix1 n)
        ∧ p.val < n.val then 1 else 0 else 0 := by
  pointwise [id, val_main_v115, val_main_call3_v1, val_main_call3_v0, val_main_v114, val_main_call2_v3, val_main_call2_v2, val_main_call2_v1, val_main_call2_v0, val_main_cst_19,
    val_main_v113, val_main_v112, val_main_v111, val_main_c_18, val_main_v110, val_main_v109, val_main_v108, val_main_c, val_main_v107, val_main_v106, val_main_v105, val_main_cst_17,
    val_main_v104, val_main_v103, val_main_call1_v1, val_main_call1_v0, val_main_cst_16, val_main_cst_15, val_main_v102, val_main_v101, val_main_v100, val_main_v99, val_main_v98,
    val_main_v97, val_main_v96, val_main_v95, val_main_v94, val_main_v93, val_main_v92, val_main_v91]
  rw [zero_word, one_word, select_bool, select_bool]
  refine if_congr Iff.rfl rfl (if_congr Iff.rfl (Finset.sum_congr rfl fun p _ => ?_) rfl)
  rw [less_word _ _ (by omega) (by omega)]
  exact if_congr (and_one _ _) rfl rfl

open Classical in
theorem ref_counts (k : Fin 128) (z : Fin 1) :
    val_main_v126 (F := Ideal) x0 x1 x2 x3 x4 x5 x6 x7 x8 x9 x10 (ix2 k z)
      = ∑ p : Fin 32768, if val_main_v90 (F := Ideal) x0 x1 x2 x3 x4 x5 x6 x7 x8 x9 x10 (ix1 p) = num k.val then 1 else 0 := by
  pointwise [id, val_main_v126, val_main_v125, val_main_cst_22, val_main_v124, val_main_v123, val_main_call4_v1, val_main_call4_v0, val_main_cst_21, val_main_cst_20,
    val_main_v122, val_main_v121, val_main_v120, val_main_v119, val_main_v118, val_main_v117, val_main_v116]
  exact Finset.sum_congr rfl fun p _ => if_congr (by rw [convert_num _ (by omega)]) rfl rfl

/-! ## The word from the logits -/

/-- Token `n`'s word is the number of the first greatest group and its two first greatest experts. -/
theorem ref_word (n : Fin 32768) (g : Fin 4) (i j : Fin 8)
    (hg : First (fun _ => True) (fun k : Fin 4 => val_main_v56 (F := Ideal) x0 x1 x2 x3 x4 x5 x6 x7 x8 (ix2 n k)) g)
    (hi : First (fun _ => True) (fun e : Fin 8 => val_main_v61 (F := Ideal) x0 x1 x2 x3 x4 x5 x6 x9 x10 (ix3 n g e)) i)
    (hj : First (fun e => e ≠ i) (fun e : Fin 8 => val_main_v61 (F := Ideal) x0 x1 x2 x3 x4 x5 x6 x9 x10 (ix3 n g e)) j) :
    val_main_v90 (F := Ideal) x0 x1 x2 x3 x4 x5 x6 x7 x8 x9 x10 (ix1 n) = num (code g.val (min i.val j.val) (max i.val j.val)) := by
  have eg : val_main_indices (F := Ideal) x0 x1 x2 x3 x4 x5 x6 x7 x8 (ix2 n 0) = BitVec.ofNat 32 g.val := by
    unfold val_main_indices
    refine (top_at _ _ (by decide) n (0 : Fin 1)).trans ?_
    rw [hg.unique (sorted_first _)]
    rfl
  have hx : (fun e : Fin 8 => val_main_v64 (F := Ideal) x0 x1 x2 x3 x4 x5 x6 x7 x8 x9 x10 (ix2 n e))
      = fun e => val_main_v61 (F := Ideal) x0 x1 x2 x3 x4 x5 x6 x9 x10 (ix3 n g e) :=
    funext fun e => experts_at x0 x1 x2 x3 x4 x5 x6 x7 x8 x9 x10 n e g eg
  have e0 := hi.unique (sorted_first _)
  have e1 := hj.unique (by rw [e0]; exact sorted_second (n := 6) _)
  refine word_at x0 x1 x2 x3 x4 x5 x6 x7 x8 x9 x10 n g i j hj.1.symm eg ?_ ?_
  · unfold val_main_indices_10
    refine (top_at _ _ (by decide) n (0 : Fin 2)).trans ?_
    rw [hx, e0]
    rfl
  · unfold val_main_indices_10
    refine (top_at _ _ (by decide) n (1 : Fin 2)).trans ?_
    rw [hx, e1]
    rfl

end Cert.Proof.Route
-- ==== Proof.RtMain.lean ====
/-
  THE TWO ROUTINGS ARE ONE: the kernel's logits of a token are the reference's, row for row, so its class is the reference's word, and the ranks
  and counts follow.
-/
module

public import proofs.«01_k».proof.Proof.RtBlock
public import proofs.«01_k».proof.Proof.RtRef
public import proofs.«01_k».proof.Proof.AttnMain

@[expose] public section

set_option maxRecDepth 16384

noncomputable section

open Idealize.ShloMosaic Idealize.ShloMosaic.TcCoe
open scoped BigOperators

namespace Cert.Proof.Route

open Cert.Kernel2Ideal Cert.Kernel2Ideal.Gen Cert.Kernel2Ideal.Value Cert.Proof.Attn

/-! ## The reference's logits -/

section Reference

open Cert.Reference2Ideal.Read

variable (x0 : Vec Ideal S8x4096x1024 .f32) (x1 : Vec Ideal S8x1024x256 .bf16) (x2 : Vec Ideal S8x256x1024 .bf16) (x3 : Vec Ideal S1024 .f32)
  (x4 x5 : Vec Ideal S1024x1024 .f32) (x6 : Vec Ideal S1024 .f32) (x7 : Vec Ideal S1024x4 .f32) (x8 : Vec Ideal S4 .f32)
  (x9 : Vec Ideal S1024x32 .f32) (x10 : Vec Ideal S32 .f32)

theorem ref_norm (n : Fin 32768) (k : Fin 1024) :
    val_main_v52 (F := Ideal) x0 x1 x2 x3 x4 x5 x6 (ix2 n k)
      = normed (fun k => val_main_v38 (F := Ideal) x0 x1 x2 x3 x4 x5 (ix3 (⟨n.val / 4096, by omega⟩ : Fin 8) (⟨n.val % 4096, Nat.mod_lt _ (by decide)⟩ : Fin 4096) k))
        (fun k => x6 (ix1 k)) k := by
  have hn := n.isLt
  have hk := k.isLt
  have e : idx_main_v52 (ix2 n k) = ix3 (⟨n.val / 4096, by omega⟩ : Fin 8) (⟨n.val % 4096, Nat.mod_lt _ (by decide)⟩ : Fin 4096) k := by
    funext a
    refine Fin.ext ?_
    match a with
    | ⟨0, _⟩ => show (n.val * 1024 + k.val) / 4194304 = n.val / 4096; omega
    | ⟨1, _⟩ => show (n.val * 1024 + k.val) / 1024 % 4096 = n.val % 4096; omega
    | ⟨2, _⟩ => show (n.val * 1024 + k.val) % 1024 = k.val; omega
  rw [val_main_v52_apply, e]
  pointwise [val_main_v51, val_main_v50, val_main_v49, val_main_v48, val_main_v47, val_main_v46, val_main_v45, val_main_v44, val_main_cst_8, val_main_v43,
    val_main_v42, val_main_cst_7, val_main_v41, val_main_v40, val_main_cst_6, val_main_v39]
  rfl

theorem ref_group (n : Fin 32768) (k : Fin 4) :
    val_main_v56 (F := Ideal) x0 x1 x2 x3 x4 x5 x6 x7 x8 (ix2 n k)
      = (∑ x, val_main_v52 (F := Ideal) x0 x1 x2 x3 x4 x5 x6 (ix2 n x) * x7 (ix2 x k)) + x8 (ix1 k) := by
  pointwise [val_main_v56, val_main_v55, val_main_v54, val_main_v53]

theorem ref_expert (n : Fin 32768) (g : Fin 4) (e : Fin 8) :
    val_main_v61 (F := Ideal) x0 x1 x2 x3 x4 x5 x6 x9 x10 (ix3 n g e)
      = (∑ x, val_main_v52 (F := Ideal) x0 x1 x2 x3 x4 x5 x6 (ix2 n x) * x9 (ix2 x (⟨8 * g.val + e.val, by omega⟩ : Fin 32)))
        + x10 (ix1 (⟨8 * g.val + e.val, by omega⟩ : Fin 32)) := by
  have e' : Cert.Reference2Ideal.Read.idx_main_v61 (ix3 n g e) = ix2 n (⟨8 * g.val + e.val, by omega⟩ : Fin 32) := by
    have hg := g.isLt
    have he := e.isLt
    funext a
    refine Fin.ext ?_
    match a with
    | ⟨0, _⟩ => show ((n.val * 4 + g.val) * 8 + e.val) / 32 = n.val; omega
    | ⟨1, _⟩ => show ((n.val * 4 + g.val) * 8 + e.val) % 32 = 8 * g.val + e.val; omega
  rw [val_main_v61_apply, e']
  pointwise [val_main_v60, val_main_v59, val_main_v58, val_main_v57]

end Reference

/-! ## The kernel's logits -/

variable (m : (ℓ : Loc nD τ sig) → Buf (Elt Ideal) ℓ) (c : Dev nD)

abbrev a6 : Vec Ideal S1024 .f32 := m ((c : Thread nD τ).loc main_arg6)
abbrev a7 : Vec Ideal S1024x4 .f32 := m ((c : Thread nD τ).loc main_arg7)
abbrev a8 : Vec Ideal S4 .f32 := m ((c : Thread nD τ).loc main_arg8)
abbrev a9 : Vec Ideal S1024x32 .f32 := m ((c : Thread nD τ).loc main_arg9)
abbrev a10 : Vec Ideal S32 .f32 := m ((c : Thread nD τ).loc main_arg10)

theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)

/-- The routing gain staged at every point. -/
theorem gf_at (t : Fin cfg0.N) (z : Fin 1) (k : Fin 1024) :
    (iblk m c 6 t : Vec Ideal S1x1024 .f32) (ix2 z k) = a6 m c (ix1 k) := by
  obtain ⟨e0, e1⟩ := index6 t
  have hz := z.isLt
  have e : ((cfg0.win 6).blk t).view.emb (ix2 z k) = (ix2 z k : S1x1024.Idx) := by
    funext a; apply Fin.ext
    match a with
    | ⟨0, _⟩ => show win0_6.index t (0 : Fin 2) * 1 + 1 * z.val = z.val; omega
    | ⟨1, _⟩ => show win0_6.index t (1 : Fin 2) * 1024 + 1 * k.val = k.val; omega
  show V m c main_v13 (((cfg0.win 6).blk t).view.emb (ix2 z k)) = _
  rw [e]
  unfold_abbrev_sides
  after_reads_simp
  pointwise

/-- The router's rows and biases are staged whole at every point: the groups' rows first, then, from row 8, the experts' by group. -/
theorem wr_at (t : Fin cfg0.N) (r : Fin 128) (k : Fin 1024) :
    (iblk m c 7 t : Vec Ideal S128x1024 .bf16) (ix2 r k) = V m c main_v5 (ix2 r k) := by
  obtain ⟨e0, e1⟩ := index7 t
  have e : ((cfg0.win 7).blk t).view.emb (ix2 r k) = (ix2 r k : S128x1024.Idx) := by
    funext a; apply Fin.ext
    match a with
    | ⟨0, _⟩ => show win0_7.index t (0 : Fin 2) * 128 + 1 * r.val = r.val; omega
    | ⟨1, _⟩ => show win0_7.index t (1 : Fin 2) * 1024 + 1 * k.val = k.val; omega
  show V m c main_v5 (((cfg0.win 7).blk t).view.emb (ix2 r k)) = _
  rw [e]

theorem wr_group (k : Fin 4) (x : Fin 1024) : (V m c main_v5 : Vec Ideal S128x1024 .bf16) (ix2 (grow k) x) = a7 m c (ix2 x k) := by
  unfold_abbrev_sides
  after_reads_simp
  pointwise
  refine (dif_pos (show k.val < 4 from k.isLt)).trans ?_
  after_reads_simp
  pointwise
  rfl

theorem wr_expert (g : Fin 4) (e : Fin 8) (x : Fin 1024) :
    (V m c main_v5 : Vec Ideal S128x1024 .bf16) (ix2 (erow g e) x) = a9 m c (ix2 x (⟨8 * g.val + e.val, by omega⟩ : Fin 32)) := by
  unfold_abbrev_sides
  after_reads_simp
  pointwise
  have hg := g.isLt
  have he := e.isLt
  have h1 : ¬ 8 + 8 * g.val + e.val < 4 := by omega
  have h2 : ¬ 8 + 8 * g.val + e.val - 4 < 4 := by omega
  have h3 : 8 + 8 * g.val + e.val - 4 - 4 < 32 := by omega
  refine (dif_neg h1).trans ((dif_neg h2).trans ((dif_pos h3).trans ?_))
  after_reads_simp
  pointwise
  exact congrArg (fun q => a9 m c (ix2 x q)) (Fin.ext (by show 8 + 8 * g.val + e.val - 4 - 4 = 8 * g.val + e.val; omega))

theorem br_at (t : Fin cfg0.N) (r : Fin 128) (z : Fin 1) :
    (iblk m c 8 t : Vec Ideal S128x1 .f32) (ix2 r z) = V m c main_v9 (ix2 r z) := by
  obtain ⟨e0, e1⟩ := index8 t
  have e : ((cfg0.win 8).blk t).view.emb (ix2 r z) = (ix2 r z : S128x1.Idx) := by
    funext a; apply Fin.ext
    match a with
    | ⟨0, _⟩ => show win0_8.index t (0 : Fin 2) * 128 + 1 * r.val = r.val; omega
    | ⟨1, _⟩ => show win0_8.index t (1 : Fin 2) * 1 + 1 * z.val = z.val; omega
  show V m c main_v9 (((cfg0.win 8).blk t).view.emb (ix2 r z)) = _
  rw [e]

theorem br_group (k : Fin 4) : (V m c main_v9 : Vec Ideal S128x1 .f32) (ix2 (grow k) 0) = a8 m c (ix1 k) := by
  unfold_abbrev_sides
  after_reads_simp
  pointwise
  refine (dif_pos (show k.val < 4 from k.isLt)).trans ?_
  after_reads_simp
  pointwise
  rfl

theorem br_expert (g : Fin 4) (e : Fin 8) :
    (V m c main_v9 : Vec Ideal S128x1 .f32) (ix2 (erow g e) 0) = a10 m c (ix1 (⟨8 * g.val + e.val, by omega⟩ : Fin 32)) := by
  unfold_abbrev_sides
  after_reads_simp
  pointwise
  have hg := g.isLt
  have he := e.isLt
  have h1 : ¬ 8 + 8 * g.val + e.val < 4 := by omega
  have h2 : ¬ 8 + 8 * g.val + e.val - 4 < 4 := by omega
  have h3 : 8 + 8 * g.val + e.val - 4 - 4 < 32 := by omega
  refine (dif_neg h1).trans ((dif_neg h2).trans ((dif_pos h3).trans ?_))
  after_reads_simp
  pointwise
  exact congrArg (fun q => a10 m c (ix1 q)) (Fin.ext (by show 8 + 8 * g.val + e.val - 4 - 4 = 8 * g.val + e.val; omega))

theorem logits_at (x : Vec Ideal S1x256x1024 .f32) (kt : Vec Ideal S1x1024x256 .bf16) (v : Vec Ideal S1x256x1024 .bf16) (g : Vec Ideal S1x1024 .f32)
    (wq wo : Vec Ideal S1024x1024 .bf16) (gf : Vec Ideal S1x1024 .f32) (wr : Vec Ideal S128x1024 .bf16) (br : Vec Ideal S128x1 .f32) (k : Fin 128) (r : Fin 256) :
    logits (F := Ideal) x kt v g wq wo gf wr br (ix2 k r)
      = (∑ i, wr (ix2 k i) * normed (fun n => slabOut (F := Ideal) x kt v g wq wo (ix3 0 r n)) (fun n => gf (ix2 0 n)) i) + br (ix2 k 0) := by
  have hx : ∀ n, k0_pay188 (F := Ideal) (k0_pay2 x) (heads (query x g wq) kt v) wo (ix2 r n) = slabOut (F := Ideal) x kt v g wq wo (ix3 0 r n) := by
    intro n
    rw [slabOut_at]
    pointwise [k0_pay188, k0_pay2]
  unfold logits
  simp only [← hx]
  generalize k0_pay188 (F := Ideal) (k0_pay2 x) (heads (query x g wq) kt v) wo = y
  pointwise [k0_pay214, k0_pay206]
  rfl

theorem slab_congr (x : Vec Ideal S1x2048x1024 .f32) (i j : ℕ) (h : i = j) (hi : i < 8) (hj : j < 8) : slab x i hi = slab x j hj := by subst h; rfl

/-- A slab's row is the kernel's array's. -/
theorem row_of (n : Fin 32768) (hN : n.val / 2048 < cfg0.N) (k : Fin 1024) :
    slabOut (F := Ideal) (slabLd (iblk m c 0 ⟨n.val / 2048, hN⟩) (n.val % 2048 / 256)) (iblk m c 1 ⟨n.val / 2048, hN⟩) (iblk m c 2 ⟨n.val / 2048, hN⟩)
        (iblk m c 3 ⟨n.val / 2048, hN⟩) (iblk m c 4 ⟨n.val / 2048, hN⟩) (iblk m c 5 ⟨n.val / 2048, hN⟩) (ix3 0 (⟨n.val % 256, Nat.mod_lt _ (by decide)⟩ : Fin 256) k)
      = G9 m c (ix3 (⟨n.val / 4096, by omega⟩ : Fin 8) (⟨n.val % 4096, Nat.mod_lt _ (by decide)⟩ : Fin 4096) k) := by
  have hn := n.isLt
  have hp : pt9Of (ix3 (⟨n.val / 4096, by omega⟩ : Fin 8) (⟨n.val % 4096, Nat.mod_lt _ (by decide)⟩ : Fin 4096) k) = n.val / 2048 := by
    show 2 * (n.val / 4096 / 1 - 0) + 1 * (n.val % 4096 / 2048 - 0) + 1 * (k.val / 1024 - 0) = _
    have := k.isLt; omega
  unfold G9
  rw [dif_pos (hp ▸ hN), fold0_congr m c _ _ (n.val / 2048) (by omega) hp, at_point m c _ hN, slabLd_eq _ _ (by omega)]
  have hk : (⟨k.val % 1024, Nat.mod_lt _ (by decide)⟩ : Fin 1024) = k := Fin.ext (Nat.mod_eq_of_lt k.isLt)
  have hs : n.val % 4096 % 2048 = n.val % 2048 := by omega
  have hr : (⟨n.val % 4096 % 2048 % 256, Nat.mod_lt _ (by decide)⟩ : Fin 256) = ⟨n.val % 256, Nat.mod_lt _ (by decide)⟩ := Fin.ext (by show _ % 256 = n.val % 256; omega)
  show _ = slabOut (slab (iblk m c 0 ⟨n.val / 2048, hN⟩) (n.val % 4096 % 2048 / 256) _) (iblk m c 1 ⟨n.val / 2048, hN⟩) (iblk m c 2 ⟨n.val / 2048, hN⟩)
    (iblk m c 3 ⟨n.val / 2048, hN⟩) (iblk m c 4 ⟨n.val / 2048, hN⟩) (iblk m c 5 ⟨n.val / 2048, hN⟩)
    (ix3 (0 : Fin 1) (⟨n.val % 4096 % 2048 % 256, Nat.mod_lt _ (by decide)⟩ : Fin 256) (⟨k.val % 1024, Nat.mod_lt _ (by decide)⟩ : Fin 1024))
  rw [hk, hr]
  exact congrArg (fun s => slabOut s (iblk m c 1 ⟨n.val / 2048, hN⟩) (iblk m c 2 ⟨n.val / 2048, hN⟩) (iblk m c 3 ⟨n.val / 2048, hN⟩)
    (iblk m c 4 ⟨n.val / 2048, hN⟩) (iblk m c 5 ⟨n.val / 2048, hN⟩) (ix3 (0 : Fin 1) (⟨n.val % 256, Nat.mod_lt _ (by decide)⟩ : Fin 256) k))
    (slab_congr _ _ _ (congrArg (· / 256) hs.symm) _ _)

variable {m c}

section Same

variable (hr : Cert.Reference2Ideal.Read.val_main_v38 (F := Ideal) (a0 m c) (a1 m c) (a2 m c) (a3 m c) (a4 m c) (a5 m c) = G9 m c)
include hr

theorem same_row (n : Fin 32768) (hN : n.val / 2048 < cfg0.N) (i : Fin 1024) :
    normed (fun k => slabOut (F := Ideal) (slabLd (iblk m c 0 ⟨n.val / 2048, hN⟩) (n.val % 2048 / 256)) (iblk m c 1 ⟨n.val / 2048, hN⟩) (iblk m c 2 ⟨n.val / 2048, hN⟩)
        (iblk m c 3 ⟨n.val / 2048, hN⟩) (iblk m c 4 ⟨n.val / 2048, hN⟩) (iblk m c 5 ⟨n.val / 2048, hN⟩) (ix3 0 (⟨n.val % 256, Nat.mod_lt _ (by decide)⟩ : Fin 256) k))
        (fun k => (iblk m c 6 ⟨n.val / 2048, hN⟩ : Vec Ideal S1x1024 .f32) (ix2 0 k)) i
      = Cert.Reference2Ideal.Read.val_main_v52 (F := Ideal) (a0 m c) (a1 m c) (a2 m c) (a3 m c) (a4 m c) (a5 m c) (a6 m c) (ix2 n i) := by
  rw [ref_norm, hr]
  simp only [row_of, gf_at]

/-- A token's class is its word. -/
theorem class_eq (n : Fin 32768) :
    klass m c n.val = Cert.Reference2Ideal.Read.val_main_v90 (F := Ideal) (a0 m c) (a1 m c) (a2 m c) (a3 m c) (a4 m c) (a5 m c) (a6 m c) (a7 m c) (a8 m c) (a9 m c) (a10 m c) (ix1 n) := by
  have hN : n.val / 2048 < cfg0.N := lt_of_lt_of_eq (by omega : _ < 16) N_0.symm
  have hG : ∀ k, pointLogits m c ⟨n.val / 2048, hN⟩ (n.val % 2048 / 256) (ix2 (grow k) (⟨n.val % 256, Nat.mod_lt _ (by decide)⟩ : Fin 256))
      = Cert.Reference2Ideal.Read.val_main_v56 (F := Ideal) (a0 m c) (a1 m c) (a2 m c) (a3 m c) (a4 m c) (a5 m c) (a6 m c) (a7 m c) (a8 m c) (ix2 n k) := by
    intro k
    rw [ref_group]
    unfold pointLogits slabLogits
    rw [logits_at, br_at, br_group]
    refine congrArg (· + _) (Finset.sum_congr rfl fun x _ => ?_)
    rw [same_row hr, wr_at, wr_group, mul_comm]
  have hE : ∀ g e, pointLogits m c ⟨n.val / 2048, hN⟩ (n.val % 2048 / 256) (ix2 (erow g e) (⟨n.val % 256, Nat.mod_lt _ (by decide)⟩ : Fin 256))
      = Cert.Reference2Ideal.Read.val_main_v61 (F := Ideal) (a0 m c) (a1 m c) (a2 m c) (a3 m c) (a4 m c) (a5 m c) (a6 m c) (a9 m c) (a10 m c) (ix3 n g e) := by
    intro g e
    rw [ref_expert]
    unfold pointLogits slabLogits
    rw [logits_at, br_at, br_expert]
    refine congrArg (· + _) (Finset.sum_congr rfl fun x _ => ?_)
    rw [same_row hr, wr_at, wr_expert, mul_comm]
  obtain ⟨g, hg⟩ := exists_first (fun k => pointLogits m c ⟨n.val / 2048, hN⟩ (n.val % 2048 / 256) (ix2 (grow k) (⟨n.val % 256, Nat.mod_lt _ (by decide)⟩ : Fin 256)))
  have hi := sorted_first (fun e => pointLogits m c ⟨n.val / 2048, hN⟩ (n.val % 2048 / 256) (ix2 (erow g e) (⟨n.val % 256, Nat.mod_lt _ (by decide)⟩ : Fin 256)))
  have hj := sorted_second (n := 6) (fun e => pointLogits m c ⟨n.val / 2048, hN⟩ (n.val % 2048 / 256) (ix2 (erow g e) (⟨n.val % 256, Nat.mod_lt _ (by decide)⟩ : Fin 256)))
  unfold klass
  rw [dif_pos hN, cls_at _ _ _ g _ _ hg hi hj]
  refine (ref_word _ _ _ _ _ _ _ _ _ _ _ n g _ _ ?_ ?_ ?_).symm
  · simpa only [hG] using hg
  · simpa only [hE] using hi
  · simpa only [hE] using hj

variable {x0 : Vec Ideal S8x4096x1024 .f32} {x1 : Vec Ideal S8x1024x256 .bf16} {x2 : Vec Ideal S8x256x1024 .bf16} {x3 : Vec Ideal S1024 .f32}
  {x4 x5 : Vec Ideal S1024x1024 .f32} {x6 : Vec Ideal S1024 .f32} {x7 : Vec Ideal S1024x4 .f32} {x8 : Vec Ideal S4 .f32}
  {x9 : Vec Ideal S1024x32 .f32} {x10 : Vec Ideal S32 .f32}

/-- The residual sum, whatever names the reference's arguments go by. -/
theorem stream_eq (e0 : x0 = a0 m c) (e1 : x1 = a1 m c) (e2 : x2 = a2 m c) (e3 : x3 = a3 m c) (e4 : x4 = a4 m c) (e5 : x5 = a5 m c) :
    Cert.Reference2Ideal.Read.val_main_v38 (F := Ideal) x0 x1 x2 x3 x4 x5 = G9 m c := by
  subst e0 e1 e2 e3 e4 e5
  exact hr

/-- The words and ranks likewise … -/
theorem words_eq (e0 : x0 = a0 m c) (e1 : x1 = a1 m c) (e2 : x2 = a2 m c) (e3 : x3 = a3 m c) (e4 : x4 = a4 m c) (e5 : x5 = a5 m c) (e6 : x6 = a6 m c) (e7 : x7 = a7 m c) (e8 : x8 = a8 m c) (e9 : x9 = a9 m c) (e10 : x10 = a10 m c) :
    Cert.Reference2Ideal.Read.val_main_v115 (F := Ideal) x0 x1 x2 x3 x4 x5 x6 x7 x8 x9 x10 = G10 m c := by
  subst e0 e1 e2 e3 e4 e5 e6 e7 e8 e9 e10
  funext i
  obtain ⟨y, n, rfl⟩ : ∃ (y : Fin 8) (n : Fin 32768), i = ix2 y n := ⟨i 0, i 1, funext fun x => by match x with | ⟨0, _⟩ => rfl | ⟨1, _⟩ => rfl⟩
  rw [words_kernel, ref_words, class_eq hr n]
  refine if_congr Iff.rfl rfl (if_congr Iff.rfl ?_ rfl)
  have h := cnt_inside (klass m c) (klass m c n.val) 0 32768 n.val n.isLt.le
  rw [Nat.zero_add, show cnt (klass m c) (klass m c n.val) 0 = 0 from by simp [cnt], add_zero] at h
  rw [← class_eq hr n, ← h]
  exact Finset.sum_congr rfl fun p _ => by rw [Nat.zero_add, class_eq hr p]

/-- … and so are the counts. -/
theorem counts_eq (e0 : x0 = a0 m c) (e1 : x1 = a1 m c) (e2 : x2 = a2 m c) (e3 : x3 = a3 m c) (e4 : x4 = a4 m c) (e5 : x5 = a5 m c) (e6 : x6 = a6 m c) (e7 : x7 = a7 m c) (e8 : x8 = a8 m c) (e9 : x9 = a9 m c) (e10 : x10 = a10 m c) :
    Cert.Reference2Ideal.Read.val_main_v126 (F := Ideal) x0 x1 x2 x3 x4 x5 x6 x7 x8 x9 x10 = G11 m c := by
  subst e0 e1 e2 e3 e4 e5 e6 e7 e8 e9 e10
  funext i
  obtain ⟨k, z, rfl⟩ : ∃ (k : Fin 128) (z : Fin 1), i = ix2 k z := ⟨i 0, i 1, funext fun x => by match x with | ⟨0, _⟩ => rfl | ⟨1, _⟩ => rfl⟩
  have h := cnt_add (klass m c) (num k.val) 0 32768
  rw [Nat.zero_add, show cnt (klass m c) (num k.val) 0 = 0 from by simp [cnt], zero_add] at h
  rw [counts_kernel, ref_counts, h]
  exact Finset.sum_congr rfl fun p _ => by rw [Nat.zero_add, class_eq hr p]

end Same

end Cert.Proof.Route
-- ==== Proof.MixTile.lean ====
/-
  THE MIXER OF ONE SLAB, AS ONE FUNCTION OF WHAT IT READS. The kernel takes a block of 1024 rows as four slabs of 256 rows and does the same
  to each: the root-mean-square norm and the five projections, the gated three-tap filter over the rows (which reaches two rows
  back), the tanh gate, the norm of each head's 64 columns, the causal mixing of positions inside each chunk of 128 rows, the two
  output norms, the output projection and the residual sum.
-/
module

public import proofs.«01_k».proof.Proof.Gen.Kernel3Ideal.Frame
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Proof.Mix

open Cert.Kernel3Ideal Cert.Kernel3Ideal.Gen

variable {F : FTy → Type} [FloatOps F]

/-- Columns `o …` of the projection weights. -/
abbrev wcols (w : Vec F S1024x2560 .bf16) (o : Nat) (h : ∀ a, ![0, o] a + S1024x512.size a ≤ S1024x2560.size a) : Vec F S1024x512 .bf16 :=
  View.ld w (Rect.unit (s := S1024x2560) ![0, o] S1024x512.size h)

/-- One projection of the normed rows. -/
def proj (x : Vec F S1x256x1024 .f32) (g : Vec F S1x1024 .f32) (w : Vec F S1024x512 .bf16) : FVec F S256x512 .f32 :=
  k0_pay47 (k0_pay45 x g) w

/-- The filter's input: the product of two projections. -/
def gated (x : Vec F S1x256x1024 .f32) (g : Vec F S1x1024 .f32) (w : Vec F S1024x2560 .bf16) : FVec F S256x512 .f32 :=
  mulf (proj x g (wcols w 512 inb_S1024x2560_S1024x512_0_512)) (proj x g (wcols w 1024 inb_S1024x2560_S1024x512_0_1024))

/-- … as it is stored. -/
def zed (x : Vec F S1x256x1024 .f32) (g : Vec F S1x1024 .f32) (w : Vec F S1024x2560 .bf16) : FVec F S256x512 .f32 :=
  shapeCast S256x512 (gated x g w) shapeCasts_S256x512_S256x512

/-- One tap of the filter. -/
abbrev tap (w : Vec F S3x512 .f32) (k : Nat) (h : ∀ a, ![k, 0] a + S1x512.size a ≤ S3x512.size a) : Vec F S1x512 .f32 :=
  View.ld w (Rect.unit (s := S3x512) ![k, 0] S1x512.size h)

/-- The gated filter, normed: `z1`, `z2` are the filter's input one and two rows back. -/
def branchA (x : Vec F S1x256x1024 .f32) (g : Vec F S1x1024 .f32) (w : Vec F S1024x2560 .bf16) (cw : Vec F S3x512 .f32) (go : Vec F S1x512 .f32)
    (z2 z1 : FVec F S256x512 .f32) : FVec F S256x512 .bf16 :=
  k0_pay34 (proj x g (wcols w 0 inb_S1024x2560_S1024x512_0_0)) (gated x g w)
    (k0_pay33 (tap cw 0 inb_S3x512_S1x512_0_0) z2 (tap cw 1 inb_S3x512_S1x512_1_0) z1) (tap cw 2 inb_S3x512_S1x512_2_0) go

/-- The sum of squares of each half of 128 columns, spread over that half. -/
def halfSums {o : Nat} (h : S256x512.Slices ![0, o] S256x128) (v2 : FVec F S256x512 .f32) : FVec F S256x128 .f32 :=
  select k0_pay4
    (broadcastTo S256x128 (shapeCast S256x1 (shapeCast S256x1 (multiReduction .add [1] S256
      (select k0_pay4 (extractStridedSlice S256x128 ![0, o] v2 h) (broadcast S256x128 (Scalar.ofBits .f32 0x00000000#32)))
      0x00000000#32 reduces_S256x128_S256 (.inl rfl) rfl) shapeCasts_S256_S256x1) shapeCasts_S256x1_S256x1) broadcasts_S256x1_S256x128)
    (broadcastTo S256x128 (shapeCast S256x1 (shapeCast S256x1 (multiReduction .add [1] S256
      (select k0_pay4 (broadcast S256x128 (Scalar.ofBits .f32 0x00000000#32)) (extractStridedSlice S256x128 ![0, o] v2 h))
      0x00000000#32 reduces_S256x128_S256 (.inl rfl) rfl) shapeCasts_S256_S256x1) shapeCasts_S256x1_S256x1) broadcasts_S256x1_S256x128)

/-- Each head's 64 columns, normed. -/
def headNorm (v : FVec F S256x512 .f32) (gv : Vec F S1x512 .f32) : FVec F S256x512 .f32 :=
  k0_pay65 v (halfSums slices_S256x512_o0_0_S256x128 (mulf v v)) (halfSums slices_S256x512_o0_128_S256x128 (mulf v v))
    (halfSums slices_S256x512_o0_256_S256x128 (mulf v v)) (halfSums slices_S256x512_o0_384_S256x128 (mulf v v)) gv

/-- A half turn of 128 columns. -/
abbrev turn (a : FVec F S128x128 .f32) : FVec F S128x128 .f32 := dynamicRotate 1 64#32 none a rotates_S128x128_d1

/-- One head's causal mixing matrix. -/
def causal (w : Vec F S8x128x128 .f32) (k : Nat) (h : ∀ a, ![k, 0, 0] a + S1x128x128.size a ≤ S8x128x128.size a) : FVec F S128x128 .bf16 :=
  k0_pay6 (View.ld w (Rect.unit (s := S8x128x128) ![k, 0, 0] S1x128x128.size h))

/-- A mixing matrix times a block of columns. -/
def mixDot (m : FVec F S128x128 .bf16) (a : FVec F S128x128 .f32) : FVec F S128x128 .f32 :=
  matmul dot_S128x128_S128x128_S128x128_1_0_0_1_n_n none m (truncf .bf16 a bitsLt_bf16_f32) (constant S128x128 .f32 0x00000000#32)

/-- The pair's even head over both chunks: its columns of the first chunk, then those of the second. -/
def even {o : Nat} (h0 : S256x512.Slices ![0, o] S128x128) (h1 : S256x512.Slices ![128, o] S128x128) (m : FVec F S128x128 .bf16)
    (v : FVec F S256x512 .f32) : FVec F S128x128 .f32 :=
  mixDot m (select k0_pay14 (extractStridedSlice S128x128 ![0, o] v h0) (turn (extractStridedSlice S128x128 ![128, o] v h1)))

/-- The pair's odd head over both chunks. -/
def odd {o : Nat} (h0 : S256x512.Slices ![0, o] S128x128) (h1 : S256x512.Slices ![128, o] S128x128) (m : FVec F S128x128 .bf16)
    (v : FVec F S256x512 .f32) : FVec F S128x128 .f32 :=
  mixDot m (select k0_pay14 (turn (extractStridedSlice S128x128 ![0, o] v h0)) (extractStridedSlice S128x128 ![128, o] v h1))

/-- The pair's columns of the first chunk … -/
def firstOf (e o : FVec F S128x128 .f32) : FVec F S128x128 .f32 := select k0_pay14 e (turn o)
/-- … and of the second. -/
def secondOf (e o : FVec F S128x128 .f32) : FVec F S128x128 .f32 := select k0_pay14 (turn e) o

/-- Four pairs' columns side by side, plus the bias. -/
def chunk (a b c d : FVec F S128x128 .f32) (bias : Vec F S128x512 .f32) : FVec F S128x512 .f32 :=
  addf (concatenate S128x512 1 [⟨S128x128, a⟩, ⟨S128x128, b⟩, ⟨S128x128, c⟩, ⟨S128x128, d⟩] concatenates_S128x128_S128x128_S128x128_S128x128_S128x512_d1)
    (shapeCast S128x512 bias shapeCasts_S128x512_S128x512)

/-- The mixed positions of both chunks. -/
def mixed (v : FVec F S256x512 .f32) (w : Vec F S8x128x128 .f32) (bias : Vec F S128x512 .f32) : FVec F S256x512 .f32 :=
  concatenate S256x512 0
    [⟨S128x512, chunk
      (firstOf (even slices_S256x512_o0_0_S128x128 slices_S256x512_o128_0_S128x128 (causal w 0 inb_S8x128x128_S1x128x128_0_0_0) v)
        (odd slices_S256x512_o0_0_S128x128 slices_S256x512_o128_0_S128x128 (causal w 1 inb_S8x128x128_S1x128x128_1_0_0) v))
      (firstOf (even slices_S256x512_o0_128_S128x128 slices_S256x512_o128_128_S128x128 (causal w 2 inb_S8x128x128_S1x128x128_2_0_0) v)
        (odd slices_S256x512_o0_128_S128x128 slices_S256x512_o128_128_S128x128 (causal w 3 inb_S8x128x128_S1x128x128_3_0_0) v))
      (firstOf (even slices_S256x512_o0_256_S128x128 slices_S256x512_o128_256_S128x128 (causal w 4 inb_S8x128x128_S1x128x128_4_0_0) v)
        (odd slices_S256x512_o0_256_S128x128 slices_S256x512_o128_256_S128x128 (causal w 5 inb_S8x128x128_S1x128x128_5_0_0) v))
      (firstOf (even slices_S256x512_o0_384_S128x128 slices_S256x512_o128_384_S128x128 (causal w 6 inb_S8x128x128_S1x128x128_6_0_0) v)
        (odd slices_S256x512_o0_384_S128x128 slices_S256x512_o128_384_S128x128 (causal w 7 inb_S8x128x128_S1x128x128_7_0_0) v)) bias⟩,
     ⟨S128x512, chunk
      (secondOf (even slices_S256x512_o0_0_S128x128 slices_S256x512_o128_0_S128x128 (causal w 0 inb_S8x128x128_S1x128x128_0_0_0) v)
        (odd slices_S256x512_o0_0_S128x128 slices_S256x512_o128_0_S128x128 (causal w 1 inb_S8x128x128_S1x128x128_1_0_0) v))
      (secondOf (even slices_S256x512_o0_128_S128x128 slices_S256x512_o128_128_S128x128 (causal w 2 inb_S8x128x128_S1x128x128_2_0_0) v)
        (odd slices_S256x512_o0_128_S128x128 slices_S256x512_o128_128_S128x128 (causal w 3 inb_S8x128x128_S1x128x128_3_0_0) v))
      (secondOf (even slices_S256x512_o0_256_S128x128 slices_S256x512_o128_256_S128x128 (causal w 4 inb_S8x128x128_S1x128x128_4_0_0) v)
        (odd slices_S256x512_o0_256_S128x128 slices_S256x512_o128_256_S128x128 (causal w 5 inb_S8x128x128_S1x128x128_5_0_0) v))
      (secondOf (even slices_S256x512_o0_384_S128x128 slices_S256x512_o128_384_S128x128 (causal w 6 inb_S8x128x128_S1x128x128_6_0_0) v)
        (odd slices_S256x512_o0_384_S128x128 slices_S256x512_o128_384_S128x128 (causal w 7 inb_S8x128x128_S1x128x128_7_0_0) v)) bias⟩]
    concatenates_S128x512_S128x512_S256x512_d0

/-- The mixer on one slab of 256 rows. -/
def slabOut (x : Vec F S1x256x1024 .f32) (g : Vec F S1x1024 .f32) (w : Vec F S1024x2560 .bf16) (cw : Vec F S3x512 .f32) (gv : Vec F S1x512 .f32)
    (ws : Vec F S8x128x128 .f32) (bias : Vec F S128x512 .f32) (ga gb : Vec F S1x512 .f32) (wo : Vec F S1024x1024 .bf16)
    (z2 z1 : FVec F S256x512 .f32) : FVec F S1x256x1024 .f32 :=
  k0_pay128 (k0_pay15 x) (branchA x g w cw ga z2 z1) (k0_pay35 (proj x g (wcols w 1536 inb_S1024x2560_S1024x512_0_1536)))
    (mixed (headNorm (k0_pay35 (proj x g (wcols w 2048 inb_S1024x2560_S1024x512_0_2048))) gv) ws bias) gb
    (View.ld wo (Rect.unit (s := S1024x1024) ![0, 0] S512x1024.size inb_S1024x1024_S512x1024_0_0))
    (View.ld wo (Rect.unit (s := S1024x1024) ![512, 0] S512x1024.size inb_S1024x1024_S512x1024_512_0))

/-! ## The block of 1024 rows -/

/-- Rows `256 j … 256 j + 255` of a block. -/
def slab (x : Vec F S1x1024x1024 .f32) (j : Nat) (hj : j < 4) : Vec F S1x256x1024 .f32 := fun z =>
  x (ix3 (0 : Fin 1) (⟨256 * j + (z 1).val, by have h : (z 1).val < 256 := (z 1).isLt; omega⟩ : Fin 1024) (z 2 : Fin 1024))

/-- The filter's input over the block, behind the eight rows carried in front of it. -/
def zbuf (p : Vec F S8x512 .f32) (x : Vec F S1x1024x1024 .f32) (g : Vec F S1x1024 .f32) (w : Vec F S1024x2560 .bf16) : Vec F S1032x512 .f32 := fun y =>
  if h : (y 0).val < 8 then p (ix2 (⟨(y 0).val, h⟩ : Fin 8) (y 1 : Fin 512))
  else zed (slab x (((y 0).val - 8) / 256) (by have h : (y 0).val < 1032 := (y 0).isLt; omega)) g w
    (ix2 (⟨((y 0).val - 8) % 256, Nat.mod_lt _ (by decide)⟩ : Fin 256) (y 1 : Fin 512))

/-- Rows `o …` of it. -/
def zrows (p : Vec F S8x512 .f32) (x : Vec F S1x1024x1024 .f32) (g : Vec F S1x1024 .f32) (w : Vec F S1024x2560 .bf16) (o : Nat) (ho : o ≤ 776) :
    FVec F S256x512 .f32 := fun y =>
  zbuf p x g w (ix2 (⟨o + (y 0).val, by have h : (y 0).val < 256 := (y 0).isLt; omega⟩ : Fin 1032) (y 1 : Fin 512))

/-- The mixer on slab `j` of a block. -/
def slabAt (p : Vec F S8x512 .f32) (x : Vec F S1x1024x1024 .f32) (g : Vec F S1x1024 .f32) (w : Vec F S1024x2560 .bf16) (cw : Vec F S3x512 .f32)
    (gv : Vec F S1x512 .f32) (ws : Vec F S8x128x128 .f32) (bias : Vec F S128x512 .f32) (ga gb : Vec F S1x512 .f32) (wo : Vec F S1024x1024 .bf16)
    (j : Nat) (hj : j < 4) : FVec F S1x256x1024 .f32 :=
  slabOut (slab x j hj) g w cw gv ws bias ga gb wo (zrows p x g w (256 * j + 6) (by omega)) (zrows p x g w (256 * j + 7) (by omega))

/-- Where an index of the block falls in its slab. -/
def within (y : S1x1024x1024.Idx) : S1x256x1024.Idx :=
  ix3 (0 : Fin 1) (⟨(y 1).val % 256, Nat.mod_lt _ (by decide)⟩ : Fin 256) (y 2 : Fin 1024)

/-- The mixer on a whole block of 1024 rows. -/
def blockOut (p : Vec F S8x512 .f32) (x : Vec F S1x1024x1024 .f32) (g : Vec F S1x1024 .f32) (w : Vec F S1024x2560 .bf16) (cw : Vec F S3x512 .f32)
    (gv : Vec F S1x512 .f32) (ws : Vec F S8x128x128 .f32) (bias : Vec F S128x512 .f32) (ga gb : Vec F S1x512 .f32) (wo : Vec F S1024x1024 .bf16) :
    Vec F S1x1024x1024 .f32 := fun y =>
  slabAt p x g w cw gv ws bias ga gb wo ((y 1).val / 256) (by have h : (y 1).val < 1024 := (y 1).isLt; omega) (within y)

/-- A load of 256 rows is a slab. -/
theorem ld_slab (x : Vec F S1x1024x1024 .f32) (j : Nat) (hj : j < 4) (inb : ∀ a, ![0, 256 * j, 0] a + S1x256x1024.size a ≤ S1x1024x1024.size a) :
    View.ld x (Rect.unit (s := S1x1024x1024) ![0, 256 * j, 0] S1x256x1024.size inb) = slab x j hj := by
  funext w
  refine congrArg x (funext fun a => Fin.ext ?_)
  match a with
  | ⟨0, h⟩ => show 0 + 1 * (w ⟨0, h⟩).val = 0; have := (w ⟨0, h⟩).isLt; have h' : (w ⟨0, h⟩).val < 1 := this; omega
  | ⟨1, h⟩ => show 256 * j + 1 * (w ⟨1, h⟩).val = 256 * j + (w ⟨1, h⟩).val; omega
  | ⟨2, h⟩ => show 0 + 1 * (w ⟨2, h⟩).val = (w ⟨2, h⟩).val; omega

/-- One store's piece is its slab of the block. -/
theorem piece (p : Vec F S8x512 .f32) (x : Vec F S1x1024x1024 .f32) (g : Vec F S1x1024 .f32) (w : Vec F S1024x2560 .bf16) (cw : Vec F S3x512 .f32)
    (gv : Vec F S1x512 .f32) (ws : Vec F S8x128x128 .f32) (bias : Vec F S128x512 .f32) (ga gb : Vec F S1x512 .f32) (wo : Vec F S1024x1024 .bf16)
    (o j : Nat) (ho : o = 256 * j) (hj : j < 4) (inb : ∀ a, ![0, o, 0] a + S1x256x1024.size a ≤ S1x1024x1024.size a)
    {z2 z1 : FVec F S256x512 .f32} (z : S1x256x1024.Idx) (h2 : z2 = zrows p x g w (256 * j + 6) (by omega)) (h1 : z1 = zrows p x g w (256 * j + 7) (by omega)) :
    slabOut (View.ld x (Rect.unit (s := S1x1024x1024) ![0, o, 0] S1x256x1024.size inb)) g w cw gv ws bias ga gb wo z2 z1 z
      = blockOut p x g w cw gv ws bias ga gb wo ((Rect.unit (s := S1x1024x1024) ![0, o, 0] S1x256x1024.size inb).emb z) := by
  subst ho
  have hz : (z 1).val < 256 := (z 1).isLt
  have e1 : (((Rect.unit (s := S1x1024x1024) ![0, 256 * j, 0] S1x256x1024.size inb).emb z) 1).val = 256 * j + 1 * (z 1).val := rfl
  have hj' : (((Rect.unit (s := S1x1024x1024) ![0, 256 * j, 0] S1x256x1024.size inb).emb z) 1).val / 256 = j := by rw [e1]; omega
  have hw : within ((Rect.unit (s := S1x1024x1024) ![0, 256 * j, 0] S1x256x1024.size inb).emb z) = z := by
    funext a; apply Fin.ext
    match a with
    | ⟨0, h⟩ => exact (Nat.lt_one_iff.mp (show (z ⟨0, h⟩).val < 1 from (z ⟨0, h⟩).isLt)).symm
    | ⟨1, _⟩ => show _ % 256 = (z 1).val; rw [e1]; omega
    | ⟨2, _⟩ => show 0 + 1 * (z 2).val = (z 2).val; omega
  rw [ld_slab x j hj inb, h2, h1]
  unfold blockOut
  rw [hw]
  show slabAt p x g w cw gv ws bias ga gb wo j hj z = _
  congr 1
  exact hj'.symm

/-- What a store of one slab's filter input leaves. -/
theorem zpiece (p : Vec F S8x512 .f32) (x : Vec F S1x1024x1024 .f32) (g : Vec F S1x1024 .f32) (w : Vec F S1024x2560 .bf16)
    (o q j : Nat) (ho : o = 256 * j) (hq : q = 8 + 256 * j) (hj : j < 4) (inb : ∀ a, ![0, o, 0] a + S1x256x1024.size a ≤ S1x1024x1024.size a)
    (inb' : ∀ a, ![q, 0] a + S256x512.size a ≤ S1032x512.size a) (z : S256x512.Idx) :
    zed (View.ld x (Rect.unit (s := S1x1024x1024) ![0, o, 0] S1x256x1024.size inb)) g w z
      = zbuf p x g w ((Rect.unit (s := S1032x512) ![q, 0] S256x512.size inb').emb z) := by
  subst ho hq
  have hz : (z 0).val < 256 := (z 0).isLt
  have e0 : (((Rect.unit (s := S1032x512) ![8 + 256 * j, 0] S256x512.size inb').emb z) 0).val = 8 + 256 * j + 1 * (z 0).val := rfl
  have hj' : ((((Rect.unit (s := S1032x512) ![8 + 256 * j, 0] S256x512.size inb').emb z) 0).val - 8) / 256 = j := by rw [e0]; omega
  rw [ld_slab x j hj inb]
  unfold zbuf
  rw [dif_neg (by rw [e0]; omega)]
  have hw : (ix2 (⟨((((Rect.unit (s := S1032x512) ![8 + 256 * j, 0] S256x512.size inb').emb z) 0).val - 8) % 256, Nat.mod_lt _ (by decide)⟩ : Fin 256)
      (((Rect.unit (s := S1032x512) ![8 + 256 * j, 0] S256x512.size inb').emb z) 1 : Fin 512) : S256x512.Idx) = z := by
    funext a; apply Fin.ext
    match a with
    | ⟨0, _⟩ => show (_ - 8) % 256 = (z 0).val; rw [e0]; omega
    | ⟨1, _⟩ => show 0 + 1 * (z 1).val = (z 1).val; omega
  rw [hw]
  congr 2
  exact hj'.symm

/-- What the store of the carried rows leaves. -/
theorem carried (p : Vec F S8x512 .f32) (x : Vec F S1x1024x1024 .f32) (g : Vec F S1x1024 .f32) (w : Vec F S1024x2560 .bf16)
    (inb : ∀ a, ![0, 0] a + S8x512.size a ≤ S1032x512.size a) (z : S8x512.Idx) :
    p z = zbuf p x g w ((Rect.unit (s := S1032x512) ![0, 0] S8x512.size inb).emb z) := by
  have hz : (z 0).val < 8 := (z 0).isLt
  have e0 : (((Rect.unit (s := S1032x512) ![0, 0] S8x512.size inb).emb z) 0).val = 0 + 1 * (z 0).val := rfl
  unfold zbuf
  rw [dif_pos (by rw [e0]; omega)]
  refine congrArg p (funext fun a => Fin.ext ?_)
  match a with
  | ⟨0, _⟩ => show (z 0).val = 0 + 1 * (z 0).val; omega
  | ⟨1, _⟩ => show (z 1).val = 0 + 1 * (z 1).val; omega

theorem hz2 : (![0, 0] : Fin 2 → Nat) = fun _ => 0 := funext fun a => by fin_cases a <;> rfl

/-! ## The rows kept between the slabs -/

section Kept
variable (p : Vec F S8x512 .f32) (x : Vec F S1x1024x1024 .f32) (g : Vec F S1x1024 .f32) (w : Vec F S1024x2560 .bf16)

/-- The stores made after one, two, three and four slabs, last first. -/
abbrev kept1 : List (View.Piece (Elt F) S1032x512 .f32) :=
  [⟨Rect.unit (s := S1032x512) ![8, 0] S256x512.size inb_S1032x512_S256x512_8_0,
    zed (View.ld x (Rect.unit (s := S1x1024x1024) ![0, 0, 0] S1x256x1024.size inb_S1x1024x1024_S1x256x1024_0_0_0)) g w⟩,
   ⟨Rect.unit (s := S1032x512) ![0, 0] S8x512.size inb_S1032x512_S8x512_0_0, p⟩]
abbrev kept2 : List (View.Piece (Elt F) S1032x512 .f32) :=
  ⟨Rect.unit (s := S1032x512) ![264, 0] S256x512.size inb_S1032x512_S256x512_264_0,
    zed (View.ld x (Rect.unit (s := S1x1024x1024) ![0, 256, 0] S1x256x1024.size inb_S1x1024x1024_S1x256x1024_0_256_0)) g w⟩ :: kept1 p x g w
abbrev kept3 : List (View.Piece (Elt F) S1032x512 .f32) :=
  ⟨Rect.unit (s := S1032x512) ![520, 0] S256x512.size inb_S1032x512_S256x512_520_0,
    zed (View.ld x (Rect.unit (s := S1x1024x1024) ![0, 512, 0] S1x256x1024.size inb_S1x1024x1024_S1x256x1024_0_512_0)) g w⟩ :: kept2 p x g w
abbrev kept4 : List (View.Piece (Elt F) S1032x512 .f32) :=
  ⟨Rect.unit (s := S1032x512) ![776, 0] S256x512.size inb_S1032x512_S256x512_776_0,
    zed (View.ld x (Rect.unit (s := S1x1024x1024) ![0, 768, 0] S1x256x1024.size inb_S1x1024x1024_S1x256x1024_0_768_0)) g w⟩ :: kept3 p x g w

/-- Each of them writes the buffer's rows. -/
theorem kept_pieces : ∀ q ∈ kept4 p x g w, ∀ z, q.2 z = zbuf p x g w (q.1.emb z) := by
  intro q hq z
  simp only [List.mem_cons, List.not_mem_nil, or_false] at hq
  rcases hq with rfl | rfl | rfl | rfl | rfl
  · exact zpiece p x g w 768 776 3 rfl rfl (by decide) _ inb_S1032x512_S256x512_776_0 z
  · exact zpiece p x g w 512 520 2 rfl rfl (by decide) _ inb_S1032x512_S256x512_520_0 z
  · exact zpiece p x g w 256 264 1 rfl rfl (by decide) _ inb_S1032x512_S256x512_264_0 z
  · exact zpiece p x g w 0 8 0 rfl rfl (by decide) _ inb_S1032x512_S256x512_8_0 z
  · exact carried p x g w inb_S1032x512_S8x512_0_0 z

/-- A row between `o` and `o + n` is in the box of rows `o …`. -/
theorem in_rows (o n : Nat) (inb : ∀ a, ![o, 0] a + ![n, 512] a ≤ S1032x512.size a) (y : S1032x512.Idx) (h0 : o ≤ (y 0).val) (h1 : (y 0).val < o + n) :
    y ∈ (Rect.unit (s := S1032x512) ![o, 0] ![n, 512] inb).set := by
  rw [Rect.mem_set_unit]
  intro a
  match a with
  | ⟨0, _⟩ => exact ⟨h0, h1⟩
  | ⟨1, _⟩ => exact ⟨Nat.zero_le _, lt_of_lt_of_eq (y 1).isLt (Nat.zero_add 512).symm⟩

theorem cover1 (y : S1032x512.Idx) (h : (y 0).val < 264) : ∃ q ∈ kept1 p x g w, y ∈ q.1.set := by
  by_cases h0 : (y 0).val < 8
  · exact ⟨_, .tail _ (.head _), in_rows 0 8 inb_S1032x512_S8x512_0_0 y (by omega) (by omega)⟩
  · exact ⟨_, .head _, in_rows 8 256 inb_S1032x512_S256x512_8_0 y (by omega) (by omega)⟩
theorem cover2 (y : S1032x512.Idx) (h : (y 0).val < 520) : ∃ q ∈ kept2 p x g w, y ∈ q.1.set := by
  by_cases h0 : (y 0).val < 264
  · obtain ⟨q, hq, hy⟩ := cover1 p x g w y h0
    exact ⟨q, .tail _ hq, hy⟩
  · exact ⟨_, .head _, in_rows 264 256 inb_S1032x512_S256x512_264_0 y (by omega) (by omega)⟩
theorem cover3 (y : S1032x512.Idx) (h : (y 0).val < 776) : ∃ q ∈ kept3 p x g w, y ∈ q.1.set := by
  by_cases h0 : (y 0).val < 520
  · obtain ⟨q, hq, hy⟩ := cover2 p x g w y h0
    exact ⟨q, .tail _ hq, hy⟩
  · exact ⟨_, .head _, in_rows 520 256 inb_S1032x512_S256x512_520_0 y (by omega) (by omega)⟩
theorem cover4 (y : S1032x512.Idx) : ∃ q ∈ kept4 p x g w, y ∈ q.1.set := by
  have h : (y 0).val < 1032 := (y 0).isLt
  by_cases h0 : (y 0).val < 776
  · obtain ⟨q, hq, hy⟩ := cover3 p x g w y h0
    exact ⟨q, .tail _ hq, hy⟩
  · exact ⟨_, .head _, in_rows 776 256 inb_S1032x512_S256x512_776_0 y (by omega) (by omega)⟩

/-- So a load of 256 of those rows, after enough of the stores, reads the buffer's rows. -/
theorem load_rows {sig : RefSig} {κ : Kind} {sp : Space} (v : View sig κ sp S1032x512 .f32) (L : List (View.Piece (Elt F) S1032x512 .f32))
    (hL : ∀ q ∈ L, q ∈ kept4 p x g w) (o b : Nat) (hc : ∀ y : S1032x512.Idx, (y 0).val < b → ∃ q ∈ L, y ∈ q.1.set) (hb : o + 256 ≤ b) (ho : o ≤ 776)
    (inb : ∀ a, ![o, 0] a + S256x512.size a ≤ S1032x512.size a) :
    v.readCov L (Rect.unit (s := S1032x512) ![o, 0] S256x512.size inb).toLoadRect = zrows p x g w o ho := by
  rw [View.readCov_eq_canon']
  funext z
  have hz : (z 0).val < 256 := (z 0).isLt
  have e0 : ((Rect.unit (s := S1032x512) ![o, 0] S256x512.size inb).toLoadRect.idx z 0).val = o + 1 * (z 0).val := rfl
  rw [View.canon_apply_of_pieces (zbuf p x g w) L (fun q hq => kept_pieces p x g w q (hL q hq)) _ (hc _ (by rw [e0]; omega))]
  refine congrArg (zbuf p x g w) (funext fun a => Fin.ext ?_)
  match a with
  | ⟨0, _⟩ => show o + 1 * (z 0).val = o + (z 0).val; omega
  | ⟨1, _⟩ => show 0 + 1 * (z 1).val = (z 1).val; omega

end Kept

/-! ## What the grid points leave -/

/-- The output block of a point that carries rows over. -/
theorem out_B (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S3x512 .f32) (harg5 : arg5.IsWhole) (arg6 : Memref sig .tc .vmem S1x512 .f32) (harg6 : arg6.IsWhole) (arg7 : Memref sig .tc .vmem S8x128x128 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024x1024 .f32) (harg12 : arg12.IsWhole) (arg13 : Memref sig .tc .vmem S1032x512 .f32) (harg13 : arg13.IsWhole) (hc0 : ¬cond0_0 i) (hc1 : cond0_1 i)
    (x0 : Vec F S1x1024x1024 .f32) (x1 : Vec F S1x1024 .f32) (x2 : Vec F S1024x2560 .bf16) (x3 : Vec F S3x512 .f32) (x4 : Vec F S1x512 .f32) (x5 : Vec F S8x128x128 .f32) (x6 : Vec F S128x512 .f32) (x7 : Vec F S1x512 .f32) (x8 : Vec F S1x512 .f32) (x9 : Vec F S1024x1024 .bf16) (xs0 : Vec F S1032x512 .f32) :
    out0_B_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = blockOut (k0_pay3 (View.ld xs0 (Rect.unit (s := S1032x512) ![1024, 0] S8x512.size inb_S1032x512_S8x512_1024_0))) x0 x1 x2 x3 x4 x5 x6 x7 x8 x9 := by
  funext y
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  refine View.canon_apply_of_pieces (blockOut (k0_pay3 (View.ld xs0 (Rect.unit (s := S1032x512) ![1024, 0] S8x512.size inb_S1032x512_S8x512_1024_0))) x0 x1 x2 x3 x4 x5 x6 x7 x8 x9) _ ?_ y (cover0_B_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 y)
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg13.read_unread,
    View.ld_unit_zero (S := S1x1024) hz2, View.ld_unit_zero (S := S1x512) hz2, View.ld_unit_zero (S := S128x512) hz2]
  intro p hp z
  simp only [List.mem_cons, List.not_mem_nil, or_false] at hp
  rcases hp with rfl | rfl | rfl | rfl
  · refine piece (k0_pay3 (View.ld xs0 (Rect.unit (s := S1032x512) ![1024, 0] S8x512.size inb_S1032x512_S8x512_1024_0))) x0 x1 x2 x3 x4 x5 x6 x7 x8 x9 768 3 rfl (by decide) inb_S1x1024x1024_S1x256x1024_0_768_0 z ?_ ?_
    · exact load_rows (k0_pay3 (View.ld xs0 (Rect.unit (s := S1032x512) ![1024, 0] S8x512.size inb_S1032x512_S8x512_1024_0))) x0 x1 x2 arg13.view (kept4 _ x0 x1 x2) (fun _ h => h) 774 1032 (fun y _ => cover4 _ x0 x1 x2 y) (by decide) (by decide) inb_S1032x512_S256x512_774_0
    · exact load_rows (k0_pay3 (View.ld xs0 (Rect.unit (s := S1032x512) ![1024, 0] S8x512.size inb_S1032x512_S8x512_1024_0))) x0 x1 x2 arg13.view (kept4 _ x0 x1 x2) (fun _ h => h) 775 1032 (fun y _ => cover4 _ x0 x1 x2 y) (by decide) (by decide) inb_S1032x512_S256x512_775_0
  · refine piece (k0_pay3 (View.ld xs0 (Rect.unit (s := S1032x512) ![1024, 0] S8x512.size inb_S1032x512_S8x512_1024_0))) x0 x1 x2 x3 x4 x5 x6 x7 x8 x9 512 2 rfl (by decide) inb_S1x1024x1024_S1x256x1024_0_512_0 z ?_ ?_
    · exact load_rows (k0_pay3 (View.ld xs0 (Rect.unit (s := S1032x512) ![1024, 0] S8x512.size inb_S1032x512_S8x512_1024_0))) x0 x1 x2 arg13.view (kept4 _ x0 x1 x2) (fun _ h => h) 518 1032 (fun y _ => cover4 _ x0 x1 x2 y) (by decide) (by decide) inb_S1032x512_S256x512_518_0
    · exact load_rows (k0_pay3 (View.ld xs0 (Rect.unit (s := S1032x512) ![1024, 0] S8x512.size inb_S1032x512_S8x512_1024_0))) x0 x1 x2 arg13.view (kept4 _ x0 x1 x2) (fun _ h => h) 519 1032 (fun y _ => cover4 _ x0 x1 x2 y) (by decide) (by decide) inb_S1032x512_S256x512_519_0
  · refine piece (k0_pay3 (View.ld xs0 (Rect.unit (s := S1032x512) ![1024, 0] S8x512.size inb_S1032x512_S8x512_1024_0))) x0 x1 x2 x3 x4 x5 x6 x7 x8 x9 256 1 rfl (by decide) inb_S1x1024x1024_S1x256x1024_0_256_0 z ?_ ?_
    · exact load_rows (k0_pay3 (View.ld xs0 (Rect.unit (s := S1032x512) ![1024, 0] S8x512.size inb_S1032x512_S8x512_1024_0))) x0 x1 x2 arg13.view (kept3 _ x0 x1 x2) (fun _ h => .tail _ h) 262 776 (cover3 _ x0 x1 x2) (by decide) (by decide) inb_S1032x512_S256x512_262_0
    · exact load_rows (k0_pay3 (View.ld xs0 (Rect.unit (s := S1032x512) ![1024, 0] S8x512.size inb_S1032x512_S8x512_1024_0))) x0 x1 x2 arg13.view (kept3 _ x0 x1 x2) (fun _ h => .tail _ h) 263 776 (cover3 _ x0 x1 x2) (by decide) (by decide) inb_S1032x512_S256x512_263_0
  · refine piece (k0_pay3 (View.ld xs0 (Rect.unit (s := S1032x512) ![1024, 0] S8x512.size inb_S1032x512_S8x512_1024_0))) x0 x1 x2 x3 x4 x5 x6 x7 x8 x9 0 0 rfl (by decide) inb_S1x1024x1024_S1x256x1024_0_0_0 z ?_ ?_
    · exact load_rows (k0_pay3 (View.ld xs0 (Rect.unit (s := S1032x512) ![1024, 0] S8x512.size inb_S1032x512_S8x512_1024_0))) x0 x1 x2 arg13.view (kept2 _ x0 x1 x2) (fun _ h => .tail _ (.tail _ h)) 6 520 (cover2 _ x0 x1 x2) (by decide) (by decide) inb_S1032x512_S256x512_6_0
    · exact load_rows (k0_pay3 (View.ld xs0 (Rect.unit (s := S1032x512) ![1024, 0] S8x512.size inb_S1032x512_S8x512_1024_0))) x0 x1 x2 arg13.view (kept2 _ x0 x1 x2) (fun _ h => .tail _ (.tail _ h)) 7 520 (cover2 _ x0 x1 x2) (by decide) (by decide) inb_S1032x512_S256x512_7_0

/-- The rows kept by a point that carries rows over. -/
theorem kept_B (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S3x512 .f32) (harg5 : arg5.IsWhole) (arg6 : Memref sig .tc .vmem S1x512 .f32) (harg6 : arg6.IsWhole) (arg7 : Memref sig .tc .vmem S8x128x128 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024x1024 .f32) (harg12 : arg12.IsWhole) (arg13 : Memref sig .tc .vmem S1032x512 .f32) (harg13 : arg13.IsWhole) (hc0 : ¬cond0_0 i) (hc1 : cond0_1 i)
    (x0 : Vec F S1x1024x1024 .f32) (x1 : Vec F S1x1024 .f32) (x2 : Vec F S1024x2560 .bf16) (x3 : Vec F S3x512 .f32) (x4 : Vec F S1x512 .f32) (x5 : Vec F S8x128x128 .f32) (x6 : Vec F S128x512 .f32) (x7 : Vec F S1x512 .f32) (x8 : Vec F S1x512 .f32) (x9 : Vec F S1024x1024 .bf16) (xs0 : Vec F S1032x512 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = zbuf (k0_pay3 (View.ld xs0 (Rect.unit (s := S1032x512) ![1024, 0] S8x512.size inb_S1032x512_S8x512_1024_0))) x0 x1 x2 := by
  funext y
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  refine View.canon_apply_of_pieces (zbuf (k0_pay3 (View.ld xs0 (Rect.unit (s := S1032x512) ![1024, 0] S8x512.size inb_S1032x512_S8x512_1024_0))) x0 x1 x2) _ ?_ y (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 y)
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg13.read_unread,
    View.ld_unit_zero (S := S1x1024) hz2]
  intro q hq z
  simp only [List.mem_cons, List.not_mem_nil, or_false] at hq
  rcases hq with rfl | rfl | rfl | rfl | rfl
  · exact zpiece (k0_pay3 (View.ld xs0 (Rect.unit (s := S1032x512) ![1024, 0] S8x512.size inb_S1032x512_S8x512_1024_0))) x0 x1 x2 768 776 3 rfl rfl (by decide) inb_S1x1024x1024_S1x256x1024_0_768_0 inb_S1032x512_S256x512_776_0 z
  · exact zpiece (k0_pay3 (View.ld xs0 (Rect.unit (s := S1032x512) ![1024, 0] S8x512.size inb_S1032x512_S8x512_1024_0))) x0 x1 x2 512 520 2 rfl rfl (by decide) inb_S1x1024x1024_S1x256x1024_0_512_0 inb_S1032x512_S256x512_520_0 z
  · exact zpiece (k0_pay3 (View.ld xs0 (Rect.unit (s := S1032x512) ![1024, 0] S8x512.size inb_S1032x512_S8x512_1024_0))) x0 x1 x2 256 264 1 rfl rfl (by decide) inb_S1x1024x1024_S1x256x1024_0_256_0 inb_S1032x512_S256x512_264_0 z
  · exact zpiece (k0_pay3 (View.ld xs0 (Rect.unit (s := S1032x512) ![1024, 0] S8x512.size inb_S1032x512_S8x512_1024_0))) x0 x1 x2 0 8 0 rfl rfl (by decide) inb_S1x1024x1024_S1x256x1024_0_0_0 inb_S1032x512_S256x512_8_0 z
  · exact carried (k0_pay3 (View.ld xs0 (Rect.unit (s := S1032x512) ![1024, 0] S8x512.size inb_S1032x512_S8x512_1024_0))) x0 x1 x2 inb_S1032x512_S8x512_0_0 z

/-- The output block of the first point of a batch. -/
theorem out_A (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S3x512 .f32) (harg5 : arg5.IsWhole) (arg6 : Memref sig .tc .vmem S1x512 .f32) (harg6 : arg6.IsWhole) (arg7 : Memref sig .tc .vmem S8x128x128 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024x1024 .f32) (harg12 : arg12.IsWhole) (arg13 : Memref sig .tc .vmem S1032x512 .f32) (harg13 : arg13.IsWhole) (hc0 : cond0_0 i) (hc1 : ¬cond0_1 i)
    (x0 : Vec F S1x1024x1024 .f32) (x1 : Vec F S1x1024 .f32) (x2 : Vec F S1024x2560 .bf16) (x3 : Vec F S3x512 .f32) (x4 : Vec F S1x512 .f32) (x5 : Vec F S8x128x128 .f32) (x6 : Vec F S128x512 .f32) (x7 : Vec F S1x512 .f32) (x8 : Vec F S1x512 .f32) (x9 : Vec F S1024x1024 .bf16) :
    out0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = blockOut k0_pay2 x0 x1 x2 x3 x4 x5 x6 x7 x8 x9 := by
  funext y
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  refine View.canon_apply_of_pieces (blockOut k0_pay2 x0 x1 x2 x3 x4 x5 x6 x7 x8 x9) _ ?_ y (cover0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread,
    View.ld_unit_zero (S := S1x1024) hz2, View.ld_unit_zero (S := S1x512) hz2, View.ld_unit_zero (S := S128x512) hz2]
  generalize (k0_pay2 : FVec F S8x512 .f32) = p0
  intro p hp z
  simp only [List.mem_cons, List.not_mem_nil, or_false] at hp
  rcases hp with rfl | rfl | rfl | rfl
  · refine piece p0 x0 x1 x2 x3 x4 x5 x6 x7 x8 x9 768 3 rfl (by decide) inb_S1x1024x1024_S1x256x1024_0_768_0 z ?_ ?_
    · exact load_rows p0 x0 x1 x2 arg13.view (kept4 _ x0 x1 x2) (fun _ h => h) 774 1032 (fun y _ => cover4 _ x0 x1 x2 y) (by decide) (by decide) inb_S1032x512_S256x512_774_0
    · exact load_rows p0 x0 x1 x2 arg13.view (kept4 _ x0 x1 x2) (fun _ h => h) 775 1032 (fun y _ => cover4 _ x0 x1 x2 y) (by decide) (by decide) inb_S1032x512_S256x512_775_0
  · refine piece p0 x0 x1 x2 x3 x4 x5 x6 x7 x8 x9 512 2 rfl (by decide) inb_S1x1024x1024_S1x256x1024_0_512_0 z ?_ ?_
    · exact load_rows p0 x0 x1 x2 arg13.view (kept4 _ x0 x1 x2) (fun _ h => h) 518 1032 (fun y _ => cover4 _ x0 x1 x2 y) (by decide) (by decide) inb_S1032x512_S256x512_518_0
    · exact load_rows p0 x0 x1 x2 arg13.view (kept4 _ x0 x1 x2) (fun _ h => h) 519 1032 (fun y _ => cover4 _ x0 x1 x2 y) (by decide) (by decide) inb_S1032x512_S256x512_519_0
  · refine piece p0 x0 x1 x2 x3 x4 x5 x6 x7 x8 x9 256 1 rfl (by decide) inb_S1x1024x1024_S1x256x1024_0_256_0 z ?_ ?_
    · exact load_rows p0 x0 x1 x2 arg13.view (kept3 _ x0 x1 x2) (fun _ h => .tail _ h) 262 776 (cover3 _ x0 x1 x2) (by decide) (by decide) inb_S1032x512_S256x512_262_0
    · exact load_rows p0 x0 x1 x2 arg13.view (kept3 _ x0 x1 x2) (fun _ h => .tail _ h) 263 776 (cover3 _ x0 x1 x2) (by decide) (by decide) inb_S1032x512_S256x512_263_0
  · refine piece p0 x0 x1 x2 x3 x4 x5 x6 x7 x8 x9 0 0 rfl (by decide) inb_S1x1024x1024_S1x256x1024_0_0_0 z ?_ ?_
    · exact load_rows p0 x0 x1 x2 arg13.view (kept2 _ x0 x1 x2) (fun _ h => .tail _ (.tail _ h)) 6 520 (cover2 _ x0 x1 x2) (by decide) (by decide) inb_S1032x512_S256x512_6_0
    · exact load_rows p0 x0 x1 x2 arg13.view (kept2 _ x0 x1 x2) (fun _ h => .tail _ (.tail _ h)) 7 520 (cover2 _ x0 x1 x2) (by decide) (by decide) inb_S1032x512_S256x512_7_0

/-- The rows kept by the first point of a batch. -/
theorem kept_A (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S3x512 .f32) (harg5 : arg5.IsWhole) (arg6 : Memref sig .tc .vmem S1x512 .f32) (harg6 : arg6.IsWhole) (arg7 : Memref sig .tc .vmem S8x128x128 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024x1024 .f32) (harg12 : arg12.IsWhole) (arg13 : Memref sig .tc .vmem S1032x512 .f32) (harg13 : arg13.IsWhole) (hc0 : cond0_0 i) (hc1 : ¬cond0_1 i)
    (x0 : Vec F S1x1024x1024 .f32) (x1 : Vec F S1x1024 .f32) (x2 : Vec F S1024x2560 .bf16) (x3 : Vec F S3x512 .f32) (x4 : Vec F S1x512 .f32) (x5 : Vec F S8x128x128 .f32) (x6 : Vec F S128x512 .f32) (x7 : Vec F S1x512 .f32) (x8 : Vec F S1x512 .f32) (x9 : Vec F S1024x1024 .bf16) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = zbuf k0_pay2 x0 x1 x2 := by
  funext y
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  refine View.canon_apply_of_pieces (zbuf k0_pay2 x0 x1 x2) _ ?_ y (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread,
    View.ld_unit_zero (S := S1x1024) hz2]
  generalize (k0_pay2 : FVec F S8x512 .f32) = p0
  intro q hq z
  simp only [List.mem_cons, List.not_mem_nil, or_false] at hq
  rcases hq with rfl | rfl | rfl | rfl | rfl
  · exact zpiece p0 x0 x1 x2 768 776 3 rfl rfl (by decide) inb_S1x1024x1024_S1x256x1024_0_768_0 inb_S1032x512_S256x512_776_0 z
  · exact zpiece p0 x0 x1 x2 512 520 2 rfl rfl (by decide) inb_S1x1024x1024_S1x256x1024_0_512_0 inb_S1032x512_S256x512_520_0 z
  · exact zpiece p0 x0 x1 x2 256 264 1 rfl rfl (by decide) inb_S1x1024x1024_S1x256x1024_0_256_0 inb_S1032x512_S256x512_264_0 z
  · exact zpiece p0 x0 x1 x2 0 8 0 rfl rfl (by decide) inb_S1x1024x1024_S1x256x1024_0_0_0 inb_S1032x512_S256x512_8_0 z
  · exact carried p0 x0 x1 x2 inb_S1032x512_S8x512_0_0 z

end Cert.Proof.Mix
-- ==== Proof.MixRow.lean ====
/-
  THE MIXER OF ONE BATCH, ROW BY ROW, over the extended reals: the two programs are compared through these functions of plain indices.
-/
module

public import proofs.«01_k».proof.Proof.AttnSoft

@[expose] public section

noncomputable section

open Idealize.ShloMosaic
open scoped BigOperators

namespace Cert.Proof.Mix

open Cert.Proof.Attn (c1024 cEps normed div_real)

/-- The printed constants: 512, 64, 1/64, and the gate's three. -/
def c512 : EReal := Ideal.ofBits .f32 0x44000000#32
def c64 : EReal := Ideal.ofBits .f32 0x42800000#32
def c64th : EReal := Ideal.ofBits .f32 0x3C800000#32
def cHalf : EReal := Ideal.ofBits .f32 0x3F000000#32
def cCube : EReal := Ideal.ofBits .f32 0x3D372713#32
def cTurn : EReal := Ideal.ofBits .f32 0x3F4C422A#32

theorem c64_eq : c64 = ((64 : ℝ) : EReal) := by
  simp [c64, Ideal.ofBits, Ideal.ieee, -EReal.coe_mul]; norm_num
theorem c64th_eq : c64th = ((64⁻¹ : ℝ) : EReal) := by
  simp [c64th, Ideal.ofBits, Ideal.ieee, -EReal.coe_mul]; norm_num

/-- Dividing by 64 is multiplying by its reciprocal. -/
theorem div64 (x : EReal) : Ideal.div x c64 = x * c64th := by
  rw [c64_eq, c64th_eq, div_real x 64 (by norm_num)]

/-- One projection of a normed row: columns `512 o …` of the weights. -/
def lin (x g : Fin 1024 → EReal) (w : Fin 1024 → Fin 2560 → EReal) (o : Fin 5) (n : Fin 512) : EReal :=
  ∑ k, normed x g k * w k ⟨512 * o.val + n.val, by omega⟩

/-- The filter's input at one row. -/
def zin (x g : Fin 1024 → EReal) (w : Fin 1024 → Fin 2560 → EReal) (n : Fin 512) : EReal := lin x g w 1 n * lin x g w 2 n

/-- The norm of 512 numbers. -/
def outNorm (y g : Fin 512 → EReal) (n : Fin 512) : EReal :=
  y n * Ideal.rsqrt (Ideal.div (∑ k, y k * y k) c512 + cEps) * g n

/-- The tanh gate. -/
def gate (v : EReal) : EReal := v * (cHalf * (1 + Ideal.tanh (cTurn * (v + cCube * (v * v * v)))))

theorem gate_late (v : EReal) : cHalf * v * (1 + Ideal.tanh (cTurn * (v + cCube * (v * v * v)))) = gate v := by
  unfold gate; rw [mul_comm cHalf v, mul_assoc]

/-- The column's head, and column `e` of head `h`. -/
def headOf (n : Fin 512) : Fin 8 := ⟨n.val / 64, by omega⟩
def hcol (h : Fin 8) (e : Fin 64) : Fin 512 := ⟨64 * h.val + e.val, by omega⟩

/-- The norm of each head's 64 numbers. -/
def vnorm (v g : Fin 512 → EReal) (n : Fin 512) : EReal :=
  v n * Ideal.rsqrt (Ideal.div (∑ e, v (hcol (headOf n) e) * v (hcol (headOf n) e)) c64 + cEps) * g n

section Batch

variable (X : Fin 4096 → Fin 1024 → EReal) (g : Fin 1024 → EReal) (w : Fin 1024 → Fin 2560 → EReal) (cw : Fin 3 → Fin 512 → EReal)
  (gv : Fin 512 → EReal) (ws : Fin 8 → Fin 128 → Fin 128 → EReal) (bs : Fin 8 → Fin 128 → EReal) (ga gb : Fin 512 → EReal)
  (wo : Fin 1024 → Fin 1024 → EReal)

/-- The filter's input `k` rows back, zero before the first row. -/
def back (k : ℕ) (R : Fin 4096) (n : Fin 512) : EReal := if k ≤ R.val then zin (X ⟨R.val - k, by omega⟩) g w n else 0

/-- The filter. -/
def filt (R : Fin 4096) (n : Fin 512) : EReal :=
  cw 0 n * back X g w 2 R n + cw 1 n * back X g w 1 R n + cw 2 n * zin (X R) g w n

/-- The first half of the normed output … -/
def ya (R : Fin 4096) : Fin 512 → EReal := outNorm (fun n => lin (X R) g w 0 n * filt X g w cw R n) ga

/-- The mixed positions of the row's chunk. -/
def mixRow (R : Fin 4096) (n : Fin 512) : EReal :=
  (∑ j : Fin 128, (if j.val ≤ R.val % 128 then ws (headOf n) ⟨R.val % 128, Nat.mod_lt _ (by decide)⟩ j else 0)
      * vnorm (fun n => gate (lin (X ⟨128 * (R.val / 128) + j.val, by omega⟩) g w 4 n)) gv n)
    + bs (headOf n) ⟨R.val % 128, Nat.mod_lt _ (by decide)⟩

/-- … and the second. -/
def yb (R : Fin 4096) : Fin 512 → EReal := outNorm (fun n => gate (lin (X R) g w 3 n) * mixRow X g w gv ws bs R n) gb

/-- The mixer's row. -/
def outRow (R : Fin 4096) (n : Fin 1024) : EReal :=
  X R n + ((∑ j : Fin 512, ya X g w cw ga R j * wo ⟨j.val, by omega⟩ n) + ∑ j : Fin 512, yb X g w gv ws bs gb R j * wo ⟨512 + j.val, by omega⟩ n)

end Batch

end Cert.Proof.Mix
-- ==== Proof.MixSlab.lean ====
/-
  THE SLAB'S MIXER READ AT AN INDEX, at the ideal floats.
-/
module

public import proofs.«01_k».proof.Proof.MixTile
public import proofs.«01_k».proof.Proof.MixRow

@[expose] public section

set_option maxRecDepth 16384

noncomputable section

open Idealize.ShloMosaic Idealize.ShloMosaic.TcCoe
open scoped BigOperators

namespace Cert.Proof.Mix

open Cert.Kernel3Ideal Cert.Kernel3Ideal.Gen

theorem proj_at (x : Vec Ideal S1x256x1024 .f32) (g : Vec Ideal S1x1024 .f32) (w : Vec Ideal S1024x2560 .bf16) (o : Fin 5) (q : Nat) (hq : q = 512 * o.val)
    (h : ∀ a, ![0, q] a + S1024x512.size a ≤ S1024x2560.size a) (r : Fin 256) (n : Fin 512) :
    proj (F := Ideal) x g (wcols w q h) (ix2 r n) = lin (fun k => x (ix3 0 r k)) (fun k => g (ix2 0 k)) (fun k j => w (ix2 k j)) o n := by
  subst hq
  have hw : ∀ k : Fin 1024, wcols w (512 * o.val) h (ix2 k n) = w (ix2 k (⟨512 * o.val + n.val, by omega⟩ : Fin 2560)) := by
    intro k
    refine congrArg w (funext fun b => Fin.ext ?_)
    match b with
    | ⟨0, _⟩ => show 0 + 1 * k.val = k.val; omega
    | ⟨1, _⟩ => show 512 * o.val + 1 * n.val = 512 * o.val + n.val; omega
  unfold proj
  generalize wcols w (512 * o.val) h = wq at hw
  pointwise [k0_pay47, k0_pay45, k0_pay44]
  simp only [hw]
  rfl

/-! ## The masks -/

theorem low_mask : ∀ e : Fin 128, IntOp.cmpi CmpIPredicate.slt (BitVec.ofNat 32 e.val) 64#32 = if e.val < 64 then 1#1 else 0#1 := by decide +kernel
theorem tri_mask : ∀ i j : Fin 128, IntOp.cmpi CmpIPredicate.sge (BitVec.ofNat 32 i.val) (BitVec.ofNat 32 j.val) = if j.val ≤ i.val then 1#1 else 0#1 := by
  decide +kernel

theorem sel_low {α : Type} (e : Fin 128) (a b : α) :
    Scalar.select (IntOp.cmpi CmpIPredicate.slt (BitVec.ofNat 32 e.val) 64#32) a b = if e.val < 64 then a else b := by
  rw [low_mask]; split <;> rfl
theorem sel_tri {α : Type} (i j : Fin 128) (a b : α) :
    Scalar.select (IntOp.cmpi CmpIPredicate.sge (BitVec.ofNat 32 i.val) (BitVec.ofNat 32 j.val)) a b = if j.val ≤ i.val then a else b := by
  rw [tri_mask]; split <;> rfl

/-- A sum over 128 kept on its first, or its last, 64. -/
theorem sum_low (f : Fin 128 → EReal) : ∑ x : Fin 128, (if x.val < 64 then f x else 0) = ∑ e : Fin 64, f ⟨e.val, by omega⟩ := by
  refine (Fin.sum_univ_add (a := 64) (b := 64) _).trans ?_
  rw [Finset.sum_congr rfl fun (i : Fin 64) _ => if_pos (show (Fin.castAdd 64 i).val < 64 from i.isLt),
    Finset.sum_eq_zero (fun (i : Fin 64) _ => if_neg (show ¬(Fin.natAdd 64 i).val < 64 by show ¬64 + i.val < 64; omega)), add_zero]
  rfl
theorem sum_high (f : Fin 128 → EReal) : ∑ x : Fin 128, (if x.val < 64 then 0 else f x) = ∑ e : Fin 64, f ⟨64 + e.val, by omega⟩ := by
  refine (Fin.sum_univ_add (a := 64) (b := 64) _).trans ?_
  rw [Finset.sum_eq_zero (fun (i : Fin 64) _ => if_pos (show (Fin.castAdd 64 i).val < 64 from i.isLt)),
    Finset.sum_congr rfl fun (i : Fin 64) _ => if_neg (show ¬(Fin.natAdd 64 i).val < 64 by show ¬64 + i.val < 64; omega), zero_add]
  rfl

/-! ## The heads' norm -/

/-- Column `e` of the `q`-th group of 128. -/
def lane (q : Fin 4) (e : Fin 128) : Fin 512 := ⟨128 * q.val + e.val, by omega⟩

theorem lane_split (n : Fin 512) : ∃ (q : Fin 4) (e : Fin 128), n = lane q e :=
  ⟨⟨n.val / 128, by omega⟩, ⟨n.val % 128, Nat.mod_lt _ (by decide)⟩, Fin.ext (by show n.val = 128 * (n.val / 128) + n.val % 128; omega)⟩

theorem halfSums_at (q : Fin 4) (o : Nat) (ho : o = 128 * q.val) (h : S256x512.Slices ![0, o] S256x128) (v : FVec Ideal S256x512 .f32) (r : Fin 256) (e : Fin 128) :
    halfSums (F := Ideal) h (mulf v v) (ix2 r e)
      = ∑ e' : Fin 64, v (ix2 r (hcol (headOf (lane q e)) e')) * v (ix2 r (hcol (headOf (lane q e)) e')) := by
  subst ho
  have hl : ∀ x : Fin 128, (⟨128 * q.val + x.val, by omega⟩ : Fin 512) = lane q x := fun _ => rfl
  unfold halfSums
  pointwise [k0_pay4]
  simp only [sel_low, hl]
  rw [sum_low, sum_high]
  have hc : (lane q e).val = 128 * q.val + e.val := rfl
  split
  · refine Finset.sum_congr rfl fun e' _ => ?_
    have : lane q (⟨e'.val, by omega⟩ : Fin 128) = hcol (headOf (lane q e)) e' :=
      Fin.ext (by show 128 * q.val + e'.val = 64 * ((128 * q.val + e.val) / 64) + e'.val; omega)
    rw [this]
  · refine Finset.sum_congr rfl fun e' _ => ?_
    have : lane q (⟨64 + e'.val, by omega⟩ : Fin 128) = hcol (headOf (lane q e)) e' :=
      Fin.ext (by show 128 * q.val + (64 + e'.val) = 64 * ((128 * q.val + e.val) / 64) + e'.val; omega)
    rw [this]

/-- Four groups side by side. -/
theorem groups_at (a b c d : FVec Ideal S256x128 .f32) (r : Fin 256) (q : Fin 4) (e : Fin 128) :
    concatenate S256x512 1 [⟨S256x128, a⟩, ⟨S256x128, b⟩, ⟨S256x128, c⟩, ⟨S256x128, d⟩] concatenates_S256x128_S256x128_S256x128_S256x128_S256x512_d1 (ix2 r (lane q e))
      = (![a, b, c, d] q : FVec Ideal S256x128 .f32) (ix2 r e) := by
  match q with
  | ⟨0, h0⟩ =>
    exact concatenate_apply_piece (t := S256x512) 1 _ _ _ 0 (Nat.lt_of_sub_pos (by exact Nat.zero_lt_succ _)) S256x128 _ rfl rfl 0 rfl (ix2 r e)
      (fun b hb => match b with | ⟨0, _⟩ => rfl | ⟨1, _⟩ => absurd rfl hb) (by show 0 + e.val = 128 * 0 + e.val; omega)
  | ⟨1, h0⟩ =>
    exact concatenate_apply_piece (t := S256x512) 1 _ _ _ 1 (Nat.lt_of_sub_pos (by exact Nat.zero_lt_succ _)) S256x128 _ rfl rfl 128 rfl (ix2 r e)
      (fun b hb => match b with | ⟨0, _⟩ => rfl | ⟨1, _⟩ => absurd rfl hb) (by show 128 + e.val = 128 * 1 + e.val; omega)
  | ⟨2, h0⟩ =>
    exact concatenate_apply_piece (t := S256x512) 1 _ _ _ 2 (Nat.lt_of_sub_pos (by exact Nat.zero_lt_succ _)) S256x128 _ rfl rfl 256 rfl (ix2 r e)
      (fun b hb => match b with | ⟨0, _⟩ => rfl | ⟨1, _⟩ => absurd rfl hb) (by show 256 + e.val = 128 * 2 + e.val; omega)
  | ⟨3, h0⟩ =>
    exact concatenate_apply_piece (t := S256x512) 1 _ _ _ 3 (Nat.lt_of_sub_pos (by exact Nat.zero_lt_succ _)) S256x128 _ rfl rfl 384 rfl (ix2 r e)
      (fun b hb => match b with | ⟨0, _⟩ => rfl | ⟨1, _⟩ => absurd rfl hb) (by show 384 + e.val = 128 * 3 + e.val; omega)

theorem spread_at (v : FVec Ideal S256x512 .f32) (a b c d : FVec Ideal S256x128 .f32) (gv : Vec Ideal S1x512 .f32) (r : Fin 256) (q : Fin 4) (e : Fin 128) :
    k0_pay65 (F := Ideal) v a b c d gv (ix2 r (lane q e))
      = v (ix2 r (lane q e)) * Ideal.rsqrt ((![a, b, c, d] q : FVec Ideal S256x128 .f32) (ix2 r e) * c64th + Cert.Proof.Attn.cEps) * gv (ix2 0 (lane q e)) := by
  rw [← groups_at]
  unfold k0_pay65
  generalize concatenate S256x512 1 [⟨S256x128, a⟩, ⟨S256x128, b⟩, ⟨S256x128, c⟩, ⟨S256x128, d⟩] _ = C
  pointwise
  rfl

theorem headNorm_at (v : FVec Ideal S256x512 .f32) (gv : Vec Ideal S1x512 .f32) (r : Fin 256) (n : Fin 512) :
    headNorm (F := Ideal) v gv (ix2 r n) = vnorm (fun n => v (ix2 r n)) (fun n => gv (ix2 0 n)) n := by
  obtain ⟨q, e, rfl⟩ := lane_split n
  unfold headNorm
  rw [spread_at]
  unfold vnorm
  rw [div64]
  refine congrArg (fun s => v (ix2 r (lane q e)) * Ideal.rsqrt (s * c64th + Cert.Proof.Attn.cEps) * gv (ix2 0 (lane q e))) ?_
  match q with
  | ⟨0, h0⟩ => exact halfSums_at ⟨0, h0⟩ 0 rfl _ v r e
  | ⟨1, h0⟩ => exact halfSums_at ⟨1, h0⟩ 128 rfl _ v r e
  | ⟨2, h0⟩ => exact halfSums_at ⟨2, h0⟩ 256 rfl _ v r e
  | ⟨3, h0⟩ => exact halfSums_at ⟨3, h0⟩ 384 rfl _ v r e

/-! ## The causal mixing -/

theorem causal_at (w : Vec Ideal S8x128x128 .f32) (k : Fin 8) (q : Nat) (hq : q = k.val) (h : ∀ a, ![q, 0, 0] a + S1x128x128.size a ≤ S8x128x128.size a) (r e : Fin 128) :
    causal (F := Ideal) w q h (ix2 r e) = if e.val ≤ r.val then w (ix3 k r e) else 0 := by
  subst hq
  have hw : View.ld w (Rect.unit (s := S8x128x128) ![k.val, 0, 0] S1x128x128.size h) (ix3 0 r e) = w (ix3 k r e) := by
    refine congrArg w (funext fun b => Fin.ext ?_)
    match b with
    | ⟨0, _⟩ => show k.val + 1 * 0 = k.val; omega
    | ⟨1, _⟩ => show 0 + 1 * r.val = r.val; omega
    | ⟨2, _⟩ => show 0 + 1 * e.val = e.val; omega
  rw [← hw]
  unfold causal
  generalize View.ld w _ = z
  pointwise [k0_pay6, k0_pay5]
  rw [sel_tri]

theorem mixDot_at (m : FVec Ideal S128x128 .bf16) (a : FVec Ideal S128x128 .f32) (r e : Fin 128) :
    mixDot (F := Ideal) m a (ix2 r e) = ∑ j, m (ix2 r j) * a (ix2 j e) := by
  unfold mixDot
  pointwise

theorem even_at {o : Nat} (h0 : S256x512.Slices ![0, o] S128x128) (h1 : S256x512.Slices ![128, o] S128x128) (m : FVec Ideal S128x128 .bf16)
    (v : FVec Ideal S256x512 .f32) (r e : Fin 128) (c : Fin 128 → Fin 512) (hc : ∀ e, (c e).val = o + e.val) :
    even (F := Ideal) h0 h1 m v (ix2 r e)
      = ∑ x : Fin 128, m (ix2 r x) * (if e.val < 64 then v (ix2 ⟨x.val, by omega⟩ (c e))
          else v (ix2 ⟨128 + x.val, by omega⟩ (c ⟨(e.val + 128 - 64) % 128, Nat.mod_lt _ (by decide)⟩))) := by
  have hl : ∀ (x : Fin 128) (hx : o + x.val < 512), (⟨o + x.val, hx⟩ : Fin 512) = c x := fun x hx => Fin.ext (hc x).symm
  unfold even
  rw [mixDot_at]
  pointwise [k0_pay14]
  simp only [sel_low]
  refine Finset.sum_congr rfl fun x _ => ?_
  rw [hl e, ← hl ⟨(e.val + 128 - 64) % 128, Nat.mod_lt _ (by decide)⟩ (by rw [← hc]; exact (c _).isLt)]

theorem odd_at {o : Nat} (h0 : S256x512.Slices ![0, o] S128x128) (h1 : S256x512.Slices ![128, o] S128x128) (m : FVec Ideal S128x128 .bf16)
    (v : FVec Ideal S256x512 .f32) (r e : Fin 128) (c : Fin 128 → Fin 512) (hc : ∀ e, (c e).val = o + e.val) :
    odd (F := Ideal) h0 h1 m v (ix2 r e)
      = ∑ x : Fin 128, m (ix2 r x) * (if e.val < 64 then v (ix2 ⟨x.val, by omega⟩ (c ⟨(e.val + 128 - 64) % 128, Nat.mod_lt _ (by decide)⟩))
          else v (ix2 ⟨128 + x.val, by omega⟩ (c e))) := by
  have hl : ∀ (x : Fin 128) (hx : o + x.val < 512), (⟨o + x.val, hx⟩ : Fin 512) = c x := fun x hx => Fin.ext (hc x).symm
  unfold odd
  rw [mixDot_at]
  pointwise [k0_pay14]
  simp only [sel_low]
  refine Finset.sum_congr rfl fun x _ => ?_
  rw [hl e, ← hl ⟨(e.val + 128 - 64) % 128, Nat.mod_lt _ (by decide)⟩ (by rw [← hc]; exact (c _).isLt)]

theorem firstOf_at (a b : FVec Ideal S128x128 .f32) (r e : Fin 128) :
    firstOf (F := Ideal) a b (ix2 r e) = if e.val < 64 then a (ix2 r e) else b (ix2 r ⟨(e.val + 128 - 64) % 128, Nat.mod_lt _ (by decide)⟩) := by
  unfold firstOf
  pointwise [k0_pay14]
  rw [sel_low]
theorem secondOf_at (a b : FVec Ideal S128x128 .f32) (r e : Fin 128) :
    secondOf (F := Ideal) a b (ix2 r e) = if e.val < 64 then a (ix2 r ⟨(e.val + 128 - 64) % 128, Nat.mod_lt _ (by decide)⟩) else b (ix2 r e) := by
  unfold secondOf
  pointwise [k0_pay14]
  rw [sel_low]

/-- One column's mix of the 128 rows from row `s`. -/
def mixCol (w : Vec Ideal S8x128x128 .f32) (v : FVec Ideal S256x512 .f32) (s : Nat) (hs : s + 128 ≤ 256) (i : Fin 128) (n : Fin 512) : EReal :=
  ∑ x : Fin 128, (if x.val ≤ i.val then w (ix3 (headOf n) i x) else 0) * v (ix2 ⟨s + x.val, by omega⟩ n)

section Pair
variable (w : Vec Ideal S8x128x128 .f32) (v : FVec Ideal S256x512 .f32) (q : Fin 4) (o k0 k1 : Nat) (ho : o = 128 * q.val) (hk0 : k0 = 2 * q.val) (hk1 : k1 = 2 * q.val + 1)
  (h0 : S256x512.Slices ![0, o] S128x128) (h1 : S256x512.Slices ![128, o] S128x128)
  (hw0 : ∀ a, ![k0, 0, 0] a + S1x128x128.size a ≤ S8x128x128.size a) (hw1 : ∀ a, ![k1, 0, 0] a + S1x128x128.size a ≤ S8x128x128.size a) (i e : Fin 128)
include ho hk0 hk1

theorem first_at : firstOf (F := Ideal) (even h0 h1 (causal w k0 hw0) v) (odd h0 h1 (causal w k1 hw1) v) (ix2 i e) = mixCol w v 0 (by decide) i (lane q e) := by
  have hc : ∀ e : Fin 128, (lane q e).val = o + e.val := fun e => by show 128 * q.val + e.val = _; omega
  rw [firstOf_at, even_at h0 h1 _ v i e (lane q) hc, odd_at h0 h1 _ v i _ (lane q) hc]
  unfold mixCol
  by_cases he : e.val < 64
  · rw [if_pos he]
    refine Finset.sum_congr rfl fun x _ => ?_
    rw [if_pos he, causal_at w (headOf (lane q e)) k0 (by show _ = (128 * q.val + e.val) / 64; omega)]
    congr 2
    exact congrArg (fun t => (ix2 t (lane q e) : S256x512.Idx)) (Fin.ext (Nat.zero_add x.val).symm)
  · rw [if_neg he]
    have e1 : (e.val + 128 - 64) % 128 = e.val - 64 := by omega
    refine Finset.sum_congr rfl fun x _ => ?_
    rw [if_pos (show (e.val + 128 - 64) % 128 < 64 by omega), causal_at w (headOf (lane q e)) k1 (by show _ = (128 * q.val + e.val) / 64; omega)]
    congr 2
    funext b
    match b with
    | ⟨0, _⟩ => exact Fin.ext (Nat.zero_add _).symm
    | ⟨1, _⟩ => exact Fin.ext (by show 128 * q.val + ((e.val + 128 - 64) % 128 + 128 - 64) % 128 = 128 * q.val + e.val; omega)

theorem second_at : secondOf (F := Ideal) (even h0 h1 (causal w k0 hw0) v) (odd h0 h1 (causal w k1 hw1) v) (ix2 i e) = mixCol w v 128 (by decide) i (lane q e) := by
  have hc : ∀ e : Fin 128, (lane q e).val = o + e.val := fun e => by show 128 * q.val + e.val = _; omega
  rw [secondOf_at, even_at h0 h1 _ v i _ (lane q) hc, odd_at h0 h1 _ v i e (lane q) hc]
  unfold mixCol
  by_cases he : e.val < 64
  · rw [if_pos he]
    refine Finset.sum_congr rfl fun x _ => ?_
    rw [if_neg (show ¬(e.val + 128 - 64) % 128 < 64 by omega), causal_at w (headOf (lane q e)) k0 (by show _ = (128 * q.val + e.val) / 64; omega)]
    congr 2
    funext b
    match b with
    | ⟨0, _⟩ => rfl
    | ⟨1, _⟩ => exact Fin.ext (by show 128 * q.val + ((e.val + 128 - 64) % 128 + 128 - 64) % 128 = 128 * q.val + e.val; omega)
  · rw [if_neg he]
    refine Finset.sum_congr rfl fun x _ => ?_
    rw [if_neg he, causal_at w (headOf (lane q e)) k1 (by show _ = (128 * q.val + e.val) / 64; omega)]

end Pair

theorem chunk_at (a b c d : FVec Ideal S128x128 .f32) (bias : Vec Ideal S128x512 .f32) (i : Fin 128) (q : Fin 4) (e : Fin 128) :
    chunk (F := Ideal) a b c d bias (ix2 i (lane q e)) = (![a, b, c, d] q : FVec Ideal S128x128 .f32) (ix2 i e) + bias (ix2 i (lane q e)) := by
  have hg : concatenate S128x512 1 [⟨S128x128, a⟩, ⟨S128x128, b⟩, ⟨S128x128, c⟩, ⟨S128x128, d⟩] concatenates_S128x128_S128x128_S128x128_S128x128_S128x512_d1 (ix2 i (lane q e))
      = (![a, b, c, d] q : FVec Ideal S128x128 .f32) (ix2 i e) := by
    match q with
    | ⟨0, h0⟩ =>
      exact concatenate_apply_piece (t := S128x512) 1 _ _ _ 0 (Nat.lt_of_sub_pos (by exact Nat.zero_lt_succ _)) S128x128 _ rfl rfl 0 rfl (ix2 i e)
        (fun b hb => match b with | ⟨0, _⟩ => rfl | ⟨1, _⟩ => absurd rfl hb) (by show 0 + e.val = 128 * 0 + e.val; omega)
    | ⟨1, h0⟩ =>
      exact concatenate_apply_piece (t := S128x512) 1 _ _ _ 1 (Nat.lt_of_sub_pos (by exact Nat.zero_lt_succ _)) S128x128 _ rfl rfl 128 rfl (ix2 i e)
        (fun b hb => match b with | ⟨0, _⟩ => rfl | ⟨1, _⟩ => absurd rfl hb) (by show 128 + e.val = 128 * 1 + e.val; omega)
    | ⟨2, h0⟩ =>
      exact concatenate_apply_piece (t := S128x512) 1 _ _ _ 2 (Nat.lt_of_sub_pos (by exact Nat.zero_lt_succ _)) S128x128 _ rfl rfl 256 rfl (ix2 i e)
        (fun b hb => match b with | ⟨0, _⟩ => rfl | ⟨1, _⟩ => absurd rfl hb) (by show 256 + e.val = 128 * 2 + e.val; omega)
    | ⟨3, h0⟩ =>
      exact concatenate_apply_piece (t := S128x512) 1 _ _ _ 3 (Nat.lt_of_sub_pos (by exact Nat.zero_lt_succ _)) S128x128 _ rfl rfl 384 rfl (ix2 i e)
        (fun b hb => match b with | ⟨0, _⟩ => rfl | ⟨1, _⟩ => absurd rfl hb) (by show 384 + e.val = 128 * 3 + e.val; omega)
  rw [← hg]
  unfold chunk
  generalize concatenate S128x512 1 [⟨S128x128, a⟩, ⟨S128x128, b⟩, ⟨S128x128, c⟩, ⟨S128x128, d⟩] _ = C
  pointwise

theorem mixed_at (v : FVec Ideal S256x512 .f32) (w : Vec Ideal S8x128x128 .f32) (bias : Vec Ideal S128x512 .f32) (s : Fin 2) (i : Fin 128) (n : Fin 512) :
    mixed (F := Ideal) v w bias (ix2 (⟨128 * s.val + i.val, by omega⟩ : Fin 256) n)
      = mixCol w v (128 * s.val) (by omega) i n + bias (ix2 i n) := by
  obtain ⟨q, e, rfl⟩ := lane_split n
  unfold mixed
  match s with
  | ⟨0, hs⟩ =>
    refine (concatenate_apply_piece (t := S256x512) 0 _ _ _ 0 (Nat.lt_of_sub_pos (by exact Nat.zero_lt_succ _)) S128x512 _ rfl rfl 0 rfl (ix2 i (lane q e))
      (fun b hb => match b with | ⟨0, _⟩ => absurd rfl hb | ⟨1, _⟩ => rfl) (by show 0 + i.val = 128 * 0 + i.val; omega)).trans ?_
    rw [chunk_at]
    refine congrArg (· + bias (ix2 i (lane q e))) ?_
    match q with
    | ⟨0, h0⟩ => exact first_at w v ⟨0, h0⟩ 0 0 1 rfl rfl rfl _ _ _ _ i e
    | ⟨1, h0⟩ => exact first_at w v ⟨1, h0⟩ 128 2 3 rfl rfl rfl _ _ _ _ i e
    | ⟨2, h0⟩ => exact first_at w v ⟨2, h0⟩ 256 4 5 rfl rfl rfl _ _ _ _ i e
    | ⟨3, h0⟩ => exact first_at w v ⟨3, h0⟩ 384 6 7 rfl rfl rfl _ _ _ _ i e
  | ⟨1, hs⟩ =>
    refine (concatenate_apply_piece (t := S256x512) 0 _ _ _ 1 (Nat.lt_of_sub_pos (by exact Nat.zero_lt_succ _)) S128x512 _ rfl rfl 128 rfl (ix2 i (lane q e))
      (fun b hb => match b with | ⟨0, _⟩ => absurd rfl hb | ⟨1, _⟩ => rfl) (by show 128 + i.val = 128 * 1 + i.val; omega)).trans ?_
    rw [chunk_at]
    refine congrArg (· + bias (ix2 i (lane q e))) ?_
    match q with
    | ⟨0, h0⟩ => exact second_at w v ⟨0, h0⟩ 0 0 1 rfl rfl rfl _ _ _ _ i e
    | ⟨1, h0⟩ => exact second_at w v ⟨1, h0⟩ 128 2 3 rfl rfl rfl _ _ _ _ i e
    | ⟨2, h0⟩ => exact second_at w v ⟨2, h0⟩ 256 4 5 rfl rfl rfl _ _ _ _ i e
    | ⟨3, h0⟩ => exact second_at w v ⟨3, h0⟩ 384 6 7 rfl rfl rfl _ _ _ _ i e

/-! ## The slab -/

theorem gate_at (v : FVec Ideal S256x512 .f32) (r : Fin 256) (n : Fin 512) : k0_pay35 (F := Ideal) v (ix2 r n) = gate (v (ix2 r n)) := by
  rw [← gate_late]
  pointwise [k0_pay35]
  rfl

/-- The two halves through the output weights, on top of the rows. -/
theorem join_at (x : FVec Ideal S256x1024 .f32) (a : FVec Ideal S256x512 .bf16) (u y : FVec Ideal S256x512 .f32) (gb : Vec Ideal S1x512 .f32)
    (w1 w2 : Vec Ideal S512x1024 .bf16) (z : Fin 1) (r : Fin 256) (n : Fin 1024) :
    k0_pay128 (F := Ideal) x a u y gb w1 w2 (ix3 z r n)
      = x (ix2 r n) + ∑ j, a (ix2 r j) * w1 (ix2 j n)
        + ∑ j, outNorm (fun n => u (ix2 r n) * y (ix2 r n)) (fun k => gb (ix2 0 k)) j * w2 (ix2 j n) := by
  pointwise [k0_pay128]
  rfl

/-- The filter, normed. -/
theorem filter_at (p zz : FVec Ideal S256x512 .f32) (c0 c1 c2 ga : Vec Ideal S1x512 .f32) (z2 z1 : FVec Ideal S256x512 .f32) (r : Fin 256) (n : Fin 512) :
    k0_pay34 (F := Ideal) p zz (k0_pay33 c0 z2 c1 z1) c2 ga (ix2 r n)
      = outNorm (fun n => p (ix2 r n) * (c0 (ix2 0 n) * z2 (ix2 r n) + c1 (ix2 0 n) * z1 (ix2 r n) + c2 (ix2 0 n) * zz (ix2 r n)))
          (fun k => ga (ix2 0 k)) n := by
  pointwise [k0_pay34, k0_pay33]
  rfl

end Cert.Proof.Mix
-- ==== Proof.MixBlock.lean ====
/-
  THE BLOCK READ AT AN INDEX, at the ideal floats: given where its rows sit in the batch, a block of 1024 rows holds the mixer's rows there.
-/
module

public import proofs.«01_k».proof.Proof.MixSlab

@[expose] public section

set_option maxRecDepth 16384

noncomputable section

open Idealize.ShloMosaic Idealize.ShloMosaic.TcCoe
open scoped BigOperators

namespace Cert.Proof.Mix

open Cert.Kernel3Ideal Cert.Kernel3Ideal.Gen

/-- Row `r` of the `s`-th block of a batch. -/
def rowOf (s : Fin 4) (r : Fin 1024) : Fin 4096 := ⟨1024 * s.val + r.val, by omega⟩

section Rows

variable (X : Fin 4096 → Fin 1024 → EReal) (G : Fin 1024 → EReal) (W : Fin 1024 → Fin 2560 → EReal) (CW : Fin 3 → Fin 512 → EReal)
  (GV : Fin 512 → EReal) (WS : Fin 8 → Fin 128 → Fin 128 → EReal) (BS : Fin 8 → Fin 128 → EReal) (GA GB : Fin 512 → EReal)
  (WO : Fin 1024 → Fin 1024 → EReal) (s : Fin 4)
  (p : Vec Ideal S8x512 .f32) (x : Vec Ideal S1x1024x1024 .f32) (g : Vec Ideal S1x1024 .f32) (w : Vec Ideal S1024x2560 .bf16) (cw : Vec Ideal S3x512 .f32)
  (gv : Vec Ideal S1x512 .f32) (ws : Vec Ideal S8x128x128 .f32) (bias : Vec Ideal S128x512 .f32) (ga gb : Vec Ideal S1x512 .f32) (wo : Vec Ideal S1024x1024 .bf16)
  (hx : ∀ r k, x (ix3 0 r k) = X (rowOf s r) k) (hg : ∀ k, g (ix2 0 k) = G k) (hw : ∀ k n, w (ix2 k n) = W k n)

section
include hx hg hw

/-- A projection of a slab's row. -/
theorem slab_lin (j : Nat) (hj : j < 4) (o : Fin 5) (q : Nat) (hq : q = 512 * o.val) (h : ∀ a, ![0, q] a + S1024x512.size a ≤ S1024x2560.size a)
    (r : Fin 256) (R : Fin 4096) (hR : R.val = 1024 * s.val + (256 * j + r.val)) (n : Fin 512) :
    proj (F := Ideal) (slab x j hj) g (wcols w q h) (ix2 r n) = lin (X R) G W o n := by
  have e1 : (fun k => slab x j hj (ix3 0 r k)) = X R := funext fun k =>
    (hx ⟨256 * j + r.val, by omega⟩ k).trans (congrArg (fun t => X t k) (Fin.ext hR.symm))
  rw [proj_at (slab x j hj) g w o q hq h r n, e1, funext hg, funext fun k => funext fun n => hw k n]

theorem slab_gated (j : Nat) (hj : j < 4) (r : Fin 256) (R : Fin 4096) (hR : R.val = 1024 * s.val + (256 * j + r.val)) (n : Fin 512) :
    gated (F := Ideal) (slab x j hj) g w (ix2 r n) = zin (X R) G W n := by
  have h1 := slab_lin X G W s x g w hx hg hw j hj 1 512 rfl inb_S1024x2560_S1024x512_0_512 r R hR n
  have h2 := slab_lin X G W s x g w hx hg hw j hj 2 1024 rfl inb_S1024x2560_S1024x512_0_1024 r R hR n
  unfold zin
  rw [← h1, ← h2]
  rfl

/-- The buffer's row `8 + r - k` is the filter's input `k` rows before row `r`. -/
theorem zbuf_at (hp : ∀ (k : ℕ) (hk0 : 0 < k) (hk : k ≤ 2) n, p (ix2 ⟨8 - k, by omega⟩ n) = back X G W k (rowOf s 0) n)
    (r : Fin 1024) (k : ℕ) (hk : k ≤ 2) (y : Fin 1032) (hy : y.val + k = 8 + r.val) (n : Fin 512) :
    zbuf (F := Ideal) p x g w (ix2 y n) = back X G W k (rowOf s r) n := by
  unfold zbuf
  by_cases h : y.val < 8
  · refine (dif_pos h).trans ?_
    have e : (⟨y.val, h⟩ : Fin 8) = ⟨8 - (k - r.val), by omega⟩ := Fin.ext (by show y.val = 8 - (k - r.val); omega)
    refine (congrArg (fun t => p (ix2 t n)) e).trans ((hp (k - r.val) (by omega) (by omega) n).trans ?_)
    unfold back
    have hr : (rowOf s r).val = 1024 * s.val + r.val := rfl
    have h0 : (rowOf s 0).val = 1024 * s.val + 0 := rfl
    by_cases hc : k ≤ (rowOf s r).val
    · rw [if_pos hc, if_pos (by omega)]
      exact congrArg (fun t => zin (X t) G W n) (Fin.ext (by show (rowOf s 0).val - (k - r.val) = (rowOf s r).val - k; omega))
    · rw [if_neg hc, if_neg (by omega)]
  · refine (dif_neg h).trans ?_
    have hr : (rowOf s r).val = 1024 * s.val + r.val := rfl
    unfold back
    rw [if_pos (by omega)]
    have hz : ∀ (a : Vec Ideal S1x256x1024 .f32), zed (F := Ideal) a g w = gated a g w := fun a => by
      unfold zed
      funext i
      generalize gated a g w = b
      exact congrFun (shapeCast_self b _) i
    rw [hz]
    exact slab_gated X G W s x g w hx hg hw _ _ _ _ (by
      show (rowOf s r).val - k = 1024 * s.val + (256 * ((y.val - 8) / 256) + (y.val - 8) % 256); omega) n

end

variable (hcw : ∀ k n, cw (ix2 k n) = CW k n) (hgv : ∀ n, gv (ix2 0 n) = GV n) (hws : ∀ h i j, ws (ix3 h i j) = WS h i j)
  (hbs : ∀ i n, bias (ix2 i n) = BS (headOf n) i) (hga : ∀ n, ga (ix2 0 n) = GA n) (hgb : ∀ n, gb (ix2 0 n) = GB n) (hwo : ∀ k n, wo (ix2 k n) = WO k n)

theorem tap_at (k : Fin 3) (q : Nat) (hq : q = k.val) (h : ∀ a, ![q, 0] a + S1x512.size a ≤ S3x512.size a) (n : Fin 512) :
    tap cw q h (ix2 0 n) = cw (ix2 k n) := by
  subst hq
  refine congrArg cw (funext fun b => Fin.ext ?_)
  match b with
  | ⟨0, _⟩ => show k.val + 1 * 0 = k.val; omega
  | ⟨1, _⟩ => show 0 + 1 * n.val = n.val; omega

section
include hx hg hw hcw hga

theorem branchA_at (hp : ∀ (k : ℕ) (hk0 : 0 < k) (hk : k ≤ 2) n, p (ix2 ⟨8 - k, by omega⟩ n) = back X G W k (rowOf s 0) n)
    (j : Nat) (hj : j < 4) (r : Fin 256) (n : Fin 512) :
    branchA (F := Ideal) (slab x j hj) g w cw ga (zrows p x g w (256 * j + 6) (by omega)) (zrows p x g w (256 * j + 7) (by omega)) (ix2 r n)
      = ya X G W CW GA (rowOf s ⟨256 * j + r.val, by omega⟩) n := by
  unfold branchA
  rw [filter_at]
  unfold ya filt
  refine congrFun (congrArg₂ outNorm (funext fun n => ?_) (funext hga)) n
  rw [slab_lin X G W s x g w hx hg hw j hj 0 0 rfl _ r (rowOf s ⟨256 * j + r.val, by omega⟩) rfl n,
    slab_gated X G W s x g w hx hg hw j hj r (rowOf s ⟨256 * j + r.val, by omega⟩) rfl n,
    tap_at cw 0 0 rfl, tap_at cw 1 1 rfl, tap_at cw 2 2 rfl, hcw, hcw, hcw,
    ← zbuf_at X G W s p x g w hx hg hw hp ⟨256 * j + r.val, by omega⟩ 2 le_rfl ⟨256 * j + 6 + r.val, by omega⟩ (by show 256 * j + 6 + r.val + 2 = 8 + (256 * j + r.val); omega),
    ← zbuf_at X G W s p x g w hx hg hw hp ⟨256 * j + r.val, by omega⟩ 1 (by decide) ⟨256 * j + 7 + r.val, by omega⟩ (by show 256 * j + 7 + r.val + 1 = 8 + (256 * j + r.val); omega)]
  rfl

end

section
include hx hg hw hgv hws hbs

theorem mixed_row (j : Nat) (hj : j < 4) (r : Fin 256) (n : Fin 512) :
    mixed (F := Ideal) (headNorm (k0_pay35 (proj (slab x j hj) g (wcols w 2048 inb_S1024x2560_S1024x512_0_2048))) gv) ws bias (ix2 r n)
      = mixRow X G W GV WS BS (rowOf s ⟨256 * j + r.val, by omega⟩) n := by
  have hr : r = (⟨128 * (⟨r.val / 128, by omega⟩ : Fin 2).val + (⟨r.val % 128, Nat.mod_lt _ (by decide)⟩ : Fin 128).val, by
      show 128 * (r.val / 128) + r.val % 128 < 256; omega⟩ : Fin 256) := Fin.ext (by show r.val = 128 * (r.val / 128) + r.val % 128; omega)
  refine (congrArg (fun t => mixed (F := Ideal) (headNorm (k0_pay35 (proj (slab x j hj) g (wcols w 2048 inb_S1024x2560_S1024x512_0_2048))) gv) ws bias (ix2 t n)) hr).trans ?_
  refine (mixed_at _ ws bias ⟨r.val / 128, by omega⟩ ⟨r.val % 128, Nat.mod_lt _ (by decide)⟩ n).trans ?_
  have hR : (rowOf s ⟨256 * j + r.val, by omega⟩).val = 1024 * s.val + (256 * j + r.val) := rfl
  have hm : (⟨(rowOf s ⟨256 * j + r.val, by omega⟩).val % 128, Nat.mod_lt _ (by decide)⟩ : Fin 128) = ⟨r.val % 128, Nat.mod_lt _ (by decide)⟩ :=
    Fin.ext (by show (rowOf s ⟨256 * j + r.val, by omega⟩).val % 128 = r.val % 128; omega)
  unfold mixRow mixCol
  rw [hm, hbs]
  refine congrArg (· + BS (headOf n) ⟨r.val % 128, Nat.mod_lt _ (by decide)⟩) (Finset.sum_congr rfl fun y _ => ?_)
  rw [headNorm_at, hws]
  refine congrArg₂ (· * ·) ?_ ?_
  · have : (rowOf s ⟨256 * j + r.val, by omega⟩).val % 128 = r.val % 128 := congrArg Fin.val hm
    exact if_congr (by rw [this]) rfl rfl
  · refine congrFun (congrArg₂ vnorm (funext fun n => ?_) (funext hgv)) n
    rw [gate_at, slab_lin X G W s x g w hx hg hw j hj 4 2048 rfl _ _ ⟨128 * ((rowOf s ⟨256 * j + r.val, by omega⟩).val / 128) + y.val, by omega⟩ (by
      show 128 * ((rowOf s ⟨256 * j + r.val, by omega⟩).val / 128) + y.val = 1024 * s.val + (256 * j + (128 * (r.val / 128) + y.val)); omega)]

end

section
include hx hg hw hcw hgv hws hbs hga hgb hwo

/-- **The block's rows.** -/
theorem block_at (hp : ∀ (k : ℕ) (hk0 : 0 < k) (hk : k ≤ 2) n, p (ix2 ⟨8 - k, by omega⟩ n) = back X G W k (rowOf s 0) n)
    (r n : Fin 1024) :
    blockOut (F := Ideal) p x g w cw gv ws bias ga gb wo (ix3 0 r n) = outRow X G W CW GV WS BS GA GB WO (rowOf s r) n := by
  have hj : r.val / 256 < 4 := by omega
  have hr : (⟨256 * (r.val / 256) + r.val % 256, by omega⟩ : Fin 1024) = r := Fin.ext (by show 256 * (r.val / 256) + r.val % 256 = r.val; omega)
  show slabAt p x g w cw gv ws bias ga gb wo (r.val / 256) hj (ix3 0 ⟨r.val % 256, Nat.mod_lt _ (by decide)⟩ n) = _
  unfold slabAt slabOut
  rw [join_at]
  unfold outRow
  rw [← add_assoc]
  have hA := fun n => branchA_at X G W CW GA s p x g w cw ga hx hg hw hcw hga hp (r.val / 256) hj ⟨r.val % 256, Nat.mod_lt _ (by decide)⟩ n
  have hM := fun n => mixed_row X G W GV WS BS s x g w gv ws bias hx hg hw hgv hws hbs (r.val / 256) hj ⟨r.val % 256, Nat.mod_lt _ (by decide)⟩ n
  have hL := fun n => slab_lin X G W s x g w hx hg hw (r.val / 256) hj 3 1536 rfl inb_S1024x2560_S1024x512_0_1536 ⟨r.val % 256, Nat.mod_lt _ (by decide)⟩ (rowOf s r) (by
    show 1024 * s.val + r.val = 1024 * s.val + (256 * (r.val / 256) + r.val % 256); omega) n
  have hX : k0_pay15 (slab x (r.val / 256) hj) (ix2 (⟨r.val % 256, Nat.mod_lt _ (by decide)⟩ : Fin 256) n) = X (rowOf s r) n := by
    rw [← hx]
    refine Eq.trans ?_ (congrArg (fun t => x (ix3 0 t n)) hr)
    pointwise [k0_pay15]
    rfl
  simp only [show ∀ n, _ = _ from hA, show ∀ n, _ = _ from hM, gate_at, hL, hr, hX, hgb]
  refine congrArg₂ (· + ·) (congrArg (X (rowOf s r) n + ·) ?_) ?_
  · refine Finset.sum_congr rfl fun j _ => congrArg (ya X G W CW GA (rowOf s r) j * ·) ?_
    rw [← hwo]
    refine congrArg wo (funext fun b => Fin.ext ?_)
    match b with
    | ⟨0, _⟩ => show 0 + 1 * j.val = j.val; omega
    | ⟨1, _⟩ => show 0 + 1 * n.val = n.val; omega
  · refine Finset.sum_congr rfl fun j _ => congrArg₂ (· * ·) rfl ?_
    rw [← hwo]
    refine congrArg wo (funext fun b => Fin.ext ?_)
    match b with
    | ⟨0, _⟩ => show 512 + 1 * j.val = 512 + j.val; omega
    | ⟨1, _⟩ => show 0 + 1 * n.val = n.val; omega

end

end Rows

end Cert.Proof.Mix
-- ==== Proof.MixRef.lean ====
/-
  THE REFERENCE'S MIXER READ AT AN INDEX: batch `b`, row `R`, column `n` of its result is the mixer's row.
-/
module

public import proofs.«01_k».proof.Proof.MixSlab
public import proofs.«01_k».proof.Proof.Gen.Reference3Ideal.Read
public import Idealize.ShloMosaic.Lib.Pointwise
public import Idealize.ShloMosaic.Lib.KernelVsHost

@[expose] public section

set_option maxRecDepth 16384

noncomputable section

open Idealize.ShloMosaic Idealize.ShloMosaic.TcCoe
open scoped BigOperators

namespace Cert.Proof.Mix

open Cert.Reference3Ideal Cert.Reference3Ideal.Read
open Cert.Proof.Attn (c1024 cEps normed)

variable (x0 : Vec Ideal S8x4096x1024 .f32) (x1 : Vec Ideal S1024 .f32) (x2 : Vec Ideal S1024x2560 .f32) (x3 : Vec Ideal S3x512 .f32)
  (x4 : Vec Ideal S512 .f32) (x5 : Vec Ideal S8x128x128 .f32) (x6 : Vec Ideal S8x128 .f32) (x7 x8 : Vec Ideal S512 .f32) (x9 : Vec Ideal S1024x1024 .f32)

/-- The launch's arrays as functions of plain indices. -/
abbrev rX (b : Fin 8) : Fin 4096 → Fin 1024 → EReal := fun R k => x0 (ix3 b R k)
abbrev rG : Fin 1024 → EReal := fun k => x1 (ix1 k)
abbrev rW : Fin 1024 → Fin 2560 → EReal := fun k n => x2 (ix2 k n)
abbrev rC : Fin 3 → Fin 512 → EReal := fun k n => x3 (ix2 k n)
abbrev rN : Fin 512 → EReal := fun n => x4 (ix1 n)
abbrev rM : Fin 8 → Fin 128 → Fin 128 → EReal := fun h i j => x5 (ix3 h i j)
abbrev rB : Fin 8 → Fin 128 → EReal := fun h i => x6 (ix2 h i)
abbrev rO : Fin 1024 → Fin 1024 → EReal := fun k n => x9 (ix2 k n)

theorem ref_proj (b : Fin 8) (R : Fin 4096) (j : Fin 2560) :
    val_main_v13 (F := Ideal) x0 x1 x2 (ix3 b R j) = ∑ k, normed (rX x0 b R) (rG x1) k * rW x2 k j := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem ref_lin0 (b : Fin 8) (R : Fin 4096) (n : Fin 512) :
    val_main_v14 (F := Ideal) x0 x1 x2 (ix3 b R n) = lin (rX x0 b R) (rG x1) (rW x2) 0 n := by
  pointwise [val_main_v14]
  rw [ref_proj]
  exact Finset.sum_congr rfl fun k _ => congrArg (fun t => _ * rW x2 k t) (Fin.ext (by show n.val = 512 * 0 + n.val; omega))

theorem ref_lin1 (b : Fin 8) (R : Fin 4096) (n : Fin 512) :
    val_main_v15 (F := Ideal) x0 x1 x2 (ix3 b R n) = lin (rX x0 b R) (rG x1) (rW x2) 1 n := by
  pointwise [val_main_v15]
  rw [ref_proj]
  exact Finset.sum_congr rfl fun k _ => congrArg (fun t => _ * rW x2 k t) (Fin.ext (by show 512 + n.val = 512 * 1 + n.val; omega))

theorem ref_lin2 (b : Fin 8) (R : Fin 4096) (n : Fin 512) :
    val_main_v16 (F := Ideal) x0 x1 x2 (ix3 b R n) = lin (rX x0 b R) (rG x1) (rW x2) 2 n := by
  pointwise [val_main_v16]
  rw [ref_proj]
  exact Finset.sum_congr rfl fun k _ => congrArg (fun t => _ * rW x2 k t) (Fin.ext (by show 1024 + n.val = 512 * 2 + n.val; omega))

theorem ref_lin3 (b : Fin 8) (R : Fin 4096) (n : Fin 512) :
    val_main_v17 (F := Ideal) x0 x1 x2 (ix3 b R n) = lin (rX x0 b R) (rG x1) (rW x2) 3 n := by
  pointwise [val_main_v17]
  rw [ref_proj]
  exact Finset.sum_congr rfl fun k _ => congrArg (fun t => _ * rW x2 k t) (Fin.ext (by show 1536 + n.val = 512 * 3 + n.val; omega))

theorem ref_lin4 (b : Fin 8) (R : Fin 4096) (n : Fin 512) :
    val_main_v18 (F := Ideal) x0 x1 x2 (ix3 b R n) = lin (rX x0 b R) (rG x1) (rW x2) 4 n := by
  pointwise [val_main_v18]
  rw [ref_proj]
  exact Finset.sum_congr rfl fun k _ => congrArg (fun t => _ * rW x2 k t) (Fin.ext (by show 2048 + n.val = 512 * 4 + n.val; omega))

/-- The filter's input behind two rows of zeros. -/
theorem ref_pad (b : Fin 8) (R : Fin 4096) (k : ℕ) (hk : k ≤ 2) (y : Fin 4098) (hy : y.val + k = R.val + 2) (n : Fin 512) :
    val_main_v20 (F := Ideal) x0 x1 x2 (ix3 b y n) = back (rX x0 b) (rG x1) (rW x2) k R n := by
  have h0 : FloatOps.sitofp (F := Ideal) FTy.f32 (0#32 : BitVec 32) = (0 : EReal) := by
    show (((0#32 : BitVec 32).toInt : ℝ) : EReal) = 0
    simp
  pointwise [val_main_v20, val_main_call0_v0, val_main_c]
  rw [h0]
  unfold back
  by_cases h : k ≤ R.val
  · rw [if_pos h, dif_pos (by omega)]
    pointwise [val_main_v19]
    rw [ref_lin1, ref_lin2]
    have e : (⟨y.val - 2, by omega⟩ : Fin 4096) = ⟨R.val - k, by omega⟩ := Fin.ext (by show y.val - 2 = R.val - k; omega)
    rw [e]
    rfl
  · rw [if_neg h, dif_neg (by omega)]

theorem ref_filt (b : Fin 8) (R : Fin 4096) (n : Fin 512) :
    val_main_v40 (F := Ideal) x0 x1 x2 x3 (ix3 b R n) = filt (rX x0 b) (rG x1) (rW x2) (rC x3) R n := by
  pointwise [val_main_v40, val_main_v39, val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21]
  rw [ref_pad x0 x1 x2 b R 2 le_rfl _ rfl, ref_pad x0 x1 x2 b R 1 (by decide) _ (by show 1 + R.val + 1 = R.val + 2; omega),
    ref_pad x0 x1 x2 b R 0 (by decide) _ (by show 2 + R.val + 0 = R.val + 2; omega)]
  unfold filt
  rw [show back (rX x0 b) (rG x1) (rW x2) 0 R n = zin (rX x0 b R) (rG x1) (rW x2) n from if_pos (Nat.zero_le _)]

theorem ref_gelu (b : Fin 8) (R : Fin 4096) (n : Fin 512) : val_main_v54 (F := Ideal) x0 x1 x2 (ix3 b R n) = gate (val_main_v17 (F := Ideal) x0 x1 x2 (ix3 b R n)) := by
  pointwise [val_main_v54, val_main_v53, val_main_v52, val_main_cst_5, val_main_v51, val_main_v50, val_main_cst_4, val_main_v49, val_main_v48, val_main_v47, val_main_cst_3, val_main_v46,
    val_main_v45, val_main_v44, val_main_cst_2, val_main_v43, val_main_v42]
  rfl

theorem ref_gelu' (b : Fin 8) (R : Fin 4096) (n : Fin 512) : val_main_v67 (F := Ideal) x0 x1 x2 (ix3 b R n) = gate (val_main_v18 (F := Ideal) x0 x1 x2 (ix3 b R n)) := by
  pointwise [val_main_v67, val_main_v66, val_main_v65, val_main_cst_9, val_main_v64, val_main_v63, val_main_cst_8, val_main_v62, val_main_v61, val_main_v60, val_main_cst_7, val_main_v59,
    val_main_v58, val_main_v57, val_main_cst_6, val_main_v56, val_main_v55]
  rfl

theorem ref_mask (i j : Fin 128) (h : Fin 8) : val_main_v87 (F := Ideal) x5 (ix3 h i j) = if j.val ≤ i.val then rM x5 h i j else 0 := by
  have h0 : (id (constant S_ .f32 0x00000000#32) : FVec Ideal S_ .f32) ix0 = (0 : EReal) := by
    show Ideal.ofBits .f32 0x00000000#32 = 0
    simp [Ideal.ofBits, Ideal.ieee]
  pointwise [val_main_v87, val_main_call2_v2, val_main_call2_v1, val_main_call2_v0, val_main_cst_14, val_main_v86, val_main_v85, val_main_call1_v5, val_main_call1_c_0, val_main_call1_v4,
    val_main_call1_v3, val_main_call1_v2, val_main_call1_v1, val_main_call1_c, val_main_call1_v0, val_main_v84, val_main_c_13]
  rw [show IntOp.addi (BitVec.ofNat 32 i.val) 0#32 = BitVec.ofNat 32 i.val from BitVec.add_zero _, sel_tri]
  split
  · rfl
  · exact h0

/-- A head's column of the reshape. -/
theorem hcol_eq (h : Fin 8) (e : Fin 64) (hb : h.val * 64 + e.val < 512) : (⟨h.val * 64 + e.val, hb⟩ : Fin 512) = hcol h e :=
  Fin.ext (by show h.val * 64 + e.val = 64 * h.val + e.val; omega)

theorem ref_head (b : Fin 8) (R : Fin 4096) (n : Fin 512) (h : Fin 8) (e : Fin 64) (hn : hcol h e = n) :
    val_main_v82 (F := Ideal) x0 x1 x2 x4 (ix4 b R h e) = vnorm (fun n => gate (lin (rX x0 b R) (rG x1) (rW x2) 4 n)) (rN x4) n := by
  subst hn
  have hh : headOf (hcol h e) = h := Fin.ext (by show (64 * h.val + e.val) / 64 = h.val; omega)
  pointwise [val_main_v82, val_main_v81, val_main_v80, val_main_v79, val_main_v78, val_main_v77, val_main_v76, val_main_v75, val_main_cst_12, val_main_v74, val_main_v73, val_main_cst_11,
    val_main_v72, val_main_v71, val_main_cst_10, val_main_v70, val_main_v69, val_main_v68]
  simp only [hcol_eq, ref_gelu', ref_lin4]
  unfold vnorm
  rw [hh]
  rfl

theorem ref_mixed (b : Fin 8) (R : Fin 4096) (n : Fin 512) :
    val_main_v95 (F := Ideal) x0 x1 x2 x4 x5 x6 (ix3 b R n) = mixRow (rX x0 b) (rG x1) (rW x2) (rN x4) (rM x5) (rB x6) R n := by
  pointwise [val_main_v95, val_main_v94, val_main_v93, val_main_v92, val_main_v91, val_main_v90, val_main_v89, val_main_v88, val_main_v83]
  unfold mixRow
  refine congrArg₂ (· + ·) (Finset.sum_congr rfl fun j _ => ?_) rfl
  rw [ref_mask, ref_head x0 x1 x2 x4 b _ n _ _ (Fin.ext (by show 64 * (n.val / 64) + n.val % 64 = n.val; omega)), mul_comm]
  have e : (⟨R.val / 128 * 128 + j.val, by omega⟩ : Fin 4096) = ⟨128 * (R.val / 128) + j.val, by omega⟩ :=
    Fin.ext (by show R.val / 128 * 128 + j.val = 128 * (R.val / 128) + j.val; omega)
  rw [e]
  rfl

theorem ref_ya (b : Fin 8) (R : Fin 4096) (n : Fin 512) : val_main_v109 (F := Ideal) x0 x1 x2 x3 x7 (ix3 b R n)
    = outNorm (fun n => val_main_v41 (F := Ideal) x0 x1 x2 x3 (ix3 b R n)) (rN x7) n := by
  pointwise [val_main_v109, val_main_v108, val_main_v107, val_main_v106, val_main_v105, val_main_v104, val_main_v103, val_main_v102, val_main_cst_17, val_main_v101, val_main_v100, val_main_cst_16,
    val_main_v99, val_main_v98, val_main_cst_15, val_main_v97]
  rfl

theorem ref_yb (b : Fin 8) (R : Fin 4096) (n : Fin 512) : val_main_v122 (F := Ideal) x0 x1 x2 x4 x5 x6 x8 (ix3 b R n)
    = outNorm (fun n => val_main_v96 (F := Ideal) x0 x1 x2 x4 x5 x6 (ix3 b R n)) (rN x8) n := by
  pointwise [val_main_v122, val_main_v121, val_main_v120, val_main_v119, val_main_v118, val_main_v117, val_main_v116, val_main_v115, val_main_cst_20, val_main_v114, val_main_v113, val_main_cst_19,
    val_main_v112, val_main_v111, val_main_cst_18, val_main_v110]
  rfl

/-- The halves side by side. -/
theorem ref_cat (b : Fin 8) (R : Fin 4096) (n : Fin 1024) : val_main_v123 (F := Ideal) x0 x1 x2 x3 x4 x5 x6 x7 x8 (ix3 b R n)
    = if h : n.val < 512 then val_main_v109 (F := Ideal) x0 x1 x2 x3 x7 (ix3 b R ⟨n.val, h⟩)
      else val_main_v122 (F := Ideal) x0 x1 x2 x4 x5 x6 x8 (ix3 b R ⟨n.val - 512, by omega⟩) := by
  pointwise [val_main_v123]

theorem ref_first (b : Fin 8) (R : Fin 4096) (n : Fin 512) :
    val_main_v109 (F := Ideal) x0 x1 x2 x3 x7 (ix3 b R n) = ya (rX x0 b) (rG x1) (rW x2) (rC x3) (rN x7) R n := by
  rw [ref_ya]
  unfold ya
  refine congrArg (fun f => outNorm f (rN x7) n) (funext fun n => ?_)
  pointwise [val_main_v41]
  rw [ref_lin0, ref_filt]

theorem ref_second (b : Fin 8) (R : Fin 4096) (n : Fin 512) :
    val_main_v122 (F := Ideal) x0 x1 x2 x4 x5 x6 x8 (ix3 b R n) = yb (rX x0 b) (rG x1) (rW x2) (rN x4) (rM x5) (rB x6) (rN x8) R n := by
  rw [ref_yb]
  unfold yb
  refine congrArg (fun f => outNorm f (rN x8) n) (funext fun n => ?_)
  pointwise [val_main_v96]
  rw [ref_gelu, ref_lin3, ref_mixed]

theorem ref_at (b : Fin 8) (R : Fin 4096) (n : Fin 1024) : val_main_v125 (F := Ideal) x0 x1 x2 x3 x4 x5 x6 x7 x8 x9 (ix3 b R n)
    = outRow (rX x0 b) (rG x1) (rW x2) (rC x3) (rN x4) (rM x5) (rB x6) (rN x7) (rN x8) (rO x9) R n := by
  pointwise [val_main_v125, val_main_v124]
  unfold outRow
  refine congrArg (x0 (ix3 b R n) + ·) ((Fin.sum_univ_add (a := 512) (b := 512) _).trans (congrArg₂ (· + ·) ?_ ?_))
  · refine Finset.sum_congr rfl fun j _ => ?_
    rw [ref_cat, dif_pos (show (Fin.castAdd 512 j).val < 512 from j.isLt)]
    exact congrArg (· * _) (ref_first x0 x1 x2 x3 x7 b R j)
  · refine Finset.sum_congr rfl fun j _ => ?_
    rw [ref_cat, dif_neg (show ¬(Fin.natAdd 512 j).val < 512 by show ¬512 + j.val < 512; omega)]
    have e : (⟨(Fin.natAdd 512 j).val - 512, by show 512 + j.val - 512 < 512; omega⟩ : Fin 512) = j := Fin.ext (by show 512 + j.val - 512 = j.val; omega)
    rw [e, ref_second]
    rfl

end Cert.Proof.Mix
-- ==== Proof.MixMain.lean ====
/-
  WHAT THE MIXER CALL'S RESULT ARRAY ENDS HOLDING. Grid point `t` of the thirty-two takes batch `t / 4`, rows `1024 (t % 4) …`; the buffer it
  keeps hands the filter's last inputs on to the next point, so every point's block holds the mixer's rows.
-/
module

public import proofs.«01_k».proof.Proof.MixBlock
public import proofs.«01_k».proof.Proof.MixRef
public import proofs.«01_k».proof.Proof.Gen.Kernel3Ideal.Value
public import Idealize.ShloMosaic.PureOps.Ideal.Laws
public import Idealize.ShloMosaic.Lib.StableHlo.RunRead
public import Idealize.ShloMosaic.Lib.Tactic
public import Idealize.ShloMosaic.Lib.Claim

@[expose] public section

set_option maxRecDepth 16384

noncomputable section

open Idealize.ShloMosaic Idealize.ShloMosaic.TcCoe Idealize.SL.Sem
open scoped BigOperators

namespace Cert.Proof.Mix

open Cert.Kernel3Ideal Cert.Kernel3Ideal.Gen Cert.Kernel3Ideal.Value

variable (m : (ℓ : Loc nD τ sig) → Buf (Elt Ideal) ℓ) (c : Dev nD)

/-- The launch's arrays. -/
abbrev a0 : Vec Ideal S8x4096x1024 .f32 := m ((c : Thread nD τ).loc main_arg0)
abbrev a1 : Vec Ideal S1024 .f32 := m ((c : Thread nD τ).loc main_arg1)
abbrev a2 : Vec Ideal S1024x2560 .f32 := m ((c : Thread nD τ).loc main_arg2)
abbrev a3 : Vec Ideal S3x512 .f32 := m ((c : Thread nD τ).loc main_arg3)
abbrev a4 : Vec Ideal S512 .f32 := m ((c : Thread nD τ).loc main_arg4)
abbrev a5 : Vec Ideal S8x128x128 .f32 := m ((c : Thread nD τ).loc main_arg5)
abbrev a6 : Vec Ideal S8x128 .f32 := m ((c : Thread nD τ).loc main_arg6)
abbrev a7 : Vec Ideal S512 .f32 := m ((c : Thread nD τ).loc main_arg7)
abbrev a8 : Vec Ideal S512 .f32 := m ((c : Thread nD τ).loc main_arg8)
abbrev a9 : Vec Ideal S1024x1024 .f32 := m ((c : Thread nD τ).loc main_arg9)

/-! ## The staged blocks, read off the launch's arrays -/

theorem lt32 (t : Fin cfg0.N) : t.val < 32 := lt_of_lt_of_eq t.isLt N_0

theorem at0 : ∀ t : Fin cfg0.N, win0_0.index t (0 : Fin 3) = t.val / 4 ∧ win0_0.index t (1 : Fin 3) = t.val % 4
    ∧ win0_0.index t (2 : Fin 3) = 0 := (by decide +kernel : ∀ t : Fin grid0.N, _)
theorem at5 : ∀ t : Fin cfg0.N, win0_5.index t (0 : Fin 3) = 0 ∧ win0_5.index t (1 : Fin 3) = 0 ∧ win0_5.index t (2 : Fin 3) = 0 :=
  (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at6 : ∀ t : Fin cfg0.N, win0_6.index t (0 : Fin 2) = 0 ∧ win0_6.index t (1 : Fin 2) = 0 := (by decide +kernel : ∀ t : Fin grid0.N, _)
theorem at7 : ∀ t : Fin cfg0.N, win0_7.index t (0 : Fin 2) = 0 ∧ win0_7.index t (1 : Fin 2) = 0 := (by decide +kernel : ∀ t : Fin grid0.N, _)
theorem at8 : ∀ t : Fin cfg0.N, win0_8.index t (0 : Fin 2) = 0 ∧ win0_8.index t (1 : Fin 2) = 0 := (by decide +kernel : ∀ t : Fin grid0.N, _)
theorem at9 : ∀ t : Fin cfg0.N, win0_9.index t (0 : Fin 2) = 0 ∧ win0_9.index t (1 : Fin 2) = 0 := (by decide +kernel : ∀ t : Fin grid0.N, _)

/-- The rows staged at point `t`. -/
theorem rows_at (t : Fin cfg0.N) (b : Fin 8) (s : Fin 4) (ht : t.val = 4 * b.val + s.val) (r k : Fin 1024) :
    (iblk m c 0 t : Vec Ideal S1x1024x1024 .f32) (ix3 0 r k) = rX (a0 m c) b (rowOf s r) k := by
  obtain ⟨e0, e1, e2⟩ := at0 t
  show V m c main_arg0 (((cfg0.win 0).blk t).view.emb (ix3 0 r k)) = _
  rw [V_main_arg0]
  refine congrArg (a0 m c) (funext fun a => Fin.ext ?_)
  match a with
  | ⟨0, _⟩ => show win0_0.index t (0 : Fin 3) * 1 + 1 * 0 = b.val; omega
  | ⟨1, _⟩ => show win0_0.index t (1 : Fin 3) * 1024 + 1 * r.val = 1024 * s.val + r.val; omega
  | ⟨2, _⟩ => show win0_0.index t (2 : Fin 3) * 1024 + 1 * k.val = k.val; omega

/-- The mixing matrices. -/
theorem mats_at (t : Fin cfg0.N) (h : Fin 8) (i j : Fin 128) :
    (iblk m c 5 t : Vec Ideal S8x128x128 .f32) (ix3 h i j) = rM (a5 m c) h i j := by
  obtain ⟨e0, e1, e2⟩ := at5 t
  show V m c main_arg5 (((cfg0.win 5).blk t).view.emb (ix3 h i j)) = _
  rw [V_main_arg5]
  refine congrArg (a5 m c) (funext fun a => Fin.ext ?_)
  match a with
  | ⟨0, _⟩ => show win0_5.index t (0 : Fin 3) * 8 + 1 * h.val = h.val; omega
  | ⟨1, _⟩ => show win0_5.index t (1 : Fin 3) * 128 + 1 * i.val = i.val; omega
  | ⟨2, _⟩ => show win0_5.index t (2 : Fin 3) * 128 + 1 * j.val = j.val; omega

/-- The taps. -/
theorem taps_at (t : Fin cfg0.N) (k : Fin 3) (n : Fin 512) : (iblk m c 3 t : Vec Ideal S3x512 .f32) (ix2 k n) = rC (a3 m c) k n := by
  obtain ⟨e0, e1⟩ := at3 t
  show V m c main_arg3 (((cfg0.win 3).blk t).view.emb (ix2 k n)) = _
  rw [V_main_arg3]
  refine congrArg (a3 m c) (funext fun a => Fin.ext ?_)
  match a with
  | ⟨0, _⟩ => show win0_3.index t (0 : Fin 2) * 3 + 1 * k.val = k.val; omega
  | ⟨1, _⟩ => show win0_3.index t (1 : Fin 2) * 512 + 1 * n.val = n.val; omega

/-- The input gain. -/
theorem gain_at (t : Fin cfg0.N) (n : Fin 1024) : (iblk m c 1 t : Vec Ideal S1x1024 .f32) (ix2 0 n) = rG (a1 m c) n := by
  obtain ⟨e0, e1⟩ := at1 t
  have e : ((cfg0.win 1).blk t).view.emb (ix2 0 n) = (ix2 0 n : S1x1024.Idx) := by
    funext a; apply Fin.ext
    match a with
    | ⟨0, _⟩ => show win0_1.index t (0 : Fin 2) * 1 + 1 * 0 = 0; omega
    | ⟨1, _⟩ => show win0_1.index t (1 : Fin 2) * 1024 + 1 * n.val = n.val; omega
  show V m c main_v3 (((cfg0.win 1).blk t).view.emb (ix2 0 n)) = _
  rw [e]
  unfold_abbrev_sides
  after_reads_simp
  pointwise

/-- The input weights. -/
theorem win_at (t : Fin cfg0.N) (k : Fin 1024) (n : Fin 2560) : (iblk m c 2 t : Vec Ideal S1024x2560 .bf16) (ix2 k n) = rW (a2 m c) k n := by
  obtain ⟨e0, e1⟩ := at2 t
  have e : ((cfg0.win 2).blk t).view.emb (ix2 k n) = (ix2 k n : S1024x2560.Idx) := by
    funext a; apply Fin.ext
    match a with
    | ⟨0, _⟩ => show win0_2.index t (0 : Fin 2) * 1024 + 1 * k.val = k.val; omega
    | ⟨1, _⟩ => show win0_2.index t (1 : Fin 2) * 2560 + 1 * n.val = n.val; omega
  show V m c main_v4 (((cfg0.win 2).blk t).view.emb (ix2 k n)) = _
  rw [e]
  unfold_abbrev_sides
  after_reads_simp
  rfl

/-- The heads' gain. -/
theorem gv_at (t : Fin cfg0.N) (n : Fin 512) : (iblk m c 4 t : Vec Ideal S1x512 .f32) (ix2 0 n) = rN (a4 m c) n := by
  obtain ⟨e0, e1⟩ := at4 t
  have e : ((cfg0.win 4).blk t).view.emb (ix2 0 n) = (ix2 0 n : S1x512.Idx) := by
    funext a; apply Fin.ext
    match a with
    | ⟨0, _⟩ => show win0_4.index t (0 : Fin 2) * 1 + 1 * 0 = 0; omega
    | ⟨1, _⟩ => show win0_4.index t (1 : Fin 2) * 512 + 1 * n.val = n.val; omega
  show V m c main_v5 (((cfg0.win 4).blk t).view.emb (ix2 0 n)) = _
  rw [e]
  unfold_abbrev_sides
  after_reads_simp
  pointwise

/-- The bias, spread over each head's columns. -/
theorem bias_at (t : Fin cfg0.N) (k : Fin 128) (n : Fin 512) : (iblk m c 6 t : Vec Ideal S128x512 .f32) (ix2 k n) = rB (a6 m c) (headOf n) k := by
  obtain ⟨e0, e1⟩ := at6 t
  have e : ((cfg0.win 6).blk t).view.emb (ix2 k n) = (ix2 k n : S128x512.Idx) := by
    funext a; apply Fin.ext
    match a with
    | ⟨0, _⟩ => show win0_6.index t (0 : Fin 2) * 128 + 1 * k.val = k.val; omega
    | ⟨1, _⟩ => show win0_6.index t (1 : Fin 2) * 512 + 1 * n.val = n.val; omega
  show V m c main_v2 (((cfg0.win 6).blk t).view.emb (ix2 k n)) = _
  rw [e]
  unfold_abbrev_sides
  after_reads_simp
  pointwise
  rfl

/-- The two output gains. -/
theorem ga_at (t : Fin cfg0.N) (n : Fin 512) : (iblk m c 7 t : Vec Ideal S1x512 .f32) (ix2 0 n) = rN (a7 m c) n := by
  obtain ⟨e0, e1⟩ := at7 t
  have e : ((cfg0.win 7).blk t).view.emb (ix2 0 n) = (ix2 0 n : S1x512.Idx) := by
    funext a; apply Fin.ext
    match a with
    | ⟨0, _⟩ => show win0_7.index t (0 : Fin 2) * 1 + 1 * 0 = 0; omega
    | ⟨1, _⟩ => show win0_7.index t (1 : Fin 2) * 512 + 1 * n.val = n.val; omega
  show V m c main_v6 (((cfg0.win 7).blk t).view.emb (ix2 0 n)) = _
  rw [e]
  unfold_abbrev_sides
  after_reads_simp
  pointwise

/-- The second output gain. -/
theorem gb_at (t : Fin cfg0.N) (n : Fin 512) : (iblk m c 8 t : Vec Ideal S1x512 .f32) (ix2 0 n) = rN (a8 m c) n := by
  obtain ⟨e0, e1⟩ := at8 t
  have e : ((cfg0.win 8).blk t).view.emb (ix2 0 n) = (ix2 0 n : S1x512.Idx) := by
    funext a; apply Fin.ext
    match a with
    | ⟨0, _⟩ => show win0_8.index t (0 : Fin 2) * 1 + 1 * 0 = 0; omega
    | ⟨1, _⟩ => show win0_8.index t (1 : Fin 2) * 512 + 1 * n.val = n.val; omega
  show V m c main_v7 (((cfg0.win 8).blk t).view.emb (ix2 0 n)) = _
  rw [e]
  unfold_abbrev_sides
  after_reads_simp
  pointwise

/-- The output weights. -/
theorem wout_at (t : Fin cfg0.N) (k : Fin 1024) (n : Fin 1024) : (iblk m c 9 t : Vec Ideal S1024x1024 .bf16) (ix2 k n) = rO (a9 m c) k n := by
  obtain ⟨e0, e1⟩ := at9 t
  have e : ((cfg0.win 9).blk t).view.emb (ix2 k n) = (ix2 k n : S1024x1024.Idx) := by
    funext a; apply Fin.ext
    match a with
    | ⟨0, _⟩ => show win0_9.index t (0 : Fin 2) * 1024 + 1 * k.val = k.val; omega
    | ⟨1, _⟩ => show win0_9.index t (1 : Fin 2) * 1024 + 1 * n.val = n.val; omega
  show V m c main_v8 (((cfg0.win 9).blk t).view.emb (ix2 k n)) = _
  rw [e]
  unfold_abbrev_sides
  after_reads_simp
  rfl

/-! ## The points -/

/-- The first point of a batch starts from zeros … -/
theorem step_first (t : Fin cfg0.N) (acc) (h0 : t.val % 4 = 0) :
    stAt0 m c t.val t.isLt acc
      = (blockOut k0_pay2 (iblk m c 0 t) (iblk m c 1 t) (iblk m c 2 t) (iblk m c 3 t) (iblk m c 4 t) (iblk m c 5 t) (iblk m c 6 t) (iblk m c 7 t)
          (iblk m c 8 t) (iblk m c 9 t), zbuf k0_pay2 (iblk m c 0 t) (iblk m c 1 t) (iblk m c 2 t)) := by
  rw [stAt0_A m c t acc h0 (by omega), out_A, kept_A]

/-- … and every other from the rows kept. -/
theorem step_next (t : Fin cfg0.N) (acc) (h0 : ¬t.val % 4 = 0) :
    stAt0 m c t.val t.isLt acc
      = (blockOut (k0_pay3 (View.ld acc.2 (Rect.unit (s := S1032x512) ![1024, 0] S8x512.size inb_S1032x512_S8x512_1024_0)))
          (iblk m c 0 t) (iblk m c 1 t) (iblk m c 2 t) (iblk m c 3 t) (iblk m c 4 t) (iblk m c 5 t) (iblk m c 6 t) (iblk m c 7 t)
          (iblk m c 8 t) (iblk m c 9 t),
        zbuf (k0_pay3 (View.ld acc.2 (Rect.unit (s := S1032x512) ![1024, 0] S8x512.size inb_S1032x512_S8x512_1024_0))) (iblk m c 0 t) (iblk m c 1 t)
          (iblk m c 2 t)) := by
  rw [stAt0_B m c t acc h0 (by omega), out_B, kept_B]

/-- What a point leaves: its block, over eight rows `p` whose last two are the filter's inputs just before it. -/
def Left (t : Fin cfg0.N) (acc : Vec Ideal S1x1024x1024 .f32 × Vec Ideal S1032x512 .f32) : Prop :=
  ∃ p : Vec Ideal S8x512 .f32,
    acc = (blockOut p (iblk m c 0 t) (iblk m c 1 t) (iblk m c 2 t) (iblk m c 3 t) (iblk m c 4 t) (iblk m c 5 t) (iblk m c 6 t) (iblk m c 7 t)
        (iblk m c 8 t) (iblk m c 9 t), zbuf p (iblk m c 0 t) (iblk m c 1 t) (iblk m c 2 t))
    ∧ ∀ (b : Fin 8) (s : Fin 4), t.val = 4 * b.val + s.val → ∀ (k : ℕ) (hk0 : 0 < k) (hk : k ≤ 2) (n : Fin 512),
        p (ix2 ⟨8 - k, by omega⟩ n) = back (rX (a0 m c) b) (rG (a1 m c)) (rW (a2 m c)) k (rowOf s 0) n

theorem zeros_at (i : Fin 8) (n : Fin 512) : (k0_pay2 : FVec Ideal S8x512 .f32) (ix2 i n) = (0 : EReal) := by
  pointwise [k0_pay2]

theorem kept_at (z : Vec Ideal S1032x512 .f32) (i : Fin 8) (n : Fin 512) :
    k0_pay3 (F := Ideal) (View.ld z (Rect.unit (s := S1032x512) ![1024, 0] S8x512.size inb_S1032x512_S8x512_1024_0)) (ix2 i n)
      = z (ix2 (⟨1024 + i.val, by omega⟩ : Fin 1032) n) := by
  have e : View.ld z (Rect.unit (s := S1032x512) ![1024, 0] S8x512.size inb_S1032x512_S8x512_1024_0) (ix2 i n) = z (ix2 (⟨1024 + i.val, by omega⟩ : Fin 1032) n) := by
    refine congrArg z (funext fun a => Fin.ext ?_)
    match a with
    | ⟨0, _⟩ => show 1024 + 1 * i.val = 1024 + i.val; omega
    | ⟨1, _⟩ => show 0 + 1 * n.val = n.val; omega
  rw [← e]
  generalize View.ld z _ = y
  pointwise [k0_pay3]

theorem left_first (t : Fin cfg0.N) (acc) (h0 : t.val % 4 = 0) : Left m c t (stAt0 m c t.val t.isLt acc) := by
  refine ⟨_, step_first m c t acc h0, fun b s ht k hk0 hk n => ?_⟩
  rw [zeros_at]
  exact (if_neg (show ¬k ≤ (rowOf s 0).val by show ¬k ≤ 1024 * s.val + 0; omega)).symm

theorem left_next (t u : Fin cfg0.N) (hu : u.val + 1 = t.val) (acc) (h0 : ¬t.val % 4 = 0) (hl : Left m c u acc) : Left m c t (stAt0 m c t.val t.isLt acc) := by
  obtain ⟨p, rfl, hp⟩ := hl
  refine ⟨_, step_next m c t _ h0, fun b s ht k hk0 hk n => ?_⟩
  have hs : 0 < s.val := by omega
  have hv : u.val = 4 * b.val + (⟨s.val - 1, by omega⟩ : Fin 4).val := by show u.val = 4 * b.val + (s.val - 1); omega
  rw [kept_at]
  refine (zbuf_at (rX (a0 m c) b) (rG (a1 m c)) (rW (a2 m c)) ⟨s.val - 1, by omega⟩ p (iblk m c 0 u) (iblk m c 1 u) (iblk m c 2 u)
    (rows_at m c u b _ hv) (gain_at m c u) (win_at m c u) (hp b _ hv) (⟨1024 - k, by omega⟩ : Fin 1024) 0 (by decide) _
    (by show 1024 + (8 - k) + 0 = 8 + (1024 - k); omega) n).trans ?_
  unfold back
  rw [if_pos (Nat.zero_le _), if_pos (show k ≤ (rowOf s 0).val by show k ≤ 1024 * s.val + 0; omega)]
  exact congrArg (fun t => zin (rX (a0 m c) b t) (rG (a1 m c)) (rW (a2 m c)) n) (Fin.ext (by
    show 1024 * (s.val - 1) + (1024 - k) - 0 = 1024 * s.val + 0 - k; omega))

/-- Every point leaves such a block. -/
theorem at_point : ∀ (n : ℕ) (hn : n < cfg0.N) (h : 0 + n < cfg0.N),
    Left m c ⟨n, hn⟩ (Pipeline.accAt (fun n h => stAt0 m c n h junk0) (stAt0 m c) 0 n h)
  | 0, hn, _ => left_first m c ⟨0, hn⟩ junk0 rfl
  | k + 1, hn, h => by
    have ih := at_point k (by omega) (by omega)
    rw [Pipeline.accAt_succ]
    generalize Pipeline.accAt (fun n h => stAt0 m c n h junk0) (stAt0 m c) 0 k _ = acc at ih ⊢
    have hs : ∀ (a : ℕ) (ha : a < cfg0.N), a = k + 1 → stAt0 m c a ha acc = stAt0 m c (k + 1) hn acc := by
      intro a ha rfl; rfl
    rw [hs _ _ (Nat.zero_add _)]
    by_cases h0 : (k + 1) % 4 = 0
    · exact left_first m c ⟨k + 1, hn⟩ acc h0
    · exact left_next m c ⟨k + 1, hn⟩ ⟨k, by omega⟩ rfl acc h0 ih

/-- The kernel's array at batch `b`, row `R`, column `n`. -/
theorem kernel_at (b : Fin 8) (R : Fin 4096) (n : Fin 1024) :
    G10 m c (ix3 b R n) = outRow (rX (a0 m c) b) (rG (a1 m c)) (rW (a2 m c)) (rC (a3 m c)) (rN (a4 m c)) (rM (a5 m c)) (rB (a6 m c)) (rN (a7 m c))
      (rN (a8 m c)) (rO (a9 m c)) R n := by
  have hN : 4 * b.val + R.val / 1024 < cfg0.N := lt_of_lt_of_eq (by omega : _ < 32) N_0.symm
  have hp : pt10Of (ix3 b R n) = 4 * b.val + R.val / 1024 := by
    show 4 * (b.val / 1 - 0) + 1 * (R.val / 1024 - 0) + 1 * (n.val / 1024 - 0) = _
    have := n.isLt; omega
  unfold G10
  rw [dif_pos (hp ▸ hN), fold0_congr m c _ _ (4 * b.val + R.val / 1024) (by omega) hp]
  obtain ⟨p, e, hl⟩ := at_point m c (4 * b.val + R.val / 1024) hN (by omega)
  rw [e]
  have hR : rowOf (⟨R.val / 1024, by omega⟩ : Fin 4) ⟨R.val % 1024, Nat.mod_lt _ (by decide)⟩ = R :=
    Fin.ext (by show 1024 * (R.val / 1024) + R.val % 1024 = R.val; omega)
  have hi : loc10Of (ix3 b R n) = ix3 (0 : Fin 1) (⟨R.val % 1024, Nat.mod_lt _ (by decide)⟩ : Fin 1024) n := by
    funext a; apply Fin.ext
    match a with
    | ⟨0, _⟩ => show b.val % 1 = 0; omega
    | ⟨1, _⟩ => rfl
    | ⟨2, _⟩ => show n.val % 1024 = n.val; omega
  rw [hi]
  refine (block_at (rX (a0 m c) b) (rG (a1 m c)) (rW (a2 m c)) (rC (a3 m c)) (rN (a4 m c)) (rM (a5 m c)) (rB (a6 m c)) (rN (a7 m c)) (rN (a8 m c))
    (rO (a9 m c)) ⟨R.val / 1024, by omega⟩ p _ _ _ _ _ _ _ _ _ _ (rows_at m c _ b _ rfl) (gain_at m c _) (win_at m c _) (taps_at m c _) (gv_at m c _)
    (mats_at m c _) (bias_at m c _) (ga_at m c _) (gb_at m c _) (wout_at m c _) (hl b _ rfl) _ n).trans ?_
  rw [hR]

/-- So it is the reference's. -/
theorem kernel_eq_ref :
    Cert.Reference3Ideal.Read.val_main_v125 (F := Ideal) (a0 m c) (a1 m c) (a2 m c) (a3 m c) (a4 m c) (a5 m c) (a6 m c) (a7 m c) (a8 m c) (a9 m c) = G10 m c := by
  funext i
  obtain ⟨b, R, n, rfl⟩ : ∃ (b : Fin 8) (R : Fin 4096) (n : Fin 1024), i = ix3 b R n :=
    ⟨i 0, i 1, i 2, funext fun x => by match x with | ⟨0, _⟩ => rfl | ⟨1, _⟩ => rfl | ⟨2, _⟩ => rfl⟩
  rw [kernel_at, ref_at]

end Cert.Proof.Mix
-- ==== Proof.Kv.lean ====
/-
  THE KEYS AND VALUES OF THE MEMORY. Grid point `t` of the eight takes batch `t`: it leaves the batch's keys, transposed, and its values, and these
  are the reference's.
-/
module

public import proofs.«01_k».proof.Proof.AttnSoft
public import proofs.«01_k».proof.Proof.Gen.Kernel4Ideal.Value
public import proofs.«01_k».proof.Proof.Gen.Reference4Ideal.Read
public import Idealize.ShloMosaic.Lib.Pointwise
public import Idealize.ShloMosaic.PureOps.Ideal.Laws
public import Idealize.ShloMosaic.Lib.StableHlo.RunRead
public import Idealize.ShloMosaic.Lib.Tactic
public import Idealize.ShloMosaic.Lib.Claim
public import Idealize.ShloMosaic.Lib.KernelVsHost

@[expose] public section

set_option maxRecDepth 16384

noncomputable section

open Idealize.ShloMosaic Idealize.ShloMosaic.TcCoe Idealize.SL.Sem
open scoped BigOperators

namespace Cert.Proof.Kv

open Cert.Proof.Attn (c1024 cEps normed)

/-- A normed row through one column of weights. -/
def through (x g : Fin 1024 → EReal) (w : Fin 1024 → Fin 1024 → EReal) (n : Fin 1024) : EReal := ∑ k, normed x g k * w k n

section Ref

open Cert.Reference4Ideal Cert.Reference4Ideal.Read

variable (x0 : Vec Ideal S8x256x1024 .f32) (x1 : Vec Ideal S1024 .f32) (w : Vec Ideal S1024x1024 .f32)

theorem ref_keys (b : Fin 8) (r : Fin 256) (n : Fin 1024) :
    val_main_v15 (F := Ideal) x0 x1 w (ix3 b n r) = through (fun k => x0 (ix3 b r k)) (fun k => x1 (ix1 k)) (fun k n => w (ix2 k n)) n := by
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

theorem ref_vals (b : Fin 8) (r : Fin 256) (n : Fin 1024) :
    val_main_v17 (F := Ideal) x0 x1 w (ix3 b r n) = through (fun k => x0 (ix3 b r k)) (fun k => x1 (ix1 k)) (fun k n => w (ix2 k n)) n := by
  pointwise [val_main_v17, val_main_v16, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

end Ref

open Cert.Kernel4Ideal Cert.Kernel4Ideal.Gen Cert.Kernel4Ideal.Value

section Tile

theorem zero2 : (![0, 0] : Fin 2 → Nat) = fun _ => 0 := funext fun a => by fin_cases a <;> rfl
theorem zero3 : (![0, 0, 0] : Fin 3 → Nat) = fun _ => 0 := funext fun a => by fin_cases a <;> rfl

variable (x0 : Vec Ideal S1x256x1024 .f32) (x1 : Vec Ideal S1x1024 .f32) (x2 x3 : Vec Ideal S1024x1024 .bf16)

theorem keys_tile (z : Fin 1) (r : Fin 256) (n : Fin 1024) :
    out0_4 x0 x1 x2 x3 (ix3 z n r) = through (fun k => x0 (ix3 0 r k)) (fun k => x1 (ix2 0 k)) (fun k n => x2 (ix2 k n)) n := by
  have e : out0_4 x0 x1 x2 x3 = k0_pay2 x0 x1 x2 := by
    unfold out0_4
    refine (View.canon_unit_zero zero3 _ _).trans ?_
    rw [show View.ld x0 r0_0 = x0 from View.ld_unit_zero (S := S1x256x1024) zero3 _ _, show View.ld x1 r0_1 = x1 from View.ld_unit_zero (S := S1x1024) zero2 _ _,
      show View.ld x2 r0_2 = x2 from View.ld_unit_zero (S := S1024x1024) zero2 _ _]
  rw [e]
  pointwise [k0_pay2, k0_pay1]
  rfl

theorem vals_tile (z : Fin 1) (r : Fin 256) (n : Fin 1024) :
    out0_5 x0 x1 x2 x3 (ix3 z r n) = through (fun k => x0 (ix3 0 r k)) (fun k => x1 (ix2 0 k)) (fun k n => x3 (ix2 k n)) n := by
  have e : out0_5 x0 x1 x2 x3 = k0_pay3 x0 x1 x3 := by
    unfold out0_5
    refine (View.canon_unit_zero zero3 _ _).trans ?_
    rw [show View.ld x0 r0_0 = x0 from View.ld_unit_zero (S := S1x256x1024) zero3 _ _, show View.ld x1 r0_1 = x1 from View.ld_unit_zero (S := S1x1024) zero2 _ _,
      show View.ld x3 r0_2 = x3 from View.ld_unit_zero (S := S1024x1024) zero2 _ _]
  rw [e]
  pointwise [k0_pay3, k0_pay1]
  rfl

end Tile

variable (m : (ℓ : Loc nD τ sig) → Buf (Elt Ideal) ℓ) (c : Dev nD)

/-- The launch's arrays. -/
abbrev a0 : Vec Ideal S8x256x1024 .f32 := m ((c : Thread nD τ).loc main_arg0)
abbrev a1 : Vec Ideal S1024 .f32 := m ((c : Thread nD τ).loc main_arg1)
abbrev a2 : Vec Ideal S1024x1024 .f32 := m ((c : Thread nD τ).loc main_arg2)
abbrev a3 : Vec Ideal S1024x1024 .f32 := m ((c : Thread nD τ).loc main_arg3)

/-- The point of batch `b`. -/
def point (b : Fin 8) : Fin cfg0.N := ⟨b.val, lt_of_lt_of_eq b.isLt N_0.symm⟩

theorem at0 : ∀ t : Fin cfg0.N, win0_0.index t (0 : Fin 3) = t.val ∧ win0_0.index t (1 : Fin 3) = 0 ∧ win0_0.index t (2 : Fin 3) = 0 :=
  (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 3) = t.val ∧ win0_4.index t (1 : Fin 3) = 0 ∧ win0_4.index t (2 : Fin 3) = 0 :=
  (by decide +kernel : ∀ t : Fin grid0.N, _)
theorem at5 : ∀ t : Fin cfg0.N, win0_5.index t (0 : Fin 3) = t.val ∧ win0_5.index t (1 : Fin 3) = 0 ∧ win0_5.index t (2 : Fin 3) = 0 :=
  (by decide +kernel : ∀ t : Fin grid0.N, _)
theorem writes : ∀ b : Fin 8, win0_4.flush (point b) = true ∧ win0_5.flush (point b) = true :=
  (by decide +kernel : ∀ b : Fin 8, win0_4.flush (⟨b.val, lt_of_lt_of_eq b.isLt N_0.symm⟩ : Fin grid0.N) = true ∧ win0_5.flush (⟨b.val, lt_of_lt_of_eq b.isLt N_0.symm⟩ : Fin grid0.N) = true)

theorem rows_at (t : Fin cfg0.N) (b : Fin 8) (hb : t.val = b.val) (r : Fin 256) (k : Fin 1024) :
    (iblk m c 0 t : Vec Ideal S1x256x1024 .f32) (ix3 0 r k) = a0 m c (ix3 b r k) := by
  obtain ⟨e0, e1, e2⟩ := at0 t
  show V m c main_arg0 (((cfg0.win 0).blk t).view.emb (ix3 0 r k)) = _
  rw [V_main_arg0]
  refine congrArg (a0 m c) (funext fun a => Fin.ext ?_)
  match a with
  | ⟨0, _⟩ => show win0_0.index t (0 : Fin 3) * 1 + 1 * 0 = b.val; omega
  | ⟨1, _⟩ => show win0_0.index t (1 : Fin 3) * 256 + 1 * r.val = r.val; omega
  | ⟨2, _⟩ => show win0_0.index t (2 : Fin 3) * 1024 + 1 * k.val = k.val; omega

theorem gain_at (t : Fin cfg0.N) (k : Fin 1024) : (iblk m c 1 t : Vec Ideal S1x1024 .f32) (ix2 0 k) = a1 m c (ix1 k) := by
  obtain ⟨e0, e1⟩ := at1 t
  have e : ((cfg0.win 1).blk t).view.emb (ix2 0 k) = (ix2 0 k : S1x1024.Idx) := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  show V m c main_v0 (((cfg0.win 1).blk t).view.emb (ix2 0 k)) = _
  rw [e]
  unfold_abbrev_sides
  after_reads_simp
  pointwise

theorem wk_at (t : Fin cfg0.N) (k n : Fin 1024) : (iblk m c 2 t : Vec Ideal S1024x1024 .bf16) (ix2 k n) = a2 m c (ix2 k n) := by
  obtain ⟨e0, e1⟩ := at2 t
  have e : ((cfg0.win 2).blk t).view.emb (ix2 k n) = (ix2 k n : S1024x1024.Idx) := by
    funext a; apply Fin.ext
    match a with
    | ⟨0, _⟩ => show win0_2.index t (0 : Fin 2) * 1024 + 1 * k.val = k.val; omega
    | ⟨1, _⟩ => show win0_2.index t (1 : Fin 2) * 1024 + 1 * n.val = n.val; omega
  show V m c main_v1 (((cfg0.win 2).blk t).view.emb (ix2 k n)) = _
  rw [e]
  unfold_abbrev_sides
  after_reads_simp
  rfl

theorem wv_at (t : Fin cfg0.N) (k n : Fin 1024) : (iblk m c 3 t : Vec Ideal S1024x1024 .bf16) (ix2 k n) = a3 m c (ix2 k n) := by
  obtain ⟨e0, e1⟩ := at3 t
  have e : ((cfg0.win 3).blk t).view.emb (ix2 k n) = (ix2 k n : S1024x1024.Idx) := by
    funext a; apply Fin.ext
    match a with
    | ⟨0, _⟩ => show win0_3.index t (0 : Fin 2) * 1024 + 1 * k.val = k.val; omega
    | ⟨1, _⟩ => show win0_3.index t (1 : Fin 2) * 1024 + 1 * n.val = n.val; omega
  show V m c main_v2 (((cfg0.win 3).blk t).view.emb (ix2 k n)) = _
  rw [e]
  unfold_abbrev_sides
  after_reads_simp
  rfl

/-- The keys' array at the end is the reference's … -/
theorem keys_eq : (dats m 0 c).arrAt 4 cfg0.N = Cert.Reference4Ideal.Read.val_main_v15 (F := Ideal) (a0 m c) (a1 m c) (a2 m c) := by
  refine (dats m 0 c).arrAt_eq_of_cover 4 _ (fun t _ => ?_) fun i => ?_
  · rw [flushed4]
    funext y
    obtain ⟨e0, e1, e2⟩ := at4 t
    have ht : t.val < 8 := lt_of_lt_of_eq t.isLt N_0
    have h0 : (y 0).val < 1 := (y 0).isLt
    have h1 : (y 1).val < 1024 := (y 1).isLt
    have h2 : (y 2).val < 256 := (y 2).isLt
    have ey : (cfg0.win 4).xinj (grid0.coords t) y = (ix3 (0 : Fin 1) (⟨(y 1).val, h1⟩ : Fin 1024) (⟨(y 2).val, h2⟩ : Fin 256) : S1x1024x256.Idx) := by
      funext a; apply Fin.ext
      match a with
      | ⟨0, _⟩ => show (y 0).val = 0; omega
      | ⟨1, _⟩ => rfl
      | ⟨2, _⟩ => rfl
    have eb : ((cfg0.win 4).blk t).view.emb y = (ix3 (⟨t.val, ht⟩ : Fin 8) (⟨(y 1).val, h1⟩ : Fin 1024) (⟨(y 2).val, h2⟩ : Fin 256) : S8x1024x256.Idx) := by
      funext a; apply Fin.ext
      match a with
      | ⟨0, _⟩ => show win0_4.index t (0 : Fin 3) * 1 + 1 * (y 0).val = t.val; omega
      | ⟨1, _⟩ => show win0_4.index t (1 : Fin 3) * 1024 + 1 * (y 1).val = (y 1).val; omega
      | ⟨2, _⟩ => show win0_4.index t (2 : Fin 3) * 256 + 1 * (y 2).val = (y 2).val; omega
    show out0_4 _ _ _ _ ((cfg0.win 4).xinj (grid0.coords t) y)
      = Cert.Reference4Ideal.Read.val_main_v15 (F := Ideal) (a0 m c) (a1 m c) (a2 m c) (((cfg0.win 4).blk t).view.emb y)
    rw [ey, eb, keys_tile, ref_keys, funext fun k => rows_at m c t ⟨t.val, ht⟩ rfl _ k, funext fun k => gain_at m c t k,
      funext fun k => funext fun n => wk_at m c t k n]
  · have i0 : (i 0).val < 8 := (i 0).isLt
    have i1 : (i 1).val < 1024 := (i 1).isLt
    have i2 : (i 2).val < 256 := (i 2).isLt
    refine ⟨point ⟨(i 0).val, i0⟩, (writes ⟨(i 0).val, i0⟩).1, ?_⟩
    obtain ⟨e0, e1, e2⟩ := at4 (point ⟨(i 0).val, i0⟩)
    have e0' : win0_4.index (point ⟨(i 0).val, i0⟩) (0 : Fin 3) = (i 0).val := e0
    show i ∈ ((View.whole main_v3_0).slice (win0_4.rect (point ⟨(i 0).val, i0⟩))).set
    rw [View.set_slice_whole, Rect.mem_set_unit]
    intro a
    match a with
    | ⟨0, _⟩ => show win0_4.index (point ⟨(i 0).val, i0⟩) (0 : Fin 3) * 1 ≤ (i 0).val ∧ (i 0).val < win0_4.index (point ⟨(i 0).val, i0⟩) (0 : Fin 3) * 1 + 1; omega
    | ⟨1, _⟩ => show win0_4.index (point ⟨(i 0).val, i0⟩) (1 : Fin 3) * 1024 ≤ (i 1).val ∧ (i 1).val < win0_4.index (point ⟨(i 0).val, i0⟩) (1 : Fin 3) * 1024 + 1024; omega
    | ⟨2, _⟩ => show win0_4.index (point ⟨(i 0).val, i0⟩) (2 : Fin 3) * 256 ≤ (i 2).val ∧ (i 2).val < win0_4.index (point ⟨(i 0).val, i0⟩) (2 : Fin 3) * 256 + 256; omega

/-- … and so is the values'. -/
theorem vals_eq : (dats m 0 c).arrAt 5 cfg0.N = Cert.Reference4Ideal.Read.val_main_v17 (F := Ideal) (a0 m c) (a1 m c) (a3 m c) := by
  refine (dats m 0 c).arrAt_eq_of_cover 5 _ (fun t _ => ?_) fun i => ?_
  · rw [flushed5]
    funext y
    obtain ⟨e0, e1, e2⟩ := at5 t
    have ht : t.val < 8 := lt_of_lt_of_eq t.isLt N_0
    have h0 : (y 0).val < 1 := (y 0).isLt
    have h1 : (y 1).val < 256 := (y 1).isLt
    have h2 : (y 2).val < 1024 := (y 2).isLt
    have ey : (cfg0.win 5).xinj (grid0.coords t) y = (ix3 (0 : Fin 1) (⟨(y 1).val, h1⟩ : Fin 256) (⟨(y 2).val, h2⟩ : Fin 1024) : S1x256x1024.Idx) := by
      funext a; apply Fin.ext
      match a with
      | ⟨0, _⟩ => show (y 0).val = 0; omega
      | ⟨1, _⟩ => rfl
      | ⟨2, _⟩ => rfl
    have eb : ((cfg0.win 5).blk t).view.emb y = (ix3 (⟨t.val, ht⟩ : Fin 8) (⟨(y 1).val, h1⟩ : Fin 256) (⟨(y 2).val, h2⟩ : Fin 1024) : S8x256x1024.Idx) := by
      funext a; apply Fin.ext
      match a with
      | ⟨0, _⟩ => show win0_5.index t (0 : Fin 3) * 1 + 1 * (y 0).val = t.val; omega
      | ⟨1, _⟩ => show win0_5.index t (1 : Fin 3) * 256 + 1 * (y 1).val = (y 1).val; omega
      | ⟨2, _⟩ => show win0_5.index t (2 : Fin 3) * 1024 + 1 * (y 2).val = (y 2).val; omega
    show out0_5 _ _ _ _ ((cfg0.win 5).xinj (grid0.coords t) y)
      = Cert.Reference4Ideal.Read.val_main_v17 (F := Ideal) (a0 m c) (a1 m c) (a3 m c) (((cfg0.win 5).blk t).view.emb y)
    rw [ey, eb, vals_tile, ref_vals, funext fun k => rows_at m c t ⟨t.val, ht⟩ rfl _ k, funext fun k => gain_at m c t k,
      funext fun k => funext fun n => wv_at m c t k n]
  · have i0 : (i 0).val < 8 := (i 0).isLt
    have i1 : (i 1).val < 256 := (i 1).isLt
    have i2 : (i 2).val < 1024 := (i 2).isLt
    refine ⟨point ⟨(i 0).val, i0⟩, (writes ⟨(i 0).val, i0⟩).2, ?_⟩
    obtain ⟨e0, e1, e2⟩ := at5 (point ⟨(i 0).val, i0⟩)
    have e0' : win0_5.index (point ⟨(i 0).val, i0⟩) (0 : Fin 3) = (i 0).val := e0
    show i ∈ ((View.whole main_v3_1).slice (win0_5.rect (point ⟨(i 0).val, i0⟩))).set
    rw [View.set_slice_whole, Rect.mem_set_unit]
    intro a
    match a with
    | ⟨0, _⟩ => show win0_5.index (point ⟨(i 0).val, i0⟩) (0 : Fin 3) * 1 ≤ (i 0).val ∧ (i 0).val < win0_5.index (point ⟨(i 0).val, i0⟩) (0 : Fin 3) * 1 + 1; omega
    | ⟨1, _⟩ => show win0_5.index (point ⟨(i 0).val, i0⟩) (1 : Fin 3) * 256 ≤ (i 1).val ∧ (i 1).val < win0_5.index (point ⟨(i 0).val, i0⟩) (1 : Fin 3) * 256 + 256; omega
    | ⟨2, _⟩ => show win0_5.index (point ⟨(i 0).val, i0⟩) (2 : Fin 3) * 1024 ≤ (i 2).val ∧ (i 2).val < win0_5.index (point ⟨(i 0).val, i0⟩) (2 : Fin 3) * 1024 + 1024; omega

end Cert.Proof.Kv
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Reference.Run
public import proofs.«01_k».proof.Proof.Gen.ReferenceIdeal.Run
public import proofs.«01_k».proof.Proof.Gen.Pre_dest_in_rows
public import proofs.«01_k».proof.Proof.Ref
public import proofs.«01_k».proof.Proof.AttnMain
public import proofs.«01_k».proof.Proof.AttnPre
public import proofs.«01_k».proof.Proof.RtMain
public import proofs.«01_k».proof.Proof.MixMain
public import proofs.«01_k».proof.Proof.Kv
public import Idealize.ShloMosaic.Adequacy
public import Idealize.ShloMosaic.Init

@[expose] public section

noncomputable section

namespace Cert.Proof

open Idealize.ShloMosaic Idealize.SL.Sem Cert.Kernel

/-- The kernel's frame: the run, read at the arguments and at the counters. -/
theorem frame_kernel : Cert.quiescent_Kernel := fun m ρ h =>
  (θ_run Cert.KernelIdeal.defs _ _).mono (fun _ h => ⟨fun c => ⟨(h.1 c).1, (h.1 c).2.1⟩, h.2⟩)
    (Unsort.run_main (F := Bits) m ρ (Unsort.ok_of_pre m h))

/-- The same run at the extended reals. -/
theorem frame_ideal : Cert.quiescent_KernelIdeal := fun m ρ h =>
  (θ_run Cert.KernelIdeal.defs _ _).mono (fun _ h => ⟨fun c => ⟨(h.1 c).1, (h.1 c).2.1⟩, h.2⟩)
    (Unsort.run_main (F := Ideal) m ρ (Unsort.ok_of_pre m h))

/-- The reference's frame; it has no semaphore. -/
theorem frame_refIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Over the extended reals the kernel and the reference end with the same array `Unsort.G`. -/
theorem algebraic : Cert.algebraic_KernelIdeal_ReferenceIdeal := by
  intro m ρ m' ρ' h hagree
  have hok := Unsort.ok_of_pre (F := Ideal) m h
  refine ⟨fun c => Unsort.G c m, (θ_run Cert.KernelIdeal.defs _ _).mono (fun _ h c => ⟨(h.1 c).2.2, (h.1 c).1, (h.1 c).2.1⟩)
    (Unsort.run_main (F := Ideal) m ρ hok), ?_⟩
  refine (θ_run Cert.ReferenceIdeal.defs _ _).mono (fun _ h c => ⟨(h c).1.trans ?_, (h c).2⟩) (Cert.ReferenceIdeal.Value.run (F := Ideal) m' ρ')
  rw [(hagree c).1, (hagree c).2]
  exact Unsort.ref_val (F := Ideal) _ _ (hok c)

/-- On machine words too: the kernel only moves words. -/
theorem bitexact : Cert.bitexact_Kernel_Reference := by
  intro m ρ m' ρ' h hagree
  have hok := Unsort.ok_of_pre (F := Bits) m h
  refine ⟨fun c => Unsort.G (F := Bits) c m, (θ_run Cert.KernelIdeal.defs _ _).mono (fun _ h c => ⟨(h.1 c).2.2, (h.1 c).1, (h.1 c).2.1⟩)
    (Unsort.run_main (F := Bits) m ρ hok), ?_⟩
  refine (θ_run Cert.Reference.defs _ _).mono (fun _ h c => ⟨(h c).1.trans ?_, (h c).2⟩) (Cert.Reference.Value.run (F := Bits) m' ρ')
  rw [(hagree c).1, (hagree c).2]
  exact Unsort.ref_val (F := Bits) _ _ (hok c)

/-- The frames of the attention with the routing. -/
theorem frame_attn : Cert.quiescent_Kernel2 := fun m ρ _ => Cert.Kernel2.Gen.frame m ρ

theorem frame_attnIdeal : Cert.quiescent_Kernel2Ideal := fun m ρ _ => Cert.Kernel2Ideal.Gen.frame m ρ

theorem frame_attnRef : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- Over the extended reals the three arrays are the reference's: the residual sum, the words with the ranks, the counts. -/
theorem attn_algebraic : Cert.algebraic_Kernel2Ideal_Reference2Ideal := by
  intro m ρ m' ρ' hpre hagree
  refine ⟨fun c => Cert.Kernel2Ideal.Value.G9 m c, fun c => Cert.Kernel2Ideal.Value.G10 m c, fun c => Cert.Kernel2Ideal.Value.G11 m c,
    Cert.Kernel2Ideal.Value.run (F := Ideal) m ρ, ?_⟩
  have same : ∀ c, _ := fun c =>
    let ⟨h0, h1, h3, h4⟩ := Attn.pre_real _ _ _ _ _ _ _ _ _ _ _ (hpre c)
    Attn.kernel_eq_ref m c h0 h1 h3 h4
  refine (θ_run Cert.Reference2Ideal.defs _ _).mono (fun _ h c => ⟨(h c).1.trans ?_, (h c).2.1.trans ?_, (h c).2.2.1.trans ?_, (h c).2.2.2⟩)
    (Cert.Reference2Ideal.Value.run (F := Ideal) m' ρ')
  · obtain ⟨e0, e1, e2, e3, e4, e5, -⟩ := hagree c
    exact (Cert.Reference2Ideal.Read.val_main_v38_eq _).trans (Route.stream_eq (same c) e0 e1 e2 e3 e4 e5)
  · obtain ⟨e0, e1, e2, e3, e4, e5, e6, e7, e8, e9, e10⟩ := hagree c
    exact (Cert.Reference2Ideal.Read.val_main_v115_eq _).trans (Route.words_eq (same c) e0 e1 e2 e3 e4 e5 e6 e7 e8 e9 e10)
  · obtain ⟨e0, e1, e2, e3, e4, e5, e6, e7, e8, e9, e10⟩ := hagree c
    exact (Cert.Reference2Ideal.Read.val_main_v126_eq _).trans (Route.counts_eq (same c) e0 e1 e2 e3 e4 e5 e6 e7 e8 e9 e10)

/-- The one literal read as a number: the kernel's mask stands for −∞. -/
theorem mask : Cert.preserves_Kernel2_Kernel2Ideal :=
  IdealRules.named_const.statement Cert.Kernel2Ideal.κ "mask" .f32 0xF149F2CA#32 ⊥ rfl

/-- The mixer's frames. -/
theorem frame_mix : Cert.quiescent_Kernel3 := fun m ρ _ => Cert.Kernel3.Gen.frame m ρ

theorem frame_mixIdeal : Cert.quiescent_Kernel3Ideal := fun m ρ _ => Cert.Kernel3Ideal.Gen.frame m ρ

theorem frame_mixRef : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Over the extended reals the mixer's array and its reference's are one. -/
theorem mix_algebraic : Cert.algebraic_Kernel3Ideal_Reference3Ideal := by
  intro m ρ m' ρ' _ hagree
  refine ⟨fun c => Cert.Kernel3Ideal.Value.G10 m c, Cert.Kernel3Ideal.Value.run (F := Ideal) m ρ, ?_⟩
  refine (θ_run Cert.Reference3Ideal.defs _ _).mono (fun _ h c => ⟨(h c).1.trans ?_, (h c).2⟩) (Cert.Reference3Ideal.Value.run (F := Ideal) m' ρ')
  obtain ⟨e0, e1, e2, e3, e4, e5, e6, e7, e8, e9⟩ := hagree c
  rw [Cert.Reference3Ideal.Read.val_main_v125_eq, e0, e1, e2, e3, e4, e5, e6, e7, e8, e9]
  exact Mix.kernel_eq_ref m c

/-- The keys' and values' frames. -/
theorem frame_kv : Cert.quiescent_Kernel4 := fun m ρ _ => Cert.Kernel4.Gen.frame m ρ

theorem frame_kvIdeal : Cert.quiescent_Kernel4Ideal := fun m ρ _ => Cert.Kernel4Ideal.Gen.frame m ρ

theorem frame_kvRef : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Over the extended reals both arrays are the reference's. -/
theorem kv_algebraic : Cert.algebraic_Kernel4Ideal_Reference4Ideal := by
  intro m ρ m' ρ' _ hagree
  refine ⟨fun c => (Cert.Kernel4Ideal.Gen.dats m 0 c).arrAt 4 Cert.Kernel4Ideal.cfg0.N, fun c => (Cert.Kernel4Ideal.Gen.dats m 0 c).arrAt 5 Cert.Kernel4Ideal.cfg0.N,
    Cert.Kernel4Ideal.Value.run_blocks (F := Ideal) m ρ, ?_⟩
  refine (θ_run Cert.Reference4Ideal.defs _ _).mono (fun _ h c => ⟨(h c).1.trans ?_, (h c).2.1.trans ?_, (h c).2.2⟩)
    (Cert.Reference4Ideal.Value.run (F := Ideal) m' ρ')
  · obtain ⟨e0, e1, e2, e3⟩ := hagree c
    rw [e0, e1, e2]
    exact (Kv.keys_eq m c).symm
  · obtain ⟨e0, e1, e2, e3⟩ := hagree c
    rw [e0, e1, e3]
    exact (Kv.vals_eq m c).symm

theorem claim : Cert.Claim :=
  ⟨Cert.Kernel.Gen.facts, Cert.KernelIdeal.Gen.facts, Cert.ReferenceIdeal.Gen.facts, Cert.Reference.Gen.facts, Cert.Kernel2.Gen.facts,
    Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_dest_in_rows.Gen.facts, Attn.pre_facts,
    frame_kernel, frame_ideal, frame_refIdeal, frame_ref, frame_attn, frame_attnIdeal, frame_attnRef, frame_mix, frame_mixIdeal, frame_mixRef,
    frame_kv, frame_kvIdeal, frame_kvRef, trivial, algebraic, bitexact, mask, attn_algebraic, trivial, mix_algebraic, trivial, kv_algebraic⟩

end Cert.Proof

end
